-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 8192]⟩ ⟨2, ![4096, 16384]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S4096x4096 : Shape := ⟨2, ![4096, 4096]⟩
abbrev S6x1024x512 : Shape := ⟨3, ![6, 1024, 512]⟩
abbrev S2x1024x1024 : Shape := ⟨3, ![2, 1024, 1024]⟩
abbrev S2x512x1024 : Shape := ⟨3, ![2, 512, 1024]⟩
abbrev S2 : Shape := ⟨1, ![2]⟩
abbrev S16 : Shape := ⟨1, ![16]⟩
abbrev S6 : Shape := ⟨1, ![6]⟩
abbrev S_ : Shape := ⟨0, ![]⟩
abbrev S1 : Shape := ⟨1, ![1]⟩
abbrev S1x1024x512 : Shape := ⟨3, ![1, 1024, 512]⟩
abbrev S1024x512 : Shape := ⟨2, ![1024, 512]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x4096, .f32⟩
  | .local _ .vmem, ⟨0, _⟩ => ⟨S6x1024x512, .f32⟩
  | .local _ .vmem, ⟨1, _⟩ => ⟨S2x1024x1024, .f32⟩
  | .local _ .vmem, ⟨2, _⟩ => ⟨S2x512x1024, .f32⟩
  | .local _ .vmem, ⟨3, _⟩ => ⟨S6x1024x512, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => true
  | ⟨1, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 2 74 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 1

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c2_i32_7 : BitVec 32 := 2#32
  let v12 : BitVec 32 := Scalar.muli v9 c2_i32_7
  let v13 : BitVec 32 := Scalar.addi c0_i32 v12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8 : BitVec 32 := 1#32
  let v14 : BitVec 32 := Scalar.muli v5 c1_i32_8
  let v15 : BitVec 32 := Scalar.addi v13 v14
  v15.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v16 : BitVec 32 := Scalar.muli v2 c2_i32_10
  let v17 : BitVec 32 := Scalar.addi c0_i32_11 v16
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.subi c1_i32_5 v5
  let c1_i32_12 : BitVec 32 := 1#32
  let v18 : BitVec 32 := Scalar.muli v10 c1_i32_12
  let v19 : BitVec 32 := Scalar.addi v17 v18
  v19.toNat
@[reducible] def k0_t1_loop : Scf.Loop 32 :=
  let c0_i32_14 : BitVec 32 := 0#32
  let c18_i32 : BitVec 32 := 18#32
  let v20 : BitVec 32 := Scalar.addi c0_i32_14 c18_i32
  let c1_i32_15 : BitVec 32 := 1#32
  ⟨c0_i32_14, v20, c1_i32_15⟩
def k0_cond1 (k0_t1 : Fin k0_t1_loop.trips) : BitVec 1 :=
  let c0_i32_14 : BitVec 32 := 0#32
  let c1_i32_15 : BitVec 32 := 1#32
  let arg15 : BitVec 32 := Scf.iv c0_i32_14 c1_i32_15 k0_t1
  let c16_i32 : BitVec 32 := 16#32
  let v295 : BitVec 1 := Scalar.cmpi .slt arg15 c16_i32
  let v296 : BitVec 32 := Scalar.extui v295
  let c0_i32_248 : BitVec 32 := 0#32
  let v297 : BitVec 1 := Scalar.cmpi .ne v296 c0_i32_248
  v297

def k0_cond2 (k0_t1 : Fin k0_t1_loop.trips) : BitVec 1 :=
  let c0_i32_14 : BitVec 32 := 0#32
  let c1_i32_15 : BitVec 32 := 1#32
  let arg15 : BitVec 32 := Scf.iv c0_i32_14 c1_i32_15 k0_t1
  let c6_i32_251 : BitVec 32 := 6#32
  let v301 : BitVec 1 := Scalar.cmpi .sge arg15 c6_i32_251
  let v302 : BitVec 32 := Scalar.extui v301
  let c0_i32_252 : BitVec 32 := 0#32
  let v303 : BitVec 1 := Scalar.cmpi .ne v302 c0_i32_252
  v303

def k0_off1 (k0_t1 : Fin k0_t1_loop.trips) : Fin 1 → Nat :=
  let c0_i32_14 : BitVec 32 := 0#32
  let c1_i32_15 : BitVec 32 := 1#32
  let arg15 : BitVec 32 := Scf.iv c0_i32_14 c1_i32_15 k0_t1
  let c6_i32_348 : BitVec 32 := 6#32
  let v449 : BitVec 32 := Scalar.subi arg15 c6_i32_348
  ![v449.toNat]
def k0_off2 (k0_t1 : Fin k0_t1_loop.trips) : Fin 3 → Nat :=
  let c0_i32_14 : BitVec 32 := 0#32
  let c1_i32_15 : BitVec 32 := 1#32
  let arg15 : BitVec 32 := Scf.iv c0_i32_14 c1_i32_15 k0_t1
  let c6_i32_242 : BitVec 32 := 6#32
  let c0_i32_243 : BitVec 32 := 0#32
  let v285 : BitVec 1 := Scalar.cmpi .eq c6_i32_242 c0_i32_243
  let c1_i32_244 : BitVec 32 := 1#32
  let v286 : BitVec 32 := Scalar.select v285 c1_i32_244 c6_i32_242
  let v287 : BitVec 32 := Scalar.remsi arg15 v286
  let c0_i32_246 : BitVec 32 := 0#32
  let v289 : BitVec 1 := Scalar.cmpi .slt v287 c0_i32_246
  let c0_i32_247 : BitVec 32 := 0#32
  let v290 : BitVec 1 := Scalar.cmpi .slt v286 c0_i32_247
  let v291 : BitVec 1 := Scalar.xori v289 v290
  let c0_i32_245 : BitVec 32 := 0#32
  let v288 : BitVec 1 := Scalar.cmpi .ne v287 c0_i32_245
  let v292 : BitVec 1 := Scalar.andi v291 v288
  let v293 : BitVec 32 := Scalar.addi v287 v286
  let v294 : BitVec 32 := Scalar.select v292 v293 v287
  let c0_i32_365 : BitVec 32 := 0#32
  let c0_i32_366 : BitVec 32 := 0#32
  ![v294.toNat, 0, 0]
def k0_off3 (d0 : Dev nD) (k0_t1 : Fin k0_t1_loop.trips) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let c0_i32_14 : BitVec 32 := 0#32
  let c1_i32_15 : BitVec 32 := 1#32
  let arg15 : BitVec 32 := Scf.iv c0_i32_14 c1_i32_15 k0_t1
  let c6_i32_348 : BitVec 32 := 6#32
  let v449 : BitVec 32 := Scalar.subi arg15 c6_i32_348
  let c0_i32_350 : BitVec 32 := 0#32
  let v451 : BitVec 1 := Scalar.cmpi .sgt v449 c0_i32_350
  let v452 : BitVec 32 := Scalar.extui v451
  let c0_i32_351 : BitVec 32 := 0#32
  let v453 : BitVec 1 := Scalar.cmpi .slt v449 c0_i32_351
  let v454 : BitVec 32 := Scalar.extui v453
  let v455 : BitVec 32 := Scalar.subi v452 v454
  let c8_i32_349 : BitVec 32 := 8#32
  let c0_i32_352 : BitVec 32 := 0#32
  let v456 : BitVec 1 := Scalar.cmpi .sgt c8_i32_349 c0_i32_352
  let v457 : BitVec 32 := Scalar.extui v456
  let c0_i32_353 : BitVec 32 := 0#32
  let v458 : BitVec 1 := Scalar.cmpi .slt c8_i32_349 c0_i32_353
  let v459 : BitVec 32 := Scalar.extui v458
  let v460 : BitVec 32 := Scalar.subi v457 v459
  let v461 : BitVec 1 := Scalar.cmpi .ne v455 v460
  let v462 : BitVec 32 := Scalar.remsi v449 c8_i32_349
  let c0_i32_354 : BitVec 32 := 0#32
  let v463 : BitVec 1 := Scalar.cmpi .ne v462 c0_i32_354
  let v464 : BitVec 1 := Scalar.andi v461 v463
  let v450 : BitVec 32 := Scalar.divsi v449 c8_i32_349
  let c1_i32_355 : BitVec 32 := 1#32
  let v465 : BitVec 32 := Scalar.subi v450 c1_i32_355
  let v466 : BitVec 32 := Scalar.select v464 v465 v450
  let c1024_i32_356 : BitVec 32 := 1024#32
  let v467 : BitVec 32 := Scalar.muli v466 c1024_i32_356
  let v468 : BitVec 32 := Scalar.addi v6 v467
  let c8_i32_357 : BitVec 32 := 8#32
  let c0_i32_358 : BitVec 32 := 0#32
  let v469 : BitVec 1 := Scalar.cmpi .eq c8_i32_357 c0_i32_358
  let c1_i32_359 : BitVec 32 := 1#32
  let v470 : BitVec 32 := Scalar.select v469 c1_i32_359 c8_i32_357
  let v471 : BitVec 32 := Scalar.remsi v449 v470
  let c0_i32_361 : BitVec 32 := 0#32
  let v473 : BitVec 1 := Scalar.cmpi .slt v471 c0_i32_361
  let c0_i32_362 : BitVec 32 := 0#32
  let v474 : BitVec 1 := Scalar.cmpi .slt v470 c0_i32_362
  let v475 : BitVec 1 := Scalar.xori v473 v474
  let c0_i32_360 : BitVec 32 := 0#32
  let v472 : BitVec 1 := Scalar.cmpi .ne v471 c0_i32_360
  let v476 : BitVec 1 := Scalar.andi v475 v472
  let v477 : BitVec 32 := Scalar.addi v471 v470
  let v478 : BitVec 32 := Scalar.select v476 v477 v471
  let c512_i32_363 : BitVec 32 := 512#32
  let v479 : BitVec 32 := Scalar.muli v478 c512_i32_363
  ![v468.toNat, v479.toNat]
def k0_off4 (k0_t1 : Fin k0_t1_loop.trips) : Fin 1 → Nat :=
  let c0_i32_14 : BitVec 32 := 0#32
  let c1_i32_15 : BitVec 32 := 1#32
  let arg15 : BitVec 32 := Scf.iv c0_i32_14 c1_i32_15 k0_t1
  let c6_i32_242 : BitVec 32 := 6#32
  let c0_i32_243 : BitVec 32 := 0#32
  let v285 : BitVec 1 := Scalar.cmpi .eq c6_i32_242 c0_i32_243
  let c1_i32_244 : BitVec 32 := 1#32
  let v286 : BitVec 32 := Scalar.select v285 c1_i32_244 c6_i32_242
  let v287 : BitVec 32 := Scalar.remsi arg15 v286
  let c0_i32_246 : BitVec 32 := 0#32
  let v289 : BitVec 1 := Scalar.cmpi .slt v287 c0_i32_246
  let c0_i32_247 : BitVec 32 := 0#32
  let v290 : BitVec 1 := Scalar.cmpi .slt v286 c0_i32_247
  let v291 : BitVec 1 := Scalar.xori v289 v290
  let c0_i32_245 : BitVec 32 := 0#32
  let v288 : BitVec 1 := Scalar.cmpi .ne v287 c0_i32_245
  let v292 : BitVec 1 := Scalar.andi v291 v288
  let v293 : BitVec 32 := Scalar.addi v287 v286
  let v294 : BitVec 32 := Scalar.select v292 v293 v287
  ![v294.toNat]
def k0_off5 (d0 : Dev nD) (k0_t1 : Fin k0_t1_loop.trips) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let c0_i32_14 : BitVec 32 := 0#32
  let c1_i32_15 : BitVec 32 := 1#32
  let arg15 : BitVec 32 := Scf.iv c0_i32_14 c1_i32_15 k0_t1
  let c0_i32_254 : BitVec 32 := 0#32
  let v305 : BitVec 1 := Scalar.cmpi .sgt arg15 c0_i32_254
  let v306 : BitVec 32 := Scalar.extui v305
  let c0_i32_255 : BitVec 32 := 0#32
  let v307 : BitVec 1 := Scalar.cmpi .slt arg15 c0_i32_255
  let v308 : BitVec 32 := Scalar.extui v307
  let v309 : BitVec 32 := Scalar.subi v306 v308
  let c8_i32_253 : BitVec 32 := 8#32
  let c0_i32_256 : BitVec 32 := 0#32
  let v310 : BitVec 1 := Scalar.cmpi .sgt c8_i32_253 c0_i32_256
  let v311 : BitVec 32 := Scalar.extui v310
  let c0_i32_257 : BitVec 32 := 0#32
  let v312 : BitVec 1 := Scalar.cmpi .slt c8_i32_253 c0_i32_257
  let v313 : BitVec 32 := Scalar.extui v312
  let v314 : BitVec 32 := Scalar.subi v311 v313
  let v315 : BitVec 1 := Scalar.cmpi .ne v309 v314
  let v316 : BitVec 32 := Scalar.remsi arg15 c8_i32_253
  let c0_i32_258 : BitVec 32 := 0#32
  let v317 : BitVec 1 := Scalar.cmpi .ne v316 c0_i32_258
  let v318 : BitVec 1 := Scalar.andi v315 v317
  let v304 : BitVec 32 := Scalar.divsi arg15 c8_i32_253
  let c1_i32_259 : BitVec 32 := 1#32
  let v319 : BitVec 32 := Scalar.subi v304 c1_i32_259
  let v320 : BitVec 32 := Scalar.select v318 v319 v304
  let c1024_i32_260 : BitVec 32 := 1024#32
  let v321 : BitVec 32 := Scalar.muli v320 c1024_i32_260
  let v322 : BitVec 32 := Scalar.addi v6 v321
  let c0_i32_272 : BitVec 32 := 0#32
  ![v322.toNat, 0]
def k0_off6 (k0_t1 : Fin k0_t1_loop.trips) : Fin 2 → Nat :=
  let c0_i32_14 : BitVec 32 := 0#32
  let c1_i32_15 : BitVec 32 := 1#32
  let arg15 : BitVec 32 := Scf.iv c0_i32_14 c1_i32_15 k0_t1
  let c8_i32_261 : BitVec 32 := 8#32
  let c0_i32_262 : BitVec 32 := 0#32
  let v323 : BitVec 1 := Scalar.cmpi .eq c8_i32_261 c0_i32_262
  let c1_i32_263 : BitVec 32 := 1#32
  let v324 : BitVec 32 := Scalar.select v323 c1_i32_263 c8_i32_261
  let v325 : BitVec 32 := Scalar.remsi arg15 v324
  let c0_i32_265 : BitVec 32 := 0#32
  let v327 : BitVec 1 := Scalar.cmpi .slt v325 c0_i32_265
  let c0_i32_266 : BitVec 32 := 0#32
  let v328 : BitVec 1 := Scalar.cmpi .slt v324 c0_i32_266
  let v329 : BitVec 1 := Scalar.xori v327 v328
  let c0_i32_264 : BitVec 32 := 0#32
  let v326 : BitVec 1 := Scalar.cmpi .ne v325 c0_i32_264
  let v330 : BitVec 1 := Scalar.andi v329 v326
  let v331 : BitVec 32 := Scalar.addi v325 v324
  let v332 : BitVec 32 := Scalar.select v330 v331 v325
  let c512_i32_267 : BitVec 32 := 512#32
  let v333 : BitVec 32 := Scalar.muli v332 c512_i32_267
  let c0_i32_277 : BitVec 32 := 0#32
  ![v333.toNat, 0]
def k0_off7 (d0 : Dev nD) (k0_t1 : Fin k0_t1_loop.trips) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let c0_i32_14 : BitVec 32 := 0#32
  let c1_i32_15 : BitVec 32 := 1#32
  let arg15 : BitVec 32 := Scf.iv c0_i32_14 c1_i32_15 k0_t1
  let c0_i32_279 : BitVec 32 := 0#32
  let v345 : BitVec 1 := Scalar.cmpi .sgt arg15 c0_i32_279
  let v346 : BitVec 32 := Scalar.extui v345
  let c0_i32_280 : BitVec 32 := 0#32
  let v347 : BitVec 1 := Scalar.cmpi .slt arg15 c0_i32_280
  let v348 : BitVec 32 := Scalar.extui v347
  let v349 : BitVec 32 := Scalar.subi v346 v348
  let c8_i32_278 : BitVec 32 := 8#32
  let c0_i32_281 : BitVec 32 := 0#32
  let v350 : BitVec 1 := Scalar.cmpi .sgt c8_i32_278 c0_i32_281
  let v351 : BitVec 32 := Scalar.extui v350
  let c0_i32_282 : BitVec 32 := 0#32
  let v352 : BitVec 1 := Scalar.cmpi .slt c8_i32_278 c0_i32_282
  let v353 : BitVec 32 := Scalar.extui v352
  let v354 : BitVec 32 := Scalar.subi v351 v353
  let v355 : BitVec 1 := Scalar.cmpi .ne v349 v354
  let v356 : BitVec 32 := Scalar.remsi arg15 c8_i32_278
  let c0_i32_283 : BitVec 32 := 0#32
  let v357 : BitVec 1 := Scalar.cmpi .ne v356 c0_i32_283
  let v358 : BitVec 1 := Scalar.andi v355 v357
  let v344 : BitVec 32 := Scalar.divsi arg15 c8_i32_278
  let c1_i32_284 : BitVec 32 := 1#32
  let v359 : BitVec 32 := Scalar.subi v344 c1_i32_284
  let v360 : BitVec 32 := Scalar.select v358 v359 v344
  let c1024_i32_285 : BitVec 32 := 1024#32
  let v361 : BitVec 32 := Scalar.muli v360 c1024_i32_285
  let v362 : BitVec 32 := Scalar.addi v6 v361
  let c1024_i32_297 : BitVec 32 := 1024#32
  ![v362.toNat, 1024]
def k0_off8 (k0_t1 : Fin k0_t1_loop.trips) : Fin 2 → Nat :=
  let c0_i32_14 : BitVec 32 := 0#32
  let c1_i32_15 : BitVec 32 := 1#32
  let arg15 : BitVec 32 := Scf.iv c0_i32_14 c1_i32_15 k0_t1
  let c8_i32_286 : BitVec 32 := 8#32
  let c0_i32_287 : BitVec 32 := 0#32
  let v363 : BitVec 1 := Scalar.cmpi .eq c8_i32_286 c0_i32_287
  let c1_i32_288 : BitVec 32 := 1#32
  let v364 : BitVec 32 := Scalar.select v363 c1_i32_288 c8_i32_286
  let v365 : BitVec 32 := Scalar.remsi arg15 v364
  let c0_i32_290 : BitVec 32 := 0#32
  let v367 : BitVec 1 := Scalar.cmpi .slt v365 c0_i32_290
  let c0_i32_291 : BitVec 32 := 0#32
  let v368 : BitVec 1 := Scalar.cmpi .slt v364 c0_i32_291
  let v369 : BitVec 1 := Scalar.xori v367 v368
  let c0_i32_289 : BitVec 32 := 0#32
  let v366 : BitVec 1 := Scalar.cmpi .ne v365 c0_i32_289
  let v370 : BitVec 1 := Scalar.andi v369 v366
  let v371 : BitVec 32 := Scalar.addi v365 v364
  let v372 : BitVec 32 := Scalar.select v370 v371 v365
  let c512_i32_292 : BitVec 32 := 512#32
  let v373 : BitVec 32 := Scalar.muli v372 c512_i32_292
  let c1024_i32_302 : BitVec 32 := 1024#32
  ![v373.toNat, 1024]
def k0_off9 (k0_t1 : Fin k0_t1_loop.trips) : Fin 3 → Nat :=
  let c0_i32_14 : BitVec 32 := 0#32
  let c1_i32_15 : BitVec 32 := 1#32
  let arg15 : BitVec 32 := Scf.iv c0_i32_14 c1_i32_15 k0_t1
  let c6_i32_242 : BitVec 32 := 6#32
  let c0_i32_243 : BitVec 32 := 0#32
  let v285 : BitVec 1 := Scalar.cmpi .eq c6_i32_242 c0_i32_243
  let c1_i32_244 : BitVec 32 := 1#32
  let v286 : BitVec 32 := Scalar.select v285 c1_i32_244 c6_i32_242
  let v287 : BitVec 32 := Scalar.remsi arg15 v286
  let c0_i32_246 : BitVec 32 := 0#32
  let v289 : BitVec 1 := Scalar.cmpi .slt v287 c0_i32_246
  let c0_i32_247 : BitVec 32 := 0#32
  let v290 : BitVec 1 := Scalar.cmpi .slt v286 c0_i32_247
  let v291 : BitVec 1 := Scalar.xori v289 v290
  let c0_i32_245 : BitVec 32 := 0#32
  let v288 : BitVec 1 := Scalar.cmpi .ne v287 c0_i32_245
  let v292 : BitVec 1 := Scalar.andi v291 v288
  let v293 : BitVec 32 := Scalar.addi v287 v286
  let v294 : BitVec 32 := Scalar.select v292 v293 v287
  let v429 : Index := Scalar.indexCast v294
  let c0_333 : Index := 0#32
  let c0_334 : Index := 0#32
  ![v429.toNat, 0, 0]
@[reducible] def k0_t2_loop : Scf.Loop 32 :=
  let c1_i32_335 : BitVec 32 := 1#32
  let c7_i32_336 : BitVec 32 := 7#32
  let v433 : BitVec 32 := Scalar.addi c1_i32_335 c7_i32_336
  let c1_i32_337 : BitVec 32 := 1#32
  ⟨c1_i32_335, v433, c1_i32_337⟩
def k0_cond3 (k0_t2 : Fin k0_t2_loop.trips) : BitVec 1 :=
  let c1_i32_335 : BitVec 32 := 1#32
  let c1_i32_337 : BitVec 32 := 1#32
  let arg16 : BitVec 32 := Scf.iv c1_i32_335 c1_i32_337 k0_t2
  let c1_i32_354 : BitVec 32 := 1#32
  let v459 : BitVec 32 := Scalar.addi arg16 c1_i32_354
  let c8_i32_355 : BitVec 32 := 8#32
  let v460 : BitVec 1 := Scalar.cmpi .slt v459 c8_i32_355
  let v461 : BitVec 32 := Scalar.extui v460
  let c0_i32_356 : BitVec 32 := 0#32
  let v462 : BitVec 1 := Scalar.cmpi .ne v461 c0_i32_356
  v462

def k0_off10 (k0_t2 : Fin k0_t2_loop.trips) : Fin 1 → Nat :=
  let c1_i32_335 : BitVec 32 := 1#32
  let c1_i32_337 : BitVec 32 := 1#32
  let arg16 : BitVec 32 := Scf.iv c1_i32_335 c1_i32_337 k0_t2
  let c1_i32_388 : BitVec 32 := 1#32
  let v521 : BitVec 32 := Scalar.addi arg16 c1_i32_388
  let c2_i32_389 : BitVec 32 := 2#32
  let c0_i32_390 : BitVec 32 := 0#32
  let v522 : BitVec 1 := Scalar.cmpi .eq c2_i32_389 c0_i32_390
  let c1_i32_391 : BitVec 32 := 1#32
  let v523 : BitVec 32 := Scalar.select v522 c1_i32_391 c2_i32_389
  let v524 : BitVec 32 := Scalar.remsi v521 v523
  let c0_i32_393 : BitVec 32 := 0#32
  let v526 : BitVec 1 := Scalar.cmpi .slt v524 c0_i32_393
  let c0_i32_394 : BitVec 32 := 0#32
  let v527 : BitVec 1 := Scalar.cmpi .slt v523 c0_i32_394
  let v528 : BitVec 1 := Scalar.xori v526 v527
  let c0_i32_392 : BitVec 32 := 0#32
  let v525 : BitVec 1 := Scalar.cmpi .ne v524 c0_i32_392
  let v529 : BitVec 1 := Scalar.andi v528 v525
  let v530 : BitVec 32 := Scalar.addi v524 v523
  let v531 : BitVec 32 := Scalar.select v529 v530 v524
  ![v531.toNat]
def k0_off11 (k0_t2 : Fin k0_t2_loop.trips) : Fin 3 → Nat :=
  let c1_i32_335 : BitVec 32 := 1#32
  let c1_i32_337 : BitVec 32 := 1#32
  let arg16 : BitVec 32 := Scf.iv c1_i32_335 c1_i32_337 k0_t2
  let c1_i32_388 : BitVec 32 := 1#32
  let v521 : BitVec 32 := Scalar.addi arg16 c1_i32_388
  let c2_i32_389 : BitVec 32 := 2#32
  let c0_i32_390 : BitVec 32 := 0#32
  let v522 : BitVec 1 := Scalar.cmpi .eq c2_i32_389 c0_i32_390
  let c1_i32_391 : BitVec 32 := 1#32
  let v523 : BitVec 32 := Scalar.select v522 c1_i32_391 c2_i32_389
  let v524 : BitVec 32 := Scalar.remsi v521 v523
  let c0_i32_393 : BitVec 32 := 0#32
  let v526 : BitVec 1 := Scalar.cmpi .slt v524 c0_i32_393
  let c0_i32_394 : BitVec 32 := 0#32
  let v527 : BitVec 1 := Scalar.cmpi .slt v523 c0_i32_394
  let v528 : BitVec 1 := Scalar.xori v526 v527
  let c0_i32_392 : BitVec 32 := 0#32
  let v525 : BitVec 1 := Scalar.cmpi .ne v524 c0_i32_392
  let v529 : BitVec 1 := Scalar.andi v528 v525
  let v530 : BitVec 32 := Scalar.addi v524 v523
  let v531 : BitVec 32 := Scalar.select v529 v530 v524
  let c0_i32_412 : BitVec 32 := 0#32
  let c0_i32_413 : BitVec 32 := 0#32
  ![v531.toNat, 0, 0]
def k0_off12 (d0 : Dev nD) (k0_t1 : Fin k0_t1_loop.trips) (k0_t2 : Fin k0_t2_loop.trips) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let c0_i32_14 : BitVec 32 := 0#32
  let c1_i32_15 : BitVec 32 := 1#32
  let arg15 : BitVec 32 := Scf.iv c0_i32_14 c1_i32_15 k0_t1
  let c0_i32_396 : BitVec 32 := 0#32
  let v533 : BitVec 1 := Scalar.cmpi .sgt arg15 c0_i32_396
  let v534 : BitVec 32 := Scalar.extui v533
  let c0_i32_397 : BitVec 32 := 0#32
  let v535 : BitVec 1 := Scalar.cmpi .slt arg15 c0_i32_397
  let v536 : BitVec 32 := Scalar.extui v535
  let v537 : BitVec 32 := Scalar.subi v534 v536
  let c8_i32_395 : BitVec 32 := 8#32
  let c0_i32_398 : BitVec 32 := 0#32
  let v538 : BitVec 1 := Scalar.cmpi .sgt c8_i32_395 c0_i32_398
  let v539 : BitVec 32 := Scalar.extui v538
  let c0_i32_399 : BitVec 32 := 0#32
  let v540 : BitVec 1 := Scalar.cmpi .slt c8_i32_395 c0_i32_399
  let v541 : BitVec 32 := Scalar.extui v540
  let v542 : BitVec 32 := Scalar.subi v539 v541
  let v543 : BitVec 1 := Scalar.cmpi .ne v537 v542
  let v544 : BitVec 32 := Scalar.remsi arg15 c8_i32_395
  let c0_i32_400 : BitVec 32 := 0#32
  let v545 : BitVec 1 := Scalar.cmpi .ne v544 c0_i32_400
  let v546 : BitVec 1 := Scalar.andi v543 v545
  let v532 : BitVec 32 := Scalar.divsi arg15 c8_i32_395
  let c1_i32_401 : BitVec 32 := 1#32
  let v547 : BitVec 32 := Scalar.subi v532 c1_i32_401
  let v548 : BitVec 32 := Scalar.select v546 v547 v532
  let c1024_i32_402 : BitVec 32 := 1024#32
  let v549 : BitVec 32 := Scalar.muli v548 c1024_i32_402
  let v550 : BitVec 32 := Scalar.addi v6 v549
  let c1_i32_335 : BitVec 32 := 1#32
  let c1_i32_337 : BitVec 32 := 1#32
  let arg16 : BitVec 32 := Scf.iv c1_i32_335 c1_i32_337 k0_t2
  let c1_i32_387 : BitVec 32 := 1#32
  let v520 : BitVec 32 := Scalar.addi arg16 c1_i32_387
  let c1024_i32_410 : BitVec 32 := 1024#32
  let v562 : BitVec 32 := Scalar.muli v520 c1024_i32_410
  ![v550.toNat, v562.toNat]
def k0_off13 (k0_t2 : Fin k0_t2_loop.trips) : Fin 3 → Nat :=
  let c1_i32_335 : BitVec 32 := 1#32
  let c1_i32_337 : BitVec 32 := 1#32
  let arg16 : BitVec 32 := Scf.iv c1_i32_335 c1_i32_337 k0_t2
  let c1_i32_388 : BitVec 32 := 1#32
  let v521 : BitVec 32 := Scalar.addi arg16 c1_i32_388
  let c2_i32_389 : BitVec 32 := 2#32
  let c0_i32_390 : BitVec 32 := 0#32
  let v522 : BitVec 1 := Scalar.cmpi .eq c2_i32_389 c0_i32_390
  let c1_i32_391 : BitVec 32 := 1#32
  let v523 : BitVec 32 := Scalar.select v522 c1_i32_391 c2_i32_389
  let v524 : BitVec 32 := Scalar.remsi v521 v523
  let c0_i32_393 : BitVec 32 := 0#32
  let v526 : BitVec 1 := Scalar.cmpi .slt v524 c0_i32_393
  let c0_i32_394 : BitVec 32 := 0#32
  let v527 : BitVec 1 := Scalar.cmpi .slt v523 c0_i32_394
  let v528 : BitVec 1 := Scalar.xori v526 v527
  let c0_i32_392 : BitVec 32 := 0#32
  let v525 : BitVec 1 := Scalar.cmpi .ne v524 c0_i32_392
  let v529 : BitVec 1 := Scalar.andi v528 v525
  let v530 : BitVec 32 := Scalar.addi v524 v523
  let v531 : BitVec 32 := Scalar.select v529 v530 v524
  let c0_i32_414 : BitVec 32 := 0#32
  let c0_i32_415 : BitVec 32 := 0#32
  ![v531.toNat, 0, 0]
def k0_off14 (k0_t1 : Fin k0_t1_loop.trips) (k0_t2 : Fin k0_t2_loop.trips) : Fin 2 → Nat :=
  let c0_i32_14 : BitVec 32 := 0#32
  let c1_i32_15 : BitVec 32 := 1#32
  let arg15 : BitVec 32 := Scf.iv c0_i32_14 c1_i32_15 k0_t1
  let c8_i32_403 : BitVec 32 := 8#32
  let c0_i32_404 : BitVec 32 := 0#32
  let v551 : BitVec 1 := Scalar.cmpi .eq c8_i32_403 c0_i32_404
  let c1_i32_405 : BitVec 32 := 1#32
  let v552 : BitVec 32 := Scalar.select v551 c1_i32_405 c8_i32_403
  let v553 : BitVec 32 := Scalar.remsi arg15 v552
  let c0_i32_407 : BitVec 32 := 0#32
  let v555 : BitVec 1 := Scalar.cmpi .slt v553 c0_i32_407
  let c0_i32_408 : BitVec 32 := 0#32
  let v556 : BitVec 1 := Scalar.cmpi .slt v552 c0_i32_408
  let v557 : BitVec 1 := Scalar.xori v555 v556
  let c0_i32_406 : BitVec 32 := 0#32
  let v554 : BitVec 1 := Scalar.cmpi .ne v553 c0_i32_406
  let v558 : BitVec 1 := Scalar.andi v557 v554
  let v559 : BitVec 32 := Scalar.addi v553 v552
  let v560 : BitVec 32 := Scalar.select v558 v559 v553
  let c512_i32_409 : BitVec 32 := 512#32
  let v561 : BitVec 32 := Scalar.muli v560 c512_i32_409
  let c1_i32_335 : BitVec 32 := 1#32
  let c1_i32_337 : BitVec 32 := 1#32
  let arg16 : BitVec 32 := Scf.iv c1_i32_335 c1_i32_337 k0_t2
  let c1_i32_387 : BitVec 32 := 1#32
  let v520 : BitVec 32 := Scalar.addi arg16 c1_i32_387
  let c1024_i32_411 : BitVec 32 := 1024#32
  let v563 : BitVec 32 := Scalar.muli v520 c1024_i32_411
  ![v561.toNat, v563.toNat]
def k0_off15 (k0_t2 : Fin k0_t2_loop.trips) : Fin 1 → Nat :=
  let c1_i32_335 : BitVec 32 := 1#32
  let c1_i32_337 : BitVec 32 := 1#32
  let arg16 : BitVec 32 := Scf.iv c1_i32_335 c1_i32_337 k0_t2
  let c2_i32_348 : BitVec 32 := 2#32
  let c0_i32_349 : BitVec 32 := 0#32
  let v449 : BitVec 1 := Scalar.cmpi .eq c2_i32_348 c0_i32_349
  let c1_i32_350 : BitVec 32 := 1#32
  let v450 : BitVec 32 := Scalar.select v449 c1_i32_350 c2_i32_348
  let v451 : BitVec 32 := Scalar.remsi arg16 v450
  let c0_i32_352 : BitVec 32 := 0#32
  let v453 : BitVec 1 := Scalar.cmpi .slt v451 c0_i32_352
  let c0_i32_353 : BitVec 32 := 0#32
  let v454 : BitVec 1 := Scalar.cmpi .slt v450 c0_i32_353
  let v455 : BitVec 1 := Scalar.xori v453 v454
  let c0_i32_351 : BitVec 32 := 0#32
  let v452 : BitVec 1 := Scalar.cmpi .ne v451 c0_i32_351
  let v456 : BitVec 1 := Scalar.andi v455 v452
  let v457 : BitVec 32 := Scalar.addi v451 v450
  let v458 : BitVec 32 := Scalar.select v456 v457 v451
  ![v458.toNat]
def k0_off16 (k0_t2 : Fin k0_t2_loop.trips) : Fin 3 → Nat :=
  let c1_i32_335 : BitVec 32 := 1#32
  let c1_i32_337 : BitVec 32 := 1#32
  let arg16 : BitVec 32 := Scf.iv c1_i32_335 c1_i32_337 k0_t2
  let c2_i32_348 : BitVec 32 := 2#32
  let c0_i32_349 : BitVec 32 := 0#32
  let v449 : BitVec 1 := Scalar.cmpi .eq c2_i32_348 c0_i32_349
  let c1_i32_350 : BitVec 32 := 1#32
  let v450 : BitVec 32 := Scalar.select v449 c1_i32_350 c2_i32_348
  let v451 : BitVec 32 := Scalar.remsi arg16 v450
  let c0_i32_352 : BitVec 32 := 0#32
  let v453 : BitVec 1 := Scalar.cmpi .slt v451 c0_i32_352
  let c0_i32_353 : BitVec 32 := 0#32
  let v454 : BitVec 1 := Scalar.cmpi .slt v450 c0_i32_353
  let v455 : BitVec 1 := Scalar.xori v453 v454
  let c0_i32_351 : BitVec 32 := 0#32
  let v452 : BitVec 1 := Scalar.cmpi .ne v451 c0_i32_351
  let v456 : BitVec 1 := Scalar.andi v455 v452
  let v457 : BitVec 32 := Scalar.addi v451 v450
  let v458 : BitVec 32 := Scalar.select v456 v457 v451
  let c0_i32_374 : BitVec 32 := 0#32
  let c0_i32_375 : BitVec 32 := 0#32
  ![v458.toNat, 0, 0]
def k0_off17 (d0 : Dev nD) (k0_t1 : Fin k0_t1_loop.trips) (k0_t2 : Fin k0_t2_loop.trips) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let c0_i32_14 : BitVec 32 := 0#32
  let c1_i32_15 : BitVec 32 := 1#32
  let arg15 : BitVec 32 := Scf.iv c0_i32_14 c1_i32_15 k0_t1
  let c0_i32_358 : BitVec 32 := 0#32
  let v464 : BitVec 1 := Scalar.cmpi .sgt arg15 c0_i32_358
  let v465 : BitVec 32 := Scalar.extui v464
  let c0_i32_359 : BitVec 32 := 0#32
  let v466 : BitVec 1 := Scalar.cmpi .slt arg15 c0_i32_359
  let v467 : BitVec 32 := Scalar.extui v466
  let v468 : BitVec 32 := Scalar.subi v465 v467
  let c8_i32_357 : BitVec 32 := 8#32
  let c0_i32_360 : BitVec 32 := 0#32
  let v469 : BitVec 1 := Scalar.cmpi .sgt c8_i32_357 c0_i32_360
  let v470 : BitVec 32 := Scalar.extui v469
  let c0_i32_361 : BitVec 32 := 0#32
  let v471 : BitVec 1 := Scalar.cmpi .slt c8_i32_357 c0_i32_361
  let v472 : BitVec 32 := Scalar.extui v471
  let v473 : BitVec 32 := Scalar.subi v470 v472
  let v474 : BitVec 1 := Scalar.cmpi .ne v468 v473
  let v475 : BitVec 32 := Scalar.remsi arg15 c8_i32_357
  let c0_i32_362 : BitVec 32 := 0#32
  let v476 : BitVec 1 := Scalar.cmpi .ne v475 c0_i32_362
  let v477 : BitVec 1 := Scalar.andi v474 v476
  let v463 : BitVec 32 := Scalar.divsi arg15 c8_i32_357
  let c1_i32_363 : BitVec 32 := 1#32
  let v478 : BitVec 32 := Scalar.subi v463 c1_i32_363
  let v479 : BitVec 32 := Scalar.select v477 v478 v463
  let c1024_i32_364 : BitVec 32 := 1024#32
  let v480 : BitVec 32 := Scalar.muli v479 c1024_i32_364
  let v481 : BitVec 32 := Scalar.addi v6 v480
  let c1_i32_335 : BitVec 32 := 1#32
  let c1_i32_337 : BitVec 32 := 1#32
  let arg16 : BitVec 32 := Scf.iv c1_i32_335 c1_i32_337 k0_t2
  let c1024_i32_372 : BitVec 32 := 1024#32
  let v493 : BitVec 32 := Scalar.muli arg16 c1024_i32_372
  ![v481.toNat, v493.toNat]
def k0_off18 (k0_t2 : Fin k0_t2_loop.trips) : Fin 3 → Nat :=
  let c1_i32_335 : BitVec 32 := 1#32
  let c1_i32_337 : BitVec 32 := 1#32
  let arg16 : BitVec 32 := Scf.iv c1_i32_335 c1_i32_337 k0_t2
  let c2_i32_348 : BitVec 32 := 2#32
  let c0_i32_349 : BitVec 32 := 0#32
  let v449 : BitVec 1 := Scalar.cmpi .eq c2_i32_348 c0_i32_349
  let c1_i32_350 : BitVec 32 := 1#32
  let v450 : BitVec 32 := Scalar.select v449 c1_i32_350 c2_i32_348
  let v451 : BitVec 32 := Scalar.remsi arg16 v450
  let c0_i32_352 : BitVec 32 := 0#32
  let v453 : BitVec 1 := Scalar.cmpi .slt v451 c0_i32_352
  let c0_i32_353 : BitVec 32 := 0#32
  let v454 : BitVec 1 := Scalar.cmpi .slt v450 c0_i32_353
  let v455 : BitVec 1 := Scalar.xori v453 v454
  let c0_i32_351 : BitVec 32 := 0#32
  let v452 : BitVec 1 := Scalar.cmpi .ne v451 c0_i32_351
  let v456 : BitVec 1 := Scalar.andi v455 v452
  let v457 : BitVec 32 := Scalar.addi v451 v450
  let v458 : BitVec 32 := Scalar.select v456 v457 v451
  let c0_i32_376 : BitVec 32 := 0#32
  let c0_i32_377 : BitVec 32 := 0#32
  ![v458.toNat, 0, 0]
def k0_off19 (k0_t1 : Fin k0_t1_loop.trips) (k0_t2 : Fin k0_t2_loop.trips) : Fin 2 → Nat :=
  let c0_i32_14 : BitVec 32 := 0#32
  let c1_i32_15 : BitVec 32 := 1#32
  let arg15 : BitVec 32 := Scf.iv c0_i32_14 c1_i32_15 k0_t1
  let c8_i32_365 : BitVec 32 := 8#32
  let c0_i32_366 : BitVec 32 := 0#32
  let v482 : BitVec 1 := Scalar.cmpi .eq c8_i32_365 c0_i32_366
  let c1_i32_367 : BitVec 32 := 1#32
  let v483 : BitVec 32 := Scalar.select v482 c1_i32_367 c8_i32_365
  let v484 : BitVec 32 := Scalar.remsi arg15 v483
  let c0_i32_369 : BitVec 32 := 0#32
  let v486 : BitVec 1 := Scalar.cmpi .slt v484 c0_i32_369
  let c0_i32_370 : BitVec 32 := 0#32
  let v487 : BitVec 1 := Scalar.cmpi .slt v483 c0_i32_370
  let v488 : BitVec 1 := Scalar.xori v486 v487
  let c0_i32_368 : BitVec 32 := 0#32
  let v485 : BitVec 1 := Scalar.cmpi .ne v484 c0_i32_368
  let v489 : BitVec 1 := Scalar.andi v488 v485
  let v490 : BitVec 32 := Scalar.addi v484 v483
  let v491 : BitVec 32 := Scalar.select v489 v490 v484
  let c512_i32_371 : BitVec 32 := 512#32
  let v492 : BitVec 32 := Scalar.muli v491 c512_i32_371
  let c1_i32_335 : BitVec 32 := 1#32
  let c1_i32_337 : BitVec 32 := 1#32
  let arg16 : BitVec 32 := Scf.iv c1_i32_335 c1_i32_337 k0_t2
  let c1024_i32_373 : BitVec 32 := 1024#32
  let v494 : BitVec 32 := Scalar.muli arg16 c1024_i32_373
  ![v492.toNat, v494.toNat]
def k0_off20 (k0_t1 : Fin k0_t1_loop.trips) : Fin 3 → Nat :=
  let c0_i32_14 : BitVec 32 := 0#32
  let c1_i32_15 : BitVec 32 := 1#32
  let arg15 : BitVec 32 := Scf.iv c0_i32_14 c1_i32_15 k0_t1
  let c6_i32_242 : BitVec 32 := 6#32
  let c0_i32_243 : BitVec 32 := 0#32
  let v285 : BitVec 1 := Scalar.cmpi .eq c6_i32_242 c0_i32_243
  let c1_i32_244 : BitVec 32 := 1#32
  let v286 : BitVec 32 := Scalar.select v285 c1_i32_244 c6_i32_242
  let v287 : BitVec 32 := Scalar.remsi arg15 v286
  let c0_i32_246 : BitVec 32 := 0#32
  let v289 : BitVec 1 := Scalar.cmpi .slt v287 c0_i32_246
  let c0_i32_247 : BitVec 32 := 0#32
  let v290 : BitVec 1 := Scalar.cmpi .slt v286 c0_i32_247
  let v291 : BitVec 1 := Scalar.xori v289 v290
  let c0_i32_245 : BitVec 32 := 0#32
  let v288 : BitVec 1 := Scalar.cmpi .ne v287 c0_i32_245
  let v292 : BitVec 1 := Scalar.andi v291 v288
  let v293 : BitVec 32 := Scalar.addi v287 v286
  let v294 : BitVec 32 := Scalar.select v292 v293 v287
  let v505 : Index := Scalar.indexCast v294
  let c0_378 : Index := 0#32
  let c0_379 : Index := 0#32
  ![v505.toNat, 0, 0]
def k0_off21 (k0_t2 : Fin k0_t2_loop.trips) : Fin 3 → Nat :=
  let c1_i32_335 : BitVec 32 := 1#32
  let c1_i32_337 : BitVec 32 := 1#32
  let arg16 : BitVec 32 := Scf.iv c1_i32_335 c1_i32_337 k0_t2
  let c2_i32_348 : BitVec 32 := 2#32
  let c0_i32_349 : BitVec 32 := 0#32
  let v449 : BitVec 1 := Scalar.cmpi .eq c2_i32_348 c0_i32_349
  let c1_i32_350 : BitVec 32 := 1#32
  let v450 : BitVec 32 := Scalar.select v449 c1_i32_350 c2_i32_348
  let v451 : BitVec 32 := Scalar.remsi arg16 v450
  let c0_i32_352 : BitVec 32 := 0#32
  let v453 : BitVec 1 := Scalar.cmpi .slt v451 c0_i32_352
  let c0_i32_353 : BitVec 32 := 0#32
  let v454 : BitVec 1 := Scalar.cmpi .slt v450 c0_i32_353
  let v455 : BitVec 1 := Scalar.xori v453 v454
  let c0_i32_351 : BitVec 32 := 0#32
  let v452 : BitVec 1 := Scalar.cmpi .ne v451 c0_i32_351
  let v456 : BitVec 1 := Scalar.andi v455 v452
  let v457 : BitVec 32 := Scalar.addi v451 v450
  let v458 : BitVec 32 := Scalar.select v456 v457 v451
  let v508 : Index := Scalar.indexCast v458
  let c0_380 : Index := 0#32
  let c0_381 : Index := 0#32
  ![v508.toNat, 0, 0]
def k0_off22 (k0_t2 : Fin k0_t2_loop.trips) : Fin 3 → Nat :=
  let c1_i32_335 : BitVec 32 := 1#32
  let c1_i32_337 : BitVec 32 := 1#32
  let arg16 : BitVec 32 := Scf.iv c1_i32_335 c1_i32_337 k0_t2
  let c2_i32_348 : BitVec 32 := 2#32
  let c0_i32_349 : BitVec 32 := 0#32
  let v449 : BitVec 1 := Scalar.cmpi .eq c2_i32_348 c0_i32_349
  let c1_i32_350 : BitVec 32 := 1#32
  let v450 : BitVec 32 := Scalar.select v449 c1_i32_350 c2_i32_348
  let v451 : BitVec 32 := Scalar.remsi arg16 v450
  let c0_i32_352 : BitVec 32 := 0#32
  let v453 : BitVec 1 := Scalar.cmpi .slt v451 c0_i32_352
  let c0_i32_353 : BitVec 32 := 0#32
  let v454 : BitVec 1 := Scalar.cmpi .slt v450 c0_i32_353
  let v455 : BitVec 1 := Scalar.xori v453 v454
  let c0_i32_351 : BitVec 32 := 0#32
  let v452 : BitVec 1 := Scalar.cmpi .ne v451 c0_i32_351
  let v456 : BitVec 1 := Scalar.andi v455 v452
  let v457 : BitVec 32 := Scalar.addi v451 v450
  let v458 : BitVec 32 := Scalar.select v456 v457 v451
  let v511 : Index := Scalar.indexCast v458
  let c0_382 : Index := 0#32
  let c0_383 : Index := 0#32
  ![v511.toNat, 0, 0]
def k0_off23 (k0_t1 : Fin k0_t1_loop.trips) : Fin 1 → Nat :=
  let c0_i32_14 : BitVec 32 := 0#32
  let c1_i32_15 : BitVec 32 := 1#32
  let arg15 : BitVec 32 := Scf.iv c0_i32_14 c1_i32_15 k0_t1
  ![arg15.toNat]
def k0_off24 (k0_t1 : Fin k0_t1_loop.trips) : Fin 3 → Nat :=
  let c0_i32_14 : BitVec 32 := 0#32
  let c1_i32_15 : BitVec 32 := 1#32
  let arg15 : BitVec 32 := Scf.iv c0_i32_14 c1_i32_15 k0_t1
  let c6_i32_242 : BitVec 32 := 6#32
  let c0_i32_243 : BitVec 32 := 0#32
  let v285 : BitVec 1 := Scalar.cmpi .eq c6_i32_242 c0_i32_243
  let c1_i32_244 : BitVec 32 := 1#32
  let v286 : BitVec 32 := Scalar.select v285 c1_i32_244 c6_i32_242
  let v287 : BitVec 32 := Scalar.remsi arg15 v286
  let c0_i32_246 : BitVec 32 := 0#32
  let v289 : BitVec 1 := Scalar.cmpi .slt v287 c0_i32_246
  let c0_i32_247 : BitVec 32 := 0#32
  let v290 : BitVec 1 := Scalar.cmpi .slt v286 c0_i32_247
  let v291 : BitVec 1 := Scalar.xori v289 v290
  let c0_i32_245 : BitVec 32 := 0#32
  let v288 : BitVec 1 := Scalar.cmpi .ne v287 c0_i32_245
  let v292 : BitVec 1 := Scalar.andi v291 v288
  let v293 : BitVec 32 := Scalar.addi v287 v286
  let v294 : BitVec 32 := Scalar.select v292 v293 v287
  let c0_i32_344 : BitVec 32 := 0#32
  let c0_i32_345 : BitVec 32 := 0#32
  ![v294.toNat, 0, 0]
def k0_dev3 (d0 : Dev nD) : Nat :=
  let c0_i32_342 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c2_i32_341 : BitVec 32 := 2#32
  let v437 : BitVec 32 := Scalar.muli v9 c2_i32_341
  let v438 : BitVec 32 := Scalar.addi c0_i32_342 v437
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_343 : BitVec 32 := 1#32
  let v439 : BitVec 32 := Scalar.muli v5 c1_i32_343
  let v440 : BitVec 32 := Scalar.addi v438 v439
  v440.toNat
def k0_cond5 (k0_t1 : Fin k0_t1_loop.trips) : BitVec 1 :=
  let c0_i32_14 : BitVec 32 := 0#32
  let c1_i32_15 : BitVec 32 := 1#32
  let arg15 : BitVec 32 := Scf.iv c0_i32_14 c1_i32_15 k0_t1
  let c2_i32_249 : BitVec 32 := 2#32
  let v298 : BitVec 1 := Scalar.cmpi .sge arg15 c2_i32_249
  let v299 : BitVec 32 := Scalar.extui v298
  let c0_i32_250 : BitVec 32 := 0#32
  let v300 : BitVec 1 := Scalar.cmpi .ne v299 c0_i32_250
  v300

def k0_off25 (k0_t1 : Fin k0_t1_loop.trips) : Fin 1 → Nat :=
  let c0_i32_14 : BitVec 32 := 0#32
  let c1_i32_15 : BitVec 32 := 1#32
  let arg15 : BitVec 32 := Scf.iv c0_i32_14 c1_i32_15 k0_t1
  let c2_i32_251 : BitVec 32 := 2#32
  let v301 : BitVec 32 := Scalar.subi arg15 c2_i32_251
  ![v301.toNat]
def k0_off26 (k0_t1 : Fin k0_t1_loop.trips) : Fin 3 → Nat :=
  let c0_i32_14 : BitVec 32 := 0#32
  let c1_i32_15 : BitVec 32 := 1#32
  let arg15 : BitVec 32 := Scf.iv c0_i32_14 c1_i32_15 k0_t1
  let c2_i32_251 : BitVec 32 := 2#32
  let v301 : BitVec 32 := Scalar.subi arg15 c2_i32_251
  let c6_i32_252 : BitVec 32 := 6#32
  let c0_i32_253 : BitVec 32 := 0#32
  let v302 : BitVec 1 := Scalar.cmpi .eq c6_i32_252 c0_i32_253
  let c1_i32_254 : BitVec 32 := 1#32
  let v303 : BitVec 32 := Scalar.select v302 c1_i32_254 c6_i32_252
  let v304 : BitVec 32 := Scalar.remsi v301 v303
  let c0_i32_256 : BitVec 32 := 0#32
  let v306 : BitVec 1 := Scalar.cmpi .slt v304 c0_i32_256
  let c0_i32_257 : BitVec 32 := 0#32
  let v307 : BitVec 1 := Scalar.cmpi .slt v303 c0_i32_257
  let v308 : BitVec 1 := Scalar.xori v306 v307
  let c0_i32_255 : BitVec 32 := 0#32
  let v305 : BitVec 1 := Scalar.cmpi .ne v304 c0_i32_255
  let v309 : BitVec 1 := Scalar.andi v308 v305
  let v310 : BitVec 32 := Scalar.addi v304 v303
  let v311 : BitVec 32 := Scalar.select v309 v310 v304
  let c0_i32_259 : BitVec 32 := 0#32
  let c0_i32_260 : BitVec 32 := 0#32
  ![v311.toNat, 0, 0]
def k0_off27 (k0_t1 : Fin k0_t1_loop.trips) : Fin 3 → Nat :=
  let c0_i32_14 : BitVec 32 := 0#32
  let c1_i32_15 : BitVec 32 := 1#32
  let arg15 : BitVec 32 := Scf.iv c0_i32_14 c1_i32_15 k0_t1
  let c2_i32_251 : BitVec 32 := 2#32
  let v301 : BitVec 32 := Scalar.subi arg15 c2_i32_251
  let c6_i32_252 : BitVec 32 := 6#32
  let c0_i32_253 : BitVec 32 := 0#32
  let v302 : BitVec 1 := Scalar.cmpi .eq c6_i32_252 c0_i32_253
  let c1_i32_254 : BitVec 32 := 1#32
  let v303 : BitVec 32 := Scalar.select v302 c1_i32_254 c6_i32_252
  let v304 : BitVec 32 := Scalar.remsi v301 v303
  let c0_i32_256 : BitVec 32 := 0#32
  let v306 : BitVec 1 := Scalar.cmpi .slt v304 c0_i32_256
  let c0_i32_257 : BitVec 32 := 0#32
  let v307 : BitVec 1 := Scalar.cmpi .slt v303 c0_i32_257
  let v308 : BitVec 1 := Scalar.xori v306 v307
  let c0_i32_255 : BitVec 32 := 0#32
  let v305 : BitVec 1 := Scalar.cmpi .ne v304 c0_i32_255
  let v309 : BitVec 1 := Scalar.andi v308 v305
  let v310 : BitVec 32 := Scalar.addi v304 v303
  let v311 : BitVec 32 := Scalar.select v309 v310 v304
  let v328 : Index := Scalar.indexCast v311
  let c0 : Index := 0#32
  let c0_270 : Index := 0#32
  ![v328.toNat, 0, 0]
def k0_cond6 (k0_t1 : Fin k0_t1_loop.trips) : BitVec 1 :=
  let c0_i32_14 : BitVec 32 := 0#32
  let c1_i32_15 : BitVec 32 := 1#32
  let arg15 : BitVec 32 := Scf.iv c0_i32_14 c1_i32_15 k0_t1
  let c2_i32_251 : BitVec 32 := 2#32
  let v301 : BitVec 32 := Scalar.subi arg15 c2_i32_251
  let c10_i32_275 : BitVec 32 := 10#32
  let v339 : BitVec 1 := Scalar.cmpi .slt v301 c10_i32_275
  let v340 : BitVec 32 := Scalar.extui v339
  let c0_i32_276 : BitVec 32 := 0#32
  let v341 : BitVec 1 := Scalar.cmpi .ne v340 c0_i32_276
  v341

def k0_dev4 (d0 : Dev nD) : Nat :=
  let c0_i32_316 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c2_i32_315 : BitVec 32 := 2#32
  let v418 : BitVec 32 := Scalar.muli v9 c2_i32_315
  let v419 : BitVec 32 := Scalar.addi c0_i32_316 v418
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_317 : BitVec 32 := 1#32
  let v420 : BitVec 32 := Scalar.muli v5 c1_i32_317
  let v421 : BitVec 32 := Scalar.addi v419 v420
  v421.toNat
def k0_off28 (d0 : Dev nD) (k0_t1 : Fin k0_t1_loop.trips) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let c0_i32_14 : BitVec 32 := 0#32
  let c1_i32_15 : BitVec 32 := 1#32
  let arg15 : BitVec 32 := Scf.iv c0_i32_14 c1_i32_15 k0_t1
  let c2_i32_251 : BitVec 32 := 2#32
  let v301 : BitVec 32 := Scalar.subi arg15 c2_i32_251
  let c0_i32_278 : BitVec 32 := 0#32
  let v343 : BitVec 1 := Scalar.cmpi .sgt v301 c0_i32_278
  let v344 : BitVec 32 := Scalar.extui v343
  let c0_i32_279 : BitVec 32 := 0#32
  let v345 : BitVec 1 := Scalar.cmpi .slt v301 c0_i32_279
  let v346 : BitVec 32 := Scalar.extui v345
  let v347 : BitVec 32 := Scalar.subi v344 v346
  let c8_i32_277 : BitVec 32 := 8#32
  let c0_i32_280 : BitVec 32 := 0#32
  let v348 : BitVec 1 := Scalar.cmpi .sgt c8_i32_277 c0_i32_280
  let v349 : BitVec 32 := Scalar.extui v348
  let c0_i32_281 : BitVec 32 := 0#32
  let v350 : BitVec 1 := Scalar.cmpi .slt c8_i32_277 c0_i32_281
  let v351 : BitVec 32 := Scalar.extui v350
  let v352 : BitVec 32 := Scalar.subi v349 v351
  let v353 : BitVec 1 := Scalar.cmpi .ne v347 v352
  let v354 : BitVec 32 := Scalar.remsi v301 c8_i32_277
  let c0_i32_282 : BitVec 32 := 0#32
  let v355 : BitVec 1 := Scalar.cmpi .ne v354 c0_i32_282
  let v356 : BitVec 1 := Scalar.andi v353 v355
  let v342 : BitVec 32 := Scalar.divsi v301 c8_i32_277
  let c1_i32_283 : BitVec 32 := 1#32
  let v357 : BitVec 32 := Scalar.subi v342 c1_i32_283
  let v358 : BitVec 32 := Scalar.select v356 v357 v342
  let c1024_i32_284 : BitVec 32 := 1024#32
  let v359 : BitVec 32 := Scalar.muli v358 c1024_i32_284
  let v360 : BitVec 32 := Scalar.addi v6 v359
  let c8_i32_285 : BitVec 32 := 8#32
  let c0_i32_286 : BitVec 32 := 0#32
  let v361 : BitVec 1 := Scalar.cmpi .eq c8_i32_285 c0_i32_286
  let c1_i32_287 : BitVec 32 := 1#32
  let v362 : BitVec 32 := Scalar.select v361 c1_i32_287 c8_i32_285
  let v363 : BitVec 32 := Scalar.remsi v301 v362
  let c0_i32_289 : BitVec 32 := 0#32
  let v365 : BitVec 1 := Scalar.cmpi .slt v363 c0_i32_289
  let c0_i32_290 : BitVec 32 := 0#32
  let v366 : BitVec 1 := Scalar.cmpi .slt v362 c0_i32_290
  let v367 : BitVec 1 := Scalar.xori v365 v366
  let c0_i32_288 : BitVec 32 := 0#32
  let v364 : BitVec 1 := Scalar.cmpi .ne v363 c0_i32_288
  let v368 : BitVec 1 := Scalar.andi v367 v364
  let v369 : BitVec 32 := Scalar.addi v363 v362
  let v370 : BitVec 32 := Scalar.select v368 v369 v363
  let c512_i32_291 : BitVec 32 := 512#32
  let v371 : BitVec 32 := Scalar.muli v370 c512_i32_291
  ![v360.toNat, v371.toNat]
def k0_dev5 (d0 : Dev nD) : Nat :=
  let c0_i32_293 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_292 : BitVec 32 := 2#32
  let v372 : BitVec 32 := Scalar.muli v2 c2_i32_292
  let v373 : BitVec 32 := Scalar.addi c0_i32_293 v372
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.subi c1_i32_5 v5
  let c1_i32_294 : BitVec 32 := 1#32
  let v374 : BitVec 32 := Scalar.muli v10 c1_i32_294
  let v375 : BitVec 32 := Scalar.addi v373 v374
  v375.toNat
def k0_off29 (k0_t1 : Fin k0_t1_loop.trips) : Fin 1 → Nat :=
  let c0_i32_14 : BitVec 32 := 0#32
  let c1_i32_15 : BitVec 32 := 1#32
  let arg15 : BitVec 32 := Scf.iv c0_i32_14 c1_i32_15 k0_t1
  let c2_i32_251 : BitVec 32 := 2#32
  let v301 : BitVec 32 := Scalar.subi arg15 c2_i32_251
  let c6_i32_252 : BitVec 32 := 6#32
  let c0_i32_253 : BitVec 32 := 0#32
  let v302 : BitVec 1 := Scalar.cmpi .eq c6_i32_252 c0_i32_253
  let c1_i32_254 : BitVec 32 := 1#32
  let v303 : BitVec 32 := Scalar.select v302 c1_i32_254 c6_i32_252
  let v304 : BitVec 32 := Scalar.remsi v301 v303
  let c0_i32_256 : BitVec 32 := 0#32
  let v306 : BitVec 1 := Scalar.cmpi .slt v304 c0_i32_256
  let c0_i32_257 : BitVec 32 := 0#32
  let v307 : BitVec 1 := Scalar.cmpi .slt v303 c0_i32_257
  let v308 : BitVec 1 := Scalar.xori v306 v307
  let c0_i32_255 : BitVec 32 := 0#32
  let v305 : BitVec 1 := Scalar.cmpi .ne v304 c0_i32_255
  let v309 : BitVec 1 := Scalar.andi v308 v305
  let v310 : BitVec 32 := Scalar.addi v304 v303
  let v311 : BitVec 32 := Scalar.select v309 v310 v304
  ![v311.toNat]
def k0_off30 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let c1024_i32 : BitVec 32 := 1024#32
  let v21 : BitVec 32 := Scalar.addi v6 c1024_i32
  let c1024_i32_21 : BitVec 32 := 1024#32
  ![v21.toNat, 1024]
def k0_off31 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let c1024_i32_28 : BitVec 32 := 1024#32
  let v33 : BitVec 32 := Scalar.addi v6 c1024_i32_28
  let c1536_i32 : BitVec 32 := 1536#32
  ![v33.toNat, 1536]
def k0_off32 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let c1024_i32_39 : BitVec 32 := 1024#32
  let v45 : BitVec 32 := Scalar.addi v6 c1024_i32_39
  let c2048_i32_45 : BitVec 32 := 2048#32
  ![v45.toNat, 2048]
def k0_off33 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let c1024_i32_52 : BitVec 32 := 1024#32
  let v57 : BitVec 32 := Scalar.addi v6 c1024_i32_52
  let c2560_i32 : BitVec 32 := 2560#32
  ![v57.toNat, 2560]
def k0_off34 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let c1024_i32_64 : BitVec 32 := 1024#32
  let v69 : BitVec 32 := Scalar.addi v6 c1024_i32_64
  let c3072_i32 : BitVec 32 := 3072#32
  ![v69.toNat, 3072]
def k0_off35 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let c1024_i32_76 : BitVec 32 := 1024#32
  let v81 : BitVec 32 := Scalar.addi v6 c1024_i32_76
  let c3584_i32 : BitVec 32 := 3584#32
  ![v81.toNat, 3584]
def k0_off36 (d0 : Dev nD) (c0_i32_87 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let v93 : BitVec 32 := Scalar.addi v6 c0_i32_87
  let v94 : BitVec 32 := Scalar.subi v93 v6
  let c1_i32_2 : BitVec 32 := 1#32
  let v7 : BitVec 32 := Scalar.subi c1_i32_2 v5
  let c2048_i32_3 : BitVec 32 := 2048#32
  let v8 : BitVec 32 := Scalar.muli v7 c2048_i32_3
  let v95 : BitVec 32 := Scalar.addi v94 v8
  let c0_i32_94 : BitVec 32 := 0#32
  ![v95.toNat, 0]
def k0_off37 (d0 : Dev nD) (c0_i32_97 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let v105 : BitVec 32 := Scalar.addi v6 c0_i32_97
  let v106 : BitVec 32 := Scalar.subi v105 v6
  let c1_i32_2 : BitVec 32 := 1#32
  let v7 : BitVec 32 := Scalar.subi c1_i32_2 v5
  let c2048_i32_3 : BitVec 32 := 2048#32
  let v8 : BitVec 32 := Scalar.muli v7 c2048_i32_3
  let v107 : BitVec 32 := Scalar.addi v106 v8
  let c512_i32 : BitVec 32 := 512#32
  ![v107.toNat, 512]
def k0_off38 (d0 : Dev nD) (c0_i32_106 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let v117 : BitVec 32 := Scalar.addi v6 c0_i32_106
  let v118 : BitVec 32 := Scalar.subi v117 v6
  let c1_i32_2 : BitVec 32 := 1#32
  let v7 : BitVec 32 := Scalar.subi c1_i32_2 v5
  let c2048_i32_3 : BitVec 32 := 2048#32
  let v8 : BitVec 32 := Scalar.muli v7 c2048_i32_3
  let v119 : BitVec 32 := Scalar.addi v118 v8
  let c1024_i32_113 : BitVec 32 := 1024#32
  ![v119.toNat, 1024]
def k0_off39 (d0 : Dev nD) (c0_i32_116 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let v129 : BitVec 32 := Scalar.addi v6 c0_i32_116
  let v130 : BitVec 32 := Scalar.subi v129 v6
  let c1_i32_2 : BitVec 32 := 1#32
  let v7 : BitVec 32 := Scalar.subi c1_i32_2 v5
  let c2048_i32_3 : BitVec 32 := 2048#32
  let v8 : BitVec 32 := Scalar.muli v7 c2048_i32_3
  let v131 : BitVec 32 := Scalar.addi v130 v8
  let c1536_i32_123 : BitVec 32 := 1536#32
  ![v131.toNat, 1536]
def k0_off40 (d0 : Dev nD) (c0_i32_126 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let v141 : BitVec 32 := Scalar.addi v6 c0_i32_126
  let v142 : BitVec 32 := Scalar.subi v141 v6
  let c1_i32_2 : BitVec 32 := 1#32
  let v7 : BitVec 32 := Scalar.subi c1_i32_2 v5
  let c2048_i32_3 : BitVec 32 := 2048#32
  let v8 : BitVec 32 := Scalar.muli v7 c2048_i32_3
  let v143 : BitVec 32 := Scalar.addi v142 v8
  let c2048_i32_133 : BitVec 32 := 2048#32
  ![v143.toNat, 2048]
def k0_off41 (d0 : Dev nD) (c0_i32_136 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let v153 : BitVec 32 := Scalar.addi v6 c0_i32_136
  let v154 : BitVec 32 := Scalar.subi v153 v6
  let c1_i32_2 : BitVec 32 := 1#32
  let v7 : BitVec 32 := Scalar.subi c1_i32_2 v5
  let c2048_i32_3 : BitVec 32 := 2048#32
  let v8 : BitVec 32 := Scalar.muli v7 c2048_i32_3
  let v155 : BitVec 32 := Scalar.addi v154 v8
  let c2560_i32_143 : BitVec 32 := 2560#32
  ![v155.toNat, 2560]
def k0_off42 (d0 : Dev nD) (c0_i32_146 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let v165 : BitVec 32 := Scalar.addi v6 c0_i32_146
  let v166 : BitVec 32 := Scalar.subi v165 v6
  let c1_i32_2 : BitVec 32 := 1#32
  let v7 : BitVec 32 := Scalar.subi c1_i32_2 v5
  let c2048_i32_3 : BitVec 32 := 2048#32
  let v8 : BitVec 32 := Scalar.muli v7 c2048_i32_3
  let v167 : BitVec 32 := Scalar.addi v166 v8
  let c3072_i32_152 : BitVec 32 := 3072#32
  ![v167.toNat, 3072]
def k0_off43 (d0 : Dev nD) (c0_i32_155 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v6 : BitVec 32 := Scalar.muli v5 c2048_i32
  let v177 : BitVec 32 := Scalar.addi v6 c0_i32_155
  let v178 : BitVec 32 := Scalar.subi v177 v6
  let c1_i32_2 : BitVec 32 := 1#32
  let v7 : BitVec 32 := Scalar.subi c1_i32_2 v5
  let c2048_i32_3 : BitVec 32 := 2048#32
  let v8 : BitVec 32 := Scalar.muli v7 c2048_i32_3
  let v179 : BitVec 32 := Scalar.addi v178 v8
  let c3584_i32_161 : BitVec 32 := 3584#32
  ![v179.toNat, 3584]
-- ==== ReferenceIdeal.lean ====
abbrev S4096x16384 : Shape := ⟨2, ![4096, 16384]⟩
abbrev S16384x4096 : Shape := ⟨2, ![16384, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S16384x4096, .f32⟩
  | .hbm, ⟨3, _⟩ => ⟨S4096x4096, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Views.lean ====
/-
  The four devices of the 2×2 mesh and the pieces of memory the kernel moves between them.

  Device `c` is at row `x = c / 2` and column `y = c % 2` of the mesh; `xn c` and `yn c` are its neighbours along
  the two axes. The kernel works chunk by chunk: chunk `p` (0 ≤ p < 16) is a 1024×512 tile of the result, computed in
  slot `p % 6` of the accumulator.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Release
public import Idealize.ShloMosaic.Lib.Rounds
public import Idealize.ShloMosaic.Lib.Tactic

@[expose] public section

noncomputable section

namespace Cert.MeshSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## The mesh -/

set_option backward.proofsInPublic true in
/-- The neighbour along the `x` axis. -/
def xn (c : Dev nD) : Dev nD := ⟨(c.val + 2) % 4, Nat.mod_lt _ (by decide)⟩
set_option backward.proofsInPublic true in
/-- The neighbour along the `y` axis. -/
def yn (c : Dev nD) : Dev nD := ⟨2 * (c.val / 2) + (1 - c.val % 2), by have := c.isLt; simp only [nD] at *; omega⟩

/-- The `x` neighbour's `x` neighbour is the device itself. -/
theorem xn_xn (c : Dev nD) : xn (xn c) = c := by revert c; decide
/-- The `y` neighbour's `y` neighbour is the device itself. -/
theorem yn_yn (c : Dev nD) : yn (yn c) = c := by revert c; decide
/-- The two neighbours are different devices. -/
theorem xn_ne_yn (c : Dev nD) : xn c ≠ yn c := by revert c; decide
/-- The `x` neighbour is in the same column. -/
theorem xn_col (c : Dev nD) : (xn c).val % 2 = c.val % 2 := by revert c; decide
/-- The `y` neighbour is in the other column. -/
theorem yn_col (c : Dev nD) : (yn c).val % 2 = 1 - c.val % 2 := by revert c; decide
/-- The `y` neighbour is in the same row. -/
theorem yn_row (c : Dev nD) : (yn c).val / 2 = c.val / 2 := by revert c; decide
/-- The `x` neighbour is in the other row. -/
theorem xn_row (c : Dev nD) : (xn c).val / 2 = 1 - c.val / 2 := by revert c; decide

/-! ## Slots and tiles -/

/-- The whole scratch and argument buffers the kernel is called with. -/
abbrev accB : Memref sig .tc .vmem S6x1024x512 .f32 := Memref.whole cc0_scratch0
abbrev dyB : Memref sig .tc .vmem S2x1024x1024 .f32 := Memref.whole cc0_scratch1
abbrev wB : Memref sig .tc .vmem S2x512x1024 .f32 := Memref.whole cc0_scratch2
abbrev recB : Memref sig .tc .vmem S6x1024x512 .f32 := Memref.whole cc0_scratch3
abbrev dyA : Memref sig .tc .hbm S4096x8192 .f32 := Memref.whole main_arg0
abbrev wA : Memref sig .tc .hbm S4096x8192 .f32 := Memref.whole main_arg1
abbrev outA : Memref sig .tc .hbm S4096x4096 .f32 := Memref.whole main_v1

/-- A slot of a six-slot buffer lies inside it. -/
theorem slot6_inb (s : ℕ) (h : s < 6) : ∀ i, (![s, 0, 0] : Fin 3 → ℕ) i + S1x1024x512.size i ≤ S6x1024x512.size i := by
  intro i; fin_cases i <;> simp <;> omega
/-- A slot of the first staging buffer lies inside it. -/
theorem slotDy_inb (s : ℕ) (h : s < 2) : ∀ i, (![s, 0, 0] : Fin 3 → ℕ) i + S1x1024x1024.size i ≤ S2x1024x1024.size i := by
  intro i; fin_cases i <;> simp <;> omega
/-- A slot of the second staging buffer lies inside it. -/
theorem slotW_inb (s : ℕ) (h : s < 2) : ∀ i, (![s, 0, 0] : Fin 3 → ℕ) i + S1x512x1024.size i ≤ S2x512x1024.size i := by
  intro i; fin_cases i <;> simp <;> omega

/-- Slot `s` of the accumulator. -/
def accV (s : Fin 6) : Memref sig .tc .vmem S1024x512 .f32 :=
  (accB.slice (Rect.unit (s := S6x1024x512) ![s.val, 0, 0] S1x1024x512.size (slot6_inb s.val s.isLt)) (fun _ => rfl)).squeeze S1024x512 squeezes_S1x1024x512_S1024x512
/-- Slot `s` of the buffer the `x` neighbour writes into. -/
def recV (s : Fin 6) : Memref sig .tc .vmem S1024x512 .f32 :=
  (recB.slice (Rect.unit (s := S6x1024x512) ![s.val, 0, 0] S1x1024x512.size (slot6_inb s.val s.isLt)) (fun _ => rfl)).squeeze S1024x512 squeezes_S1x1024x512_S1024x512
/-- Slot `s` of the staging buffer of the first argument's tiles. -/
def dyV (s : Fin 2) : Memref sig .tc .vmem S1024x1024 .f32 :=
  (dyB.slice (Rect.unit (s := S2x1024x1024) ![s.val, 0, 0] S1x1024x1024.size (slotDy_inb s.val s.isLt)) (fun _ => rfl)).squeeze S1024x1024 squeezes_S1x1024x1024_S1024x1024
/-- Slot `s` of the staging buffer of the second argument's tiles. -/
def wV (s : Fin 2) : Memref sig .tc .vmem S512x1024 .f32 :=
  (wB.slice (Rect.unit (s := S2x512x1024) ![s.val, 0, 0] S1x512x1024.size (slotW_inb s.val s.isLt)) (fun _ => rfl)).squeeze S512x1024 squeezes_S1x512x1024_S512x1024

/-- The slot of chunk `p`. -/
def slotOf (p : ℕ) : Fin 6 := ⟨p % 6, Nat.mod_lt _ (by decide)⟩
/-- The slot of the staging buffers a tile number uses. -/
def tslotOf (k : ℕ) : Fin 2 := ⟨k % 2, Nat.mod_lt _ (by decide)⟩

/-- The offset of chunk `p` of column `y`'s half of the result. -/
def outOff (y p : ℕ) : Fin 2 → ℕ := ![2048 * y + 1024 * (p / 8), 512 * (p % 8)]
/-- The offset of the first argument's tile `k` for chunk `p` of column `y`. -/
def dyOff (y p k : ℕ) : Fin 2 → ℕ := ![2048 * y + 1024 * (p / 8), 1024 * k]
/-- The offset of the second argument's tile `k` for chunk `p`. -/
def wOff (p k : ℕ) : Fin 2 → ℕ := ![512 * (p % 8), 1024 * k]

/-- Every tile of the result lies inside it. -/
theorem outOff_inb (y : Fin 2) (p : Fin 16) : ∀ i, outOff y p i + S1024x512.size i ≤ S4096x4096.size i := by
  intro i; have := y.isLt; have := p.isLt; fin_cases i <;> simp [outOff] <;> omega
/-- Every tile of the first argument lies inside it. -/
theorem dyOff_inb (y : Fin 2) (p : Fin 16) (k : Fin 8) : ∀ i, dyOff y p k i + S1024x1024.size i ≤ S4096x8192.size i := by
  intro i; have := y.isLt; have := p.isLt; have := k.isLt; fin_cases i <;> simp [dyOff] <;> omega
/-- Every tile of the second argument lies inside it. -/
theorem wOff_inb (p : Fin 16) (k : Fin 8) : ∀ i, wOff p k i + S512x1024.size i ≤ S4096x8192.size i := by
  intro i; have := p.isLt; have := k.isLt; fin_cases i <;> simp [wOff] <;> omega

/-- Tile `p` of column `y`'s half of the result. -/
def outV (y : Fin 2) (p : Fin 16) : Memref sig .tc .hbm S1024x512 .f32 :=
  outA.slice (Rect.unit (s := S4096x4096) (outOff y p) S1024x512.size (outOff_inb y p)) (fun _ => rfl)
/-- Tile `k` of the first argument for chunk `p` of column `y`. -/
def dyS (y : Fin 2) (p : Fin 16) (k : Fin 8) : Memref sig .tc .hbm S1024x1024 .f32 :=
  dyA.slice (Rect.unit (s := S4096x8192) (dyOff y p k) S1024x1024.size (dyOff_inb y p k)) (fun _ => rfl)
/-- Tile `k` of the second argument for chunk `p`. -/
def wS (p : Fin 16) (k : Fin 8) : Memref sig .tc .hbm S512x1024 .f32 :=
  wA.slice (Rect.unit (s := S4096x8192) (wOff p k) S512x1024.size (wOff_inb p k)) (fun _ => rfl)

/-- The column of a device. -/
def col (c : Dev nD) : Fin 2 := ⟨c.val % 2, Nat.mod_lt _ (by decide)⟩
/-- The `x` neighbour is in the same column. -/
theorem col_xn (c : Dev nD) : col (xn c) = col c := by revert c; decide
/-- The `y` neighbour is in the other column. -/
theorem col_yn (c : Dev nD) : col (yn c) = 1 - col c := by revert c; decide

/-- A slice of the accumulator at a slot's offset is that slot. -/
theorem accV_of {off : Fin 3 → ℕ} {s : Fin 6} (h : off = ![s.val, 0, 0]) (hi) (hr) (hq) :
    (accB.slice (Rect.unit (s := S6x1024x512) off S1x1024x512.size hi) hr).squeeze S1024x512 hq = accV s := by
  subst h; rfl
/-- A slice of the receive buffer at a slot's offset is that slot. -/
theorem recV_of {off : Fin 3 → ℕ} {s : Fin 6} (h : off = ![s.val, 0, 0]) (hi) (hr) (hq) :
    (recB.slice (Rect.unit (s := S6x1024x512) off S1x1024x512.size hi) hr).squeeze S1024x512 hq = recV s := by
  subst h; rfl
/-- A slice of the first staging buffer at a slot's offset is that slot. -/
theorem dyV_of {off : Fin 3 → ℕ} {s : Fin 2} (h : off = ![s.val, 0, 0]) (hi) (hr) (hq) :
    (dyB.slice (Rect.unit (s := S2x1024x1024) off S1x1024x1024.size hi) hr).squeeze S1024x1024 hq = dyV s := by
  subst h; rfl
/-- A slice of the second staging buffer at a slot's offset is that slot. -/
theorem wV_of {off : Fin 3 → ℕ} {s : Fin 2} (h : off = ![s.val, 0, 0]) (hi) (hr) (hq) :
    (wB.slice (Rect.unit (s := S2x512x1024) off S1x512x1024.size hi) hr).squeeze S512x1024 hq = wV s := by
  subst h; rfl
/-- A slice of the result at a tile's offset is that tile. -/
theorem outV_of {off : Fin 2 → ℕ} {y : Fin 2} {p : Fin 16} (h : off = outOff y p) (hi) (hr) :
    outA.slice (Rect.unit (s := S4096x4096) off S1024x512.size hi) hr = outV y p := by
  subst h; rfl
/-- A slice of the first argument at a tile's offset is that tile. -/
theorem dyS_of {off : Fin 2 → ℕ} {y : Fin 2} {p : Fin 16} {k : Fin 8} (h : off = dyOff y p k) (hi) (hr) :
    dyA.slice (Rect.unit (s := S4096x8192) off S1024x1024.size hi) hr = dyS y p k := by
  subst h; rfl
/-- A slice of the second argument at a tile's offset is that tile. -/
theorem wS_of {off : Fin 2 → ℕ} {p : Fin 16} {k : Fin 8} (h : off = wOff p k) (hi) (hr) :
    wA.slice (Rect.unit (s := S4096x8192) off S512x1024.size hi) hr = wS p k := by
  subst h; rfl

/-! ## The semaphores -/

/-- Each entry of an array of two semaphores lies inside it. -/
theorem sem2_inb (p : Fin 2) : ∀ i, (![p.val] : Fin 1 → ℕ) i + S1.size i ≤ S2.size i := by
  intro i; have := p.isLt; fin_cases i; simp; omega
/-- Entry `p` of an array of two semaphores is the one numbered `p`. -/
theorem sem2_ix : ∀ p : Fin 2, (S2.rowMajor ((Rect.unit (s := S2) ![p.val] S1.size (sem2_inb p)).emb
    (Shape.reshapeEquiv squeezes_S1_S_.numel_eq (fun i => i.elim0)))).val = p.val := by
  decide +kernel
/-- Entry `p` of an array of two semaphores laid from number `b` is semaphore `b + p`. -/
theorem sem2_of {b : ℕ} {hb : b + S2.numel ≤ 74} {off : Fin 1 → ℕ} (p : Fin 2) (hp : b + p < 74) (h : off = ![p.val]) (hi) (hq) :
    (((SemArray.consecutive b S2 hb : SemArray (Fin 74) S2).slice (Rect.unit (s := S2) off S1.size hi)).squeeze S_ hq).sem = ⟨b + p, hp⟩ := by
  subst h
  exact Fin.ext (congrArg (b + ·) (sem2_ix p))
/-- Each entry of an array of six semaphores lies inside it. -/
theorem sem6_inb (p : Fin 6) : ∀ i, (![p.val] : Fin 1 → ℕ) i + S1.size i ≤ S6.size i := by
  intro i; have := p.isLt; fin_cases i; simp; omega
/-- Entry `p` of an array of six semaphores is the one numbered `p`. -/
theorem sem6_ix : ∀ p : Fin 6, (S6.rowMajor ((Rect.unit (s := S6) ![p.val] S1.size (sem6_inb p)).emb
    (Shape.reshapeEquiv squeezes_S1_S_.numel_eq (fun i => i.elim0)))).val = p.val := by
  decide +kernel
/-- Entry `p` of an array of six semaphores laid from number `b` is semaphore `b + p`. -/
theorem sem6_of {b : ℕ} {hb : b + S6.numel ≤ 74} {off : Fin 1 → ℕ} (p : Fin 6) (hp : b + p < 74) (h : off = ![p.val]) (hi) (hq) :
    (((SemArray.consecutive b S6 hb : SemArray (Fin 74) S6).slice (Rect.unit (s := S6) off S1.size hi)).squeeze S_ hq).sem = ⟨b + p, hp⟩ := by
  subst h
  exact Fin.ext (congrArg (b + ·) (sem6_ix p))
/-- Each entry of an array of sixteen semaphores lies inside it. -/
theorem sem16_inb (p : Fin 16) : ∀ i, (![p.val] : Fin 1 → ℕ) i + S1.size i ≤ S16.size i := by
  intro i; have := p.isLt; fin_cases i; simp; omega
/-- Entry `p` of an array of sixteen semaphores is the one numbered `p`. -/
theorem sem16_ix : ∀ p : Fin 16, (S16.rowMajor ((Rect.unit (s := S16) ![p.val] S1.size (sem16_inb p)).emb
    (Shape.reshapeEquiv squeezes_S1_S_.numel_eq (fun i => i.elim0)))).val = p.val := by
  decide +kernel
/-- Entry `p` of an array of sixteen semaphores laid from number `b` is semaphore `b + p`. -/
theorem sem16_of {b : ℕ} {hb : b + S16.numel ≤ 74} {off : Fin 1 → ℕ} (p : Fin 16) (hp : b + p < 74) (h : off = ![p.val]) (hi) (hq) :
    (((SemArray.consecutive b S16 hb : SemArray (Fin 74) S16).slice (Rect.unit (s := S16) off S1.size hi)).squeeze S_ hq).sem = ⟨b + p, hp⟩ := by
  subst h
  exact Fin.ext (congrArg (b + ·) (sem16_ix p))

/-- What a transfer of a 1024×512 tile credits. -/
def NT : ℕ := 65536
/-- What a transfer of a 1024×1024 tile credits. -/
def ND : ℕ := 131072

/-- Every slot of the accumulator is credited alike. -/
theorem accV_credit (s : Fin 6) : (accV s).view.dmaCredit = NT := (by decide +kernel : (accV 0).view.dmaCredit = NT)
/-- Every slot of the receive buffer is credited alike. -/
theorem recV_credit (s : Fin 6) : (recV s).view.dmaCredit = NT := (by decide +kernel : (recV 0).view.dmaCredit = NT)
/-- Every tile of the result is credited alike. -/
theorem outV_credit (y : Fin 2) (p : Fin 16) : (outV y p).view.dmaCredit = NT := (by decide +kernel : (outV 0 0).view.dmaCredit = NT)
/-- Every slot of the first staging buffer is credited alike. -/
theorem dyV_credit (s : Fin 2) : (dyV s).view.dmaCredit = ND := (by decide +kernel : (dyV 0).view.dmaCredit = ND)
/-- Every slot of the second staging buffer is credited alike. -/
theorem wV_credit (s : Fin 2) : (wV s).view.dmaCredit = NT := (by decide +kernel : (wV 0).view.dmaCredit = NT)

end Cert.MeshSum
end
-- ==== Proof.Offsets.lean ====
/-
  What the kernel's index arithmetic comes to: the conditions of its branches and the offsets of its slices and
  semaphores in closed form, each checked at every trip and device.
-/
module

public import proofs.«01_k».proof.Proof.Views

@[expose] public section

noncomputable section

namespace Cert.MeshSum

open Cert.KernelIdeal Cert.KernelIdeal.Gen
open Idealize.ShloMosaic Idealize.ShloMosaic.TcCoe

/-- A chunk is computed in the first sixteen trips. -/
theorem cond1_iff : ∀ t : Fin k0_t1_loop.trips, k0_cond1 t = 1#1 ↔ t.val < 16 := by
  decide +kernel

/-- A slot is reused from trip six on. -/
theorem cond2_iff : ∀ t : Fin k0_t1_loop.trips, k0_cond2 t = 1#1 ↔ 6 ≤ t.val := by
  decide +kernel

/-- The inner loop starts the next tile in all but its last trip. -/
theorem cond3_iff : ∀ k : Fin k0_t2_loop.trips, k0_cond3 k = 1#1 ↔ k.val < 6 := by
  decide +kernel

/-- A chunk is exchanged from trip two on. -/
theorem cond5_iff : ∀ t : Fin k0_t1_loop.trips, k0_cond5 t = 1#1 ↔ 2 ≤ t.val := by
  decide +kernel

/-- A credit is returned for the first ten chunks. -/
theorem cond6_iff : ∀ t : Fin k0_t1_loop.trips, k0_cond6 t = 1#1 ↔ t.val < 12 := by
  decide +kernel

/-- A credit is awaited from trip six on. -/
theorem cond4_iff : ∀ t : Fin k0_t1_loop.trips, (Scalar.cmpi .ne (Scalar.extui (Scalar.cmpi .sge (Scf.iv 0#32 1#32 t) 6#32) : BitVec 32) 0#32) = 1#1 ↔ 6 ≤ t.val := by
  decide +kernel

/-- The semaphore of chunk `t - 6`. -/
theorem off1_eq : ∀ t : Fin k0_t1_loop.trips, 6 ≤ t.val → k0_off1 t = ![t.val - 6] := by
  decide +kernel

/-- The slot of chunk `t`. -/
theorem off2_eq : ∀ t : Fin k0_t1_loop.trips, k0_off2 t = ![(slotOf t.val).val, 0, 0] := by
  decide +kernel

/-- The slot of chunk `t`. -/
theorem off9_eq : ∀ t : Fin k0_t1_loop.trips, k0_off9 t = ![(slotOf t.val).val, 0, 0] := by
  decide +kernel

/-- The slot of chunk `t`. -/
theorem off20_eq : ∀ t : Fin k0_t1_loop.trips, k0_off20 t = ![(slotOf t.val).val, 0, 0] := by
  decide +kernel

/-- The slot of chunk `t`. -/
theorem off24_eq : ∀ t : Fin k0_t1_loop.trips, k0_off24 t = ![(slotOf t.val).val, 0, 0] := by
  decide +kernel

/-- The tile of chunk `t - 6`. -/
theorem off3_eq : ∀ (d : Dev nD) (t : Fin k0_t1_loop.trips), 6 ≤ t.val → t.val < 16 → k0_off3 d t = outOff (col d).val (t.val - 6) := by
  decide +kernel

/-- The semaphore of chunk `t`'s slot. -/
theorem off4_eq : ∀ t : Fin k0_t1_loop.trips, k0_off4 t = ![(slotOf t.val).val] := by
  decide +kernel

/-- The first argument's tile 0 of chunk `t`. -/
theorem off5_eq : ∀ (d : Dev nD) (t : Fin k0_t1_loop.trips), t.val < 16 → k0_off5 d t = dyOff (col d).val t.val 0 := by
  decide +kernel

/-- The second argument's tile 0 of chunk `t`. -/
theorem off6_eq : ∀ (t : Fin k0_t1_loop.trips), t.val < 16 → k0_off6 t = wOff t.val 0 := by
  decide +kernel

/-- The first argument's tile 1 of chunk `t`. -/
theorem off7_eq : ∀ (d : Dev nD) (t : Fin k0_t1_loop.trips), t.val < 16 → k0_off7 d t = dyOff (col d).val t.val 1 := by
  decide +kernel

/-- The second argument's tile 1 of chunk `t`. -/
theorem off8_eq : ∀ (t : Fin k0_t1_loop.trips), t.val < 16 → k0_off8 t = wOff t.val 1 := by
  decide +kernel

/-- The semaphore of tile `k + 2`. -/
theorem off10_eq : ∀ k : Fin k0_t2_loop.trips, k0_off10 k = ![(tslotOf (k.val + 2)).val] := by
  decide +kernel

/-- The staging slot of tile `k + 2`. -/
theorem off11_eq : ∀ k : Fin k0_t2_loop.trips, k0_off11 k = ![(tslotOf (k.val + 2)).val, 0, 0] := by
  decide +kernel

/-- The staging slot of tile `k + 2`. -/
theorem off13_eq : ∀ k : Fin k0_t2_loop.trips, k0_off13 k = ![(tslotOf (k.val + 2)).val, 0, 0] := by
  decide +kernel

/-- The first argument's tile `k + 2` of chunk `t`. -/
theorem off12_eq : ∀ (d : Dev nD) (t : Fin k0_t1_loop.trips) (k : Fin k0_t2_loop.trips), t.val < 16 → k.val < 6 → k0_off12 d t k = dyOff (col d).val t.val (k.val + 2) := by
  decide +kernel

/-- The second argument's tile `k + 2` of chunk `t`. -/
theorem off14_eq : ∀ (t : Fin k0_t1_loop.trips) (k : Fin k0_t2_loop.trips), t.val < 16 → k.val < 6 → k0_off14 t k = wOff t.val (k.val + 2) := by
  decide +kernel

/-- The semaphore of tile `k + 1`. -/
theorem off15_eq : ∀ k : Fin k0_t2_loop.trips, k0_off15 k = ![(tslotOf (k.val + 1)).val] := by
  decide +kernel

/-- The staging slot of tile `k + 1`. -/
theorem off16_eq : ∀ k : Fin k0_t2_loop.trips, k0_off16 k = ![(tslotOf (k.val + 1)).val, 0, 0] := by
  decide +kernel

/-- The staging slot of tile `k + 1`. -/
theorem off18_eq : ∀ k : Fin k0_t2_loop.trips, k0_off18 k = ![(tslotOf (k.val + 1)).val, 0, 0] := by
  decide +kernel

/-- The staging slot of tile `k + 1`. -/
theorem off21_eq : ∀ k : Fin k0_t2_loop.trips, k0_off21 k = ![(tslotOf (k.val + 1)).val, 0, 0] := by
  decide +kernel

/-- The staging slot of tile `k + 1`. -/
theorem off22_eq : ∀ k : Fin k0_t2_loop.trips, k0_off22 k = ![(tslotOf (k.val + 1)).val, 0, 0] := by
  decide +kernel

/-- The semaphore of chunk `t`. -/
theorem off23_eq : ∀ t : Fin k0_t1_loop.trips, k0_off23 t = ![t.val] := by
  decide +kernel

/-- The semaphore of chunk `t - 2`. -/
theorem off25_eq : ∀ t : Fin k0_t1_loop.trips, 2 ≤ t.val → k0_off25 t = ![t.val - 2] := by
  decide +kernel

/-- The slot of chunk `t - 2`. -/
theorem off26_eq : ∀ t : Fin k0_t1_loop.trips, 2 ≤ t.val → k0_off26 t = ![(slotOf (t.val - 2)).val, 0, 0] := by
  decide +kernel

/-- The slot of chunk `t - 2`. -/
theorem off27_eq : ∀ t : Fin k0_t1_loop.trips, 2 ≤ t.val → k0_off27 t = ![(slotOf (t.val - 2)).val, 0, 0] := by
  decide +kernel

/-- The tile of chunk `t - 2`. -/
theorem off28_eq : ∀ (d : Dev nD) (t : Fin k0_t1_loop.trips), 2 ≤ t.val → k0_off28 d t = outOff (col d).val (t.val - 2) := by
  decide +kernel

/-- The semaphore of the slot of chunk `t - 2`. -/
theorem off29_eq : ∀ t : Fin k0_t1_loop.trips, 2 ≤ t.val → k0_off29 t = ![(slotOf (t.val - 2)).val] := by
  decide +kernel

/-- The tile of chunk 10. -/
theorem off30_eq : ∀ d : Dev nD, k0_off30 d = outOff (col d).val 10 := by
  decide +kernel

/-- The tile of chunk 11. -/
theorem off31_eq : ∀ d : Dev nD, k0_off31 d = outOff (col d).val 11 := by
  decide +kernel

/-- The tile of chunk 12. -/
theorem off32_eq : ∀ d : Dev nD, k0_off32 d = outOff (col d).val 12 := by
  decide +kernel

/-- The tile of chunk 13. -/
theorem off33_eq : ∀ d : Dev nD, k0_off33 d = outOff (col d).val 13 := by
  decide +kernel

/-- The tile of chunk 14. -/
theorem off34_eq : ∀ d : Dev nD, k0_off34 d = outOff (col d).val 14 := by
  decide +kernel

/-- The tile of chunk 15. -/
theorem off35_eq : ∀ d : Dev nD, k0_off35 d = outOff (col d).val 15 := by
  decide +kernel

/-- The other column's tile of chunk 0. -/
theorem off36_eq0 : ∀ d : Dev nD, k0_off36 d 0#32 = outOff (col (yn d)).val 0 := by
  decide +kernel

/-- The other column's tile of chunk 8. -/
theorem off36_eq1 : ∀ d : Dev nD, k0_off36 d 1024#32 = outOff (col (yn d)).val 8 := by
  decide +kernel

/-- The other column's tile of chunk 1. -/
theorem off37_eq0 : ∀ d : Dev nD, k0_off37 d 0#32 = outOff (col (yn d)).val 1 := by
  decide +kernel

/-- The other column's tile of chunk 9. -/
theorem off37_eq1 : ∀ d : Dev nD, k0_off37 d 1024#32 = outOff (col (yn d)).val 9 := by
  decide +kernel

/-- The other column's tile of chunk 2. -/
theorem off38_eq0 : ∀ d : Dev nD, k0_off38 d 0#32 = outOff (col (yn d)).val 2 := by
  decide +kernel

/-- The other column's tile of chunk 10. -/
theorem off38_eq1 : ∀ d : Dev nD, k0_off38 d 1024#32 = outOff (col (yn d)).val 10 := by
  decide +kernel

/-- The other column's tile of chunk 3. -/
theorem off39_eq0 : ∀ d : Dev nD, k0_off39 d 0#32 = outOff (col (yn d)).val 3 := by
  decide +kernel

/-- The other column's tile of chunk 11. -/
theorem off39_eq1 : ∀ d : Dev nD, k0_off39 d 1024#32 = outOff (col (yn d)).val 11 := by
  decide +kernel

/-- The other column's tile of chunk 4. -/
theorem off40_eq0 : ∀ d : Dev nD, k0_off40 d 0#32 = outOff (col (yn d)).val 4 := by
  decide +kernel

/-- The other column's tile of chunk 12. -/
theorem off40_eq1 : ∀ d : Dev nD, k0_off40 d 1024#32 = outOff (col (yn d)).val 12 := by
  decide +kernel

/-- The other column's tile of chunk 5. -/
theorem off41_eq0 : ∀ d : Dev nD, k0_off41 d 0#32 = outOff (col (yn d)).val 5 := by
  decide +kernel

/-- The other column's tile of chunk 13. -/
theorem off41_eq1 : ∀ d : Dev nD, k0_off41 d 1024#32 = outOff (col (yn d)).val 13 := by
  decide +kernel

/-- The other column's tile of chunk 6. -/
theorem off42_eq0 : ∀ d : Dev nD, k0_off42 d 0#32 = outOff (col (yn d)).val 6 := by
  decide +kernel

/-- The other column's tile of chunk 14. -/
theorem off42_eq1 : ∀ d : Dev nD, k0_off42 d 1024#32 = outOff (col (yn d)).val 14 := by
  decide +kernel

/-- The other column's tile of chunk 7. -/
theorem off43_eq0 : ∀ d : Dev nD, k0_off43 d 0#32 = outOff (col (yn d)).val 7 := by
  decide +kernel

/-- The other column's tile of chunk 15. -/
theorem off43_eq1 : ∀ d : Dev nD, k0_off43 d 1024#32 = outOff (col (yn d)).val 15 := by
  decide +kernel

/-- The device addressed is the `x` neighbour. -/
theorem dev1_eq : ∀ (d : Dev nD) (h : k0_dev1 d < nD), (⟨k0_dev1 d, h⟩ : Dev nD) = xn d := by
  decide +kernel

/-- The device addressed is the `x` neighbour. -/
theorem dev3_eq : ∀ (d : Dev nD) (h : k0_dev3 d < nD), (⟨k0_dev3 d, h⟩ : Dev nD) = xn d := by
  decide +kernel

/-- The device addressed is the `x` neighbour. -/
theorem dev4_eq : ∀ (d : Dev nD) (h : k0_dev4 d < nD), (⟨k0_dev4 d, h⟩ : Dev nD) = xn d := by
  decide +kernel

/-- The device addressed is the `y` neighbour. -/
theorem dev2_eq : ∀ (d : Dev nD) (h : k0_dev2 d < nD), (⟨k0_dev2 d, h⟩ : Dev nD) = yn d := by
  decide +kernel

/-- The device addressed is the `y` neighbour. -/
theorem dev5_eq : ∀ (d : Dev nD) (h : k0_dev5 d < nD), (⟨k0_dev5 d, h⟩ : Dev nD) = yn d := by
  decide +kernel

/-- The outer loop makes eighteen trips. -/
theorem trips1 : k0_t1_loop.trips = 18 := by
  decide +kernel

/-- The inner loop makes seven trips. -/
theorem trips2 : k0_t2_loop.trips = 7 := by
  decide +kernel

end Cert.MeshSum
end
-- ==== Proof.Common.lean ====
/-
  The resources the proof is written over, and what each memory operation of the kernel does to a piece of memory a
  device owns: a tile copied into a staging buffer, a slot read, a slot overwritten.
-/
module

public import proofs.«01_k».proof.Proof.Offsets

@[expose] public section

noncomputable section

namespace Cert.MeshSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Release
open Idealize.ShloMosaic.Pipeline (Dat Cfg Window BodyObligation cellOf)

variable {F : FTy → Type} [FloatOps F]

/-- The rounds of the cells devices share, duties named by numbers. -/
abbrev UC : Type := URounds (GSem nD τ sig) ℕ
/-- The release counts of the receive slots: the key is the receiving device and the chunk. -/
abbrev US : Type := USlots (Dev nD × ℕ)
/-- The certificate's component: the pipeline's rounds, the shared cells' rounds, the release counts, and the counters
    of transfers inside a device. -/
abbrev UU : Type := UR sig nD τ × (UC × (US × Counters))

local notation "𝕄" => MT nD τ sig ℕ (Elt F) ℕ UU ℕ

/-- The pipeline's rounds. -/
abbrev EP : Emb (UR sig nD τ) (MT nD τ sig ℕ (Elt F) ℕ UU ℕ) := embL
/-- The shared cells' rounds. -/
def ER : Emb UC (MT nD τ sig ℕ (Elt F) ℕ UU ℕ) := (Emb.inl : Emb UC (UC × (US × Counters))).trans embR
/-- The release counts. -/
def ES : Emb US (MT nD τ sig ℕ (Elt F) ℕ UU ℕ) :=
  ((Emb.inl : Emb US (US × Counters)).trans (Emb.inr : Emb (US × Counters) (UC × (US × Counters)))).trans embR
/-- The counters of transfers inside a device. -/
abbrev EC : UEmb Counters (MT nD τ sig ℕ (Elt F) ℕ UU ℕ) := countersEmb

instance ER_landsIn : (ER : Emb UC 𝕄).LandsIn (upEmb : UEmb _ 𝕄) := by unfold ER; infer_instance
instance ES_landsIn : (ES : Emb US 𝕄).LandsIn (upEmb : UEmb _ 𝕄) := by unfold ES; infer_instance

/-- No function of the program takes a variant. -/
abbrev 𝒱₀ : Variants := Variants.none

/-- The program of device `c` runs from here to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Pieces of memory -/

section Own
variable {sp : Space} {s : Shape} {e : EltTy}

/-- Device `c` owns the piece `M` at share `q` and reads `X` in it. -/
abbrev own (c : Dev nD) (M : Memref sig .tc sp s e) (q : PosShare TreeShare) (X : s.Idx → Elt F e) : sProp 𝕄 :=
  owns (c : Thread nD τ) M q X
/-- Device `c` owns the piece `M`, whatever is in it. -/
def anyOwn (c : Dev nD) (M : Memref sig .tc sp s e) : sProp 𝕄 := iprop(∃ X, own c M fullShare X)

instance anyOwn_storable (c : Dev nD) (M : Memref sig .tc sp s e) : BI.Storable (upEmb : UEmb _ 𝕄) (anyOwn (F := F) c M) := by
  unfold anyOwn; infer_instance

omit [FloatOps F] in
/-- A piece at known contents is a piece. -/
theorem own_any (c : Dev nD) (M : Memref sig .tc sp s e) (X : s.Idx → Elt F e) : own c M fullShare X ⊢ (anyOwn c M : sProp 𝕄) := by
  unfold anyOwn; iintro H; iexists X; iexact H

omit [FloatOps F] in
/-- A piece just written is owned at what was written. -/
theorem own_written (c : Dev nD) (M : Memref sig .tc sp s e) (f : M.view.ty.Contents (Elt F)) (X : s.Idx → Elt F e) :
    (M.view.loc (c : Thread nD τ) ↦[M.view.set]{fullShare} (M.view.write (Elt F) f X Finset.univ) : sProp 𝕄) ⊢ own c M fullShare X := by
  have h := owns_intro (Ix := ℕ) (Name := ℕ) (U := UU) (Lvl := ℕ) (c : Thread nD τ) M fullShare (M.view.write (Elt F) f X Finset.univ)
  rwa [View.read_write_univ] at h

omit [FloatOps F] in
/-- A piece with an element is owned in full at most once. -/
theorem anyOwn_excl (c : Dev nD) (M : Memref sig .tc sp s e) (x : s.Idx) : iprop(anyOwn c M ∗ anyOwn c M) ⊢ (False : sProp 𝕄) := by
  unfold anyOwn own owns
  iintro ⟨⟨%X, %f, -, H⟩, ⟨%Y, %g, -, H'⟩⟩
  iapply (pointsTo_overlap_false (ℓ := M.view.loc (c : Thread nD τ)) (i := M.view.emb x) (M.view.emb_mem_set x) (M.view.emb_mem_set x))
  isplitl [H] <;> iassumption

end Own

/-! ## Loads and stores -/

section Step
variable {cs : CoreSpace} {s : Shape} {e : EltTy} {r : Rect s} {s' : Shape} {α : Type}

/-- A load of a slot: the device reads what the slot holds. -/
theorem wp_load_slot (c : Dev nD) (M : Memref sig .tc cs s e) {hl : M.view.LoadsAt r.toLoadRect}
    (hr : ∀ a, r.stride a = 1) (hq : r.shape.Squeezes s') (hc : s'.ShapeCasts r.shape)
    {V : Memref sig .tc cs s' e} (hV : (M.slice r hr).squeeze s' hq = V)
    {k : (r.shape.Idx → Elt F e) → Prog (TpuEff nD τ sig (Elt F) Λ₀ .tc) α} {q : PosShare TreeShare} {X : s'.Idx → Elt F e} {Q : α → sProp 𝕄} :
    own c V q X ⊢ iprop((own c V q X -∗ WP c (k (shapeCast r.shape X hc)) Q) -∗ WP c (.op (.load M r.toLoadRect hl) k) Q) := by
  subst hV
  unfold own owns
  iintro ⟨%f, %hf, H⟩ Hk
  have hset : (M.access r).set = ((M.slice r hr).squeeze s' hq).view.set := (View.set_reshape _ _).symm
  have hval : (M.access r).read (Elt F) f = shapeCast r.shape X hc := by
    rw [← hf]
    exact (shapeCast_shapeCast (t := s') _ hq.numel_eq _).symm
  iapply (wp_load_rect 𝒱₀ (c : Thread nD τ) none Set.univ (S := ((M.slice r hr).squeeze s' hq).view.set) (hset ▸ Finset.Subset.refl _)) $$ H
  iintro H
  rw [hval]
  iapply Hk
  iexists f
  isplitr; · ipureintro; exact hf
  iexact H

/-- A store to a slot: the slot holds what was stored. -/
theorem wp_store_slot (c : Dev nD) (M : Memref sig .tc cs s e) {w : r.shape.Idx → Elt F e} {hx : (M.access r).Stores Finset.univ}
    {hm : (Finset.univ : Finset r.shape.Idx) = Finset.univ ∨ ∀ a, r.stride a = 1}
    (hr : ∀ a, r.stride a = 1) (hq : r.shape.Squeezes s') (hc : r.shape.ShapeCasts s')
    {V : Memref sig .tc cs s' e} (hV : (M.slice r hr).squeeze s' hq = V)
    {k : PUnit → Prog (TpuEff nD τ sig (Elt F) Λ₀ .tc) α} {Q : α → sProp 𝕄} :
    anyOwn c V ⊢ iprop((own c V fullShare (shapeCast s' w hc) -∗ WP c (k ⟨⟩) Q) -∗ WP c (.op (.store M r w Finset.univ hx hm) k) Q) := by
  subst hV
  unfold anyOwn own owns
  iintro ⟨%X, %f, %hf, H⟩ Hk
  have hset : (M.access r).set = ((M.slice r hr).squeeze s' hq).view.set := (View.set_reshape _ _).symm
  iapply (wp_store 𝒱₀ (c : Thread nD τ) none Set.univ (S := ((M.slice r hr).squeeze s' hq).view.set) (by rw [View.setOn_univ, hset])) $$ H
  iintro H
  iapply Hk
  iexists ((M.access r).write (Elt F) f w Finset.univ)
  isplitr
  · ipureintro
    show shapeCast s' ((M.access r).read (Elt F) ((M.access r).write (Elt F) f w Finset.univ)) hc = _
    rw [View.read_write_univ]
  iexact H

end Step

/-! ## Transfers inside a device -/

section Local
variable {sp sp' : Space} {s : Shape} {e : EltTy} {α : Type}

/-- A transfer in flight inside device `c`: at its arrival on DMA semaphore `k` it delivers `D`. -/
def fly (c : Dev nD) (k : DmaSem sig) (N : ℕ) (D : sProp 𝕄) : sProp 𝕄 := Flight EC (c : Thread nD τ) (.dma k) 0 N D

/-- Device `c` may read the whole buffer `M` is in, at contents `f`. -/
def reads (c : Dev nD) (M : Memref sig .tc sp s e) (f : M.view.ty.Contents (Elt F)) : sProp 𝕄 :=
  iprop(∃ q, (M.view.loc (c : Thread nD τ) ↦[Finset.univ]{q} f))

/-- A copy of a piece of a buffer the device may read: it takes a piece of memory and an idle semaphore, and delivers
    the piece at what was read. -/
theorem wp_fetch (c : Dev nD) {S : Memref sig .tc sp s e} {D : Memref sig .tc sp' s e} {k : DmaSem sig} {N : ℕ}
    {hsrc : S.view.WordExact} {hdst : D.view.WordExact} {hsem : (DmaTarget.here D : DmaTarget nD τ sig .tc sp' s e).Typed sp (.dma k)}
    {f : S.view.ty.Contents (Elt F)} {K : PUnit → Prog (TpuEff nD τ sig (Elt F) Λ₀ .tc) α} {Q : α → sProp 𝕄}
    (hN : D.view.dmaCredit = N) (hN0 : 0 < N) :
    iprop(reads c S f ∗ anyOwn c D ∗ semVal ((c : Thread nD τ), .dma k) 0)
      ⊢ iprop(((reads c S f ∗ fly c k N (own c D fullShare (S.view.read (Elt F) f))) -∗ WP c (K ⟨⟩) Q)
        -∗ WP c (.op (.enqueueDma S (.here D) (.dma k) hsrc hdst hsem) K) Q) := by
  unfold reads anyOwn
  iintro ⟨⟨%q, HS⟩, ⟨%X, HD⟩, Hv⟩ Hk
  unfold own owns
  icases HD with ⟨%fd, -, HD⟩
  ihave H2 := (pointsTo_share (PosShare.mem_left_op_right q)).1 $$ HS
  icases H2 with ⟨Hl, Hr⟩
  ihave H3 := (pointsTo_split_subset (Finset.subset_univ S.view.set)).1 $$ Hr
  icases H3 with ⟨Hr, -⟩
  iapply (wp_dmaLocal EC 𝒱₀ (c : Thread nD τ) none (via := .same) (dst := D) (sm := .dma k) 0 N hN hN0 (Finset.Subset.refl _)) $$ [Hr HD Hv]
  · isplitl [Hr]; · iexact Hr
    isplitl [HD] <;> iassumption
  iintro HF
  iapply Hk
  isplitl [Hl]; · iexists q.left; iexact Hl
  unfold fly
  iapply (Flight_mono EC (c : Thread nD τ) ?_) $$ HF
  iintro ⟨HD, -⟩
  iexists _
  isplitr; · ipureintro; exact View.read_write_univ fd _
  iexact HD

/-- A copy from a piece the device owns: at its arrival it delivers the copy and gives the original back. -/
theorem wp_copyOut (c : Dev nD) {S : Memref sig .tc sp s e} {D : Memref sig .tc sp' s e} {k : DmaSem sig} {N : ℕ}
    {hsrc : S.view.WordExact} {hdst : D.view.WordExact} {hsem : (DmaTarget.here D : DmaTarget nD τ sig .tc sp' s e).Typed sp (.dma k)}
    {X : s.Idx → Elt F e} {q : PosShare TreeShare} {K : PUnit → Prog (TpuEff nD τ sig (Elt F) Λ₀ .tc) α} {Q : α → sProp 𝕄}
    (hN : D.view.dmaCredit = N) (hN0 : 0 < N) :
    iprop(own c S q X ∗ anyOwn c D ∗ semVal ((c : Thread nD τ), .dma k) 0)
      ⊢ iprop((fly c k N iprop(own c D fullShare X ∗ own c S q X) -∗ WP c (K ⟨⟩) Q)
        -∗ WP c (.op (.enqueueDma S (.here D) (.dma k) hsrc hdst hsem) K) Q) := by
  unfold anyOwn
  iintro ⟨HS, ⟨%Y, HD⟩, Hv⟩ Hk
  unfold own owns
  icases HS with ⟨%f, %hf, HS⟩
  icases HD with ⟨%fd, -, HD⟩
  iapply (wp_dmaLocal EC 𝒱₀ (c : Thread nD τ) none (via := .same) (dst := D) (sm := .dma k) 0 N hN hN0 (Finset.Subset.refl _)) $$ [HS HD Hv]
  · isplitl [HS]; · iexact HS
    isplitl [HD] <;> iassumption
  iintro HF
  iapply Hk
  unfold fly
  iapply (Flight_mono EC (c : Thread nD τ) ?_) $$ HF
  iintro ⟨HD, HS⟩
  isplitl [HD]
  · iexists _
    isplitr; · ipureintro; exact (View.read_write_univ fd _).trans hf
    iexact HD
  · iexists f; isplitr; · ipureintro; exact hf
    iexact HS

/-- Device `c` owes the units `O` to other devices' semaphores. -/
def owing (c : Dev nD) (O : CellTallies nD τ sig ℕ) : sProp 𝕄 := iprop(∃ W, owes (c : Thread nD τ) O W)

/-- The wait for a transfer inside the device: what it delivers, and the semaphore idle again. -/
theorem wp_arrive (c : Dev nD) {k : DmaSem sig} {N : ℕ} {D : sProp 𝕄} {O : CellTallies nD τ sig ℕ} {κ' : Kind}
    {s' : Shape} {e' : EltTy} {srcw : Memref sig .tc sp' s' e'} {dstw : Memref sig κ' sp s e} {hsrc : srcw.view.WordExact} {hdst : dstw.view.WordExact}
    {K : PUnit → Prog (TpuEff nD τ sig (Elt F) Λ₀ .tc) α} {Q : α → sProp 𝕄} (hN : dstw.view.dmaCredit = N) :
    iprop(fly c k N D ∗ owing c O ∗ MayWait (c : Thread nD τ) (.dma k) 0 O)
      ⊢ iprop(((D ∗ semVal ((c : Thread nD τ), .dma k) 0 ∗ owing c O) -∗ WP c (K ⟨⟩) Q)
        -∗ WP c (.op (.waitDma2 k srcw dstw hsrc hdst) K) Q) := by
  unfold fly owing
  iintro ⟨HF, ⟨%W, HO⟩, Hm⟩ Hk
  iapply (wp_waitLocalO EC 𝒱₀ (c : Thread nD τ) none 0 hN) $$ [HF HO Hm]
  · isplitl [HF]; · iexact HF
    isplitl [HO] <;> iassumption
  iintro ⟨HD, Hv, HO⟩
  iapply Hk
  isplitl [HD]; · iexact HD
  isplitl [Hv]; · iexact Hv
  iexists _; iexact HO

end Local

end Cert.MeshSum
end
-- ==== Proof.Split.lean ====
/-
  Separating conjunctions over small index sets, cut into parts and put in another order.
-/
module

public import proofs.«01_k».proof.Proof.Common

@[expose] public section

noncomputable section

namespace Cert.MeshSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Release
open Idealize.ShloMosaic.Pipeline (Dat Cfg Window BodyObligation cellOf)

variable {F : FTy → Type} [FloatOps F]

local notation "𝕄" => MT nD τ sig ℕ (Elt F) ℕ UU ℕ

section
variable {M : Type} [URA M]

/-- A conjunction over `a + b` indices: the first `a` and the last `b`. -/
theorem bigSep_fin_add {a b : ℕ} (Φ : Fin (a + b) → sProp M) :
    bigSep Finset.univ Φ = iprop((bigSep Finset.univ fun i : Fin a => Φ (Fin.castAdd b i)) ∗ bigSep Finset.univ fun i : Fin b => Φ (Fin.natAdd a i)) := by
  rw [bigSep_univ_equiv finSumFinEquiv Φ, bigSep_univ_sum]
  simp only [finSumFinEquiv_apply_left, finSumFinEquiv_apply_right]
  rfl

/-- A conjunction over six slots is one over the first six chunks. -/
theorem bigSep_first_six (Φ : Fin 6 → sProp M) :
    bigSep Finset.univ Φ = bigSep Finset.univ fun p : Fin 16 => if p.val < 6 then Φ (slotOf p.val) else iprop(emp) := by
  refine Eq.trans ?_ (bigSep_filter Finset.univ (fun p : Fin 16 => p.val < 6) (fun p => Φ (slotOf p.val)))
  rw [show Finset.univ.filter (fun p : Fin 16 => p.val < 6) = Finset.univ.map ⟨fun s : Fin 6 => (⟨s.val, by omega⟩ : Fin 16), fun a b h => Fin.ext (Fin.mk.inj h)⟩ from by decide,
    bigSep_map]
  exact bigSep_congr fun s _ => congrArg Φ (Fin.ext (Nat.mod_eq_of_lt s.isLt).symm)
/-- A conjunction over six slots is one over the last six chunks. -/
theorem bigSep_last_six (Φ : Fin 6 → sProp M) :
    bigSep Finset.univ Φ = bigSep Finset.univ fun p : Fin 16 => if p.val < 10 then iprop(emp) else Φ (slotOf p.val) := by
  have h : (fun p : Fin 16 => if p.val < 10 then iprop(emp) else Φ (slotOf p.val)) = fun p : Fin 16 => if ¬ p.val < 10 then Φ (slotOf p.val) else iprop(emp) :=
    funext fun p => (ite_not _ _ _).symm
  rw [h]
  refine Eq.trans ?_ (bigSep_filter Finset.univ (fun p : Fin 16 => ¬ p.val < 10) (fun p => Φ (slotOf p.val)))
  rw [show Finset.univ.filter (fun p : Fin 16 => ¬ p.val < 10) = Finset.univ.map ⟨fun s : Fin 6 => (⟨10 + (s.val + 2) % 6, by omega⟩ : Fin 16), by decide⟩ from by decide,
    bigSep_map]
  refine bigSep_congr fun s _ => congrArg Φ (Fin.ext ?_)
  have := s.isLt
  show s.val = (10 + (s.val + 2) % 6) % 6
  omega
/-- A conjunction over ten numbers is one over the first ten chunks. -/
theorem bigSep_first_ten (Φ : ℕ → sProp M) :
    bigSep (Finset.range 10) Φ = bigSep Finset.univ fun p : Fin 16 => if p.val < 10 then Φ p.val else iprop(emp) := by
  refine Eq.trans ?_ (bigSep_filter Finset.univ (fun p : Fin 16 => p.val < 10) (fun p => Φ p.val))
  rw [show Finset.range 10 = (Finset.univ.filter (fun p : Fin 16 => p.val < 10)).map Fin.valEmbedding from by decide,
    bigSep_map]
  rfl
/-- A conjunction over ten numbers is one over the last ten chunks. -/
theorem bigSep_last_ten (Φ : ℕ → sProp M) :
    bigSep (Finset.range 10) Φ = bigSep Finset.univ fun p : Fin 16 => if p.val < 6 then iprop(emp) else Φ (p.val - 6) := by
  have h : (fun p : Fin 16 => if p.val < 6 then iprop(emp) else Φ (p.val - 6)) = fun p : Fin 16 => if ¬ p.val < 6 then Φ (p.val - 6) else iprop(emp) :=
    funext fun p => (ite_not _ _ _).symm
  rw [h]
  refine Eq.trans ?_ (bigSep_filter Finset.univ (fun p : Fin 16 => ¬ p.val < 6) (fun p => Φ (p.val - 6)))
  rw [show Finset.univ.filter (fun p : Fin 16 => ¬ p.val < 6) = (Finset.univ : Finset (Fin 10)).map ⟨fun s : Fin 10 => (⟨6 + s.val, by omega⟩ : Fin 16), by decide⟩ from by decide,
    show Finset.range 10 = (Finset.univ : Finset (Fin 10)).map Fin.valEmbedding from by decide,
    bigSep_map, bigSep_map]
  refine bigSep_congr fun s _ => congrArg Φ ?_
  show s.val = 6 + s.val - 6
  omega

/-- A conjunction over the devices, taken at each device's `x` neighbour. -/
theorem bigSep_at_xn (Φ : Dev nD → sProp M) : bigSep Finset.univ Φ = bigSep Finset.univ fun c => Φ (xn c) :=
  bigSep_univ_equiv ⟨xn, xn, xn_xn, xn_xn⟩ Φ
/-- A conjunction over the devices, taken at each device's `y` neighbour. -/
theorem bigSep_at_yn (Φ : Dev nD → sProp M) : bigSep Finset.univ Φ = bigSep Finset.univ fun c => Φ (yn c) :=
  bigSep_univ_equiv ⟨yn, yn, yn_yn, yn_yn⟩ Φ
end

end Cert.MeshSum
end
-- ==== Proof.Contents.lean ====
/-
  What the buffers hold: the tiles the kernel multiplies, the running sums over a chunk's tiles, a device's sum for
  a chunk, and the finished tile of the result.
-/
module

public import proofs.«01_k».proof.Proof.Common

@[expose] public section

noncomputable section

namespace Cert.MeshSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- A tile number as the index of a tile. -/
def kix (k : ℕ) : Fin 8 := ⟨k % 8, Nat.mod_lt _ (by decide)⟩

/-- Device `c`'s first argument at launch. -/
abbrev argA (c : Dev nD) : (main_arg0 : Ref sig .tc).ty.Contents (Elt F) := m ((c : Thread nD τ).loc main_arg0)
/-- Device `c`'s second argument at launch. -/
abbrev argB (c : Dev nD) : (main_arg1 : Ref sig .tc).ty.Contents (Elt F) := m ((c : Thread nD τ).loc main_arg1)

/-- Tile `k` of device `c`'s first argument, for chunk `p`. -/
def dyT (c : Dev nD) (p : Fin 16) (k : ℕ) : S1024x1024.Idx → Elt F .f32 := (dyS (col c) p (kix k)).view.read (Elt F) (argA m c)
/-- Tile `k` of device `c`'s second argument, for chunk `p`. -/
def wT (c : Dev nD) (p : Fin 16) (k : ℕ) : S512x1024.Idx → Elt F .f32 := (wS p (kix k)).view.read (Elt F) (argB m c)

/-- A product of two tiles, as stored. -/
def tile1 (X : S1024x1024.Idx → Elt F .f32) (Y : S512x1024.Idx → Elt F .f32) : S1024x512.Idx → Elt F .f32 :=
  shapeCast S1024x512 (k0_pay1 (shapeCast S1x1024x1024 X (squeezes_S1x1024x1024_S1024x1024.numel_eq.symm)) (shapeCast S1x512x1024 Y (squeezes_S1x512x1024_S512x1024.numel_eq.symm)))
    shapeCasts_S1x1024x512_S1024x512
/-- A product of two tiles added to a running sum, as stored. -/
def tile2 (Z : S1024x512.Idx → Elt F .f32) (X : S1024x1024.Idx → Elt F .f32) (Y : S512x1024.Idx → Elt F .f32) : S1024x512.Idx → Elt F .f32 :=
  shapeCast S1024x512 (k0_pay2 (shapeCast S1x1024x512 Z shapeCasts_S1024x512_S1x1024x512) (shapeCast S1x1024x1024 X (squeezes_S1x1024x1024_S1024x1024.numel_eq.symm)) (shapeCast S1x512x1024 Y (squeezes_S1x512x1024_S512x1024.numel_eq.symm)))
    shapeCasts_S1x1024x512_S1024x512
/-- Two devices' sums added, as stored. -/
def tileSum (X Y : S1024x512.Idx → Elt F .f32) : S1024x512.Idx → Elt F .f32 :=
  shapeCast S1024x512 (k0_pay4 (k0_pay3 (shapeCast S1x1024x512 X shapeCasts_S1024x512_S1x1024x512) (shapeCast S1x1024x512 Y shapeCasts_S1024x512_S1x1024x512)))
    shapeCasts_S1x1024x512_S1024x512

/-- The running sum of chunk `p` after tiles `0 … j`. -/
def partV (c : Dev nD) (p : Fin 16) : ℕ → S1024x512.Idx → Elt F .f32
  | 0 => tile1 (dyT m c p 0) (wT m c p 0)
  | j + 1 => tile2 (partV c p j) (dyT m c p (j + 1)) (wT m c p (j + 1))
/-- Device `c`'s sum for chunk `p`. -/
def part (c : Dev nD) (p : Fin 16) : S1024x512.Idx → Elt F .f32 := partV m c p 7
/-- The finished tile `p` of device `c`'s half of the result. -/
def finT (c : Dev nD) (p : Fin 16) : S1024x512.Idx → Elt F .f32 := tileSum (part m c p) (part m (xn c) p)

end Cert.MeshSum
end
-- ==== Proof.Sched.lean ====
/-
  The semaphores devices share, what each arrival on them hands over, and the order the waits are made in.

  Chunk `p` has four transfer semaphores on every device: the send and the arrival of the `x` exchange and of the `y`
  exchange. Besides these a device has the start barrier, raised once by either neighbour, and the credit semaphore,
  raised by the `x` neighbour each time it has emptied a receive slot.
-/
module

public import proofs.«01_k».proof.Proof.Contents

@[expose] public section

noncomputable section

namespace Cert.MeshSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- The semaphore of the departure of chunk `p` to the `x` neighbour. -/
def xsS (p : Fin 16) : DmaSem sig := ⟨4 + p.val, by have := p.isLt; show 4 + p.val < 74; omega⟩
/-- The semaphore of the arrival of the `x` neighbour's chunk `p`. -/
def xrS (p : Fin 16) : DmaSem sig := ⟨20 + p.val, by have := p.isLt; show 20 + p.val < 74; omega⟩
/-- The semaphore of the departure of chunk `p` to the `y` neighbour. -/
def ysS (p : Fin 16) : DmaSem sig := ⟨36 + p.val, by have := p.isLt; show 36 + p.val < 74; omega⟩
/-- The semaphore of the arrival of the `y` neighbour's chunk `p`. -/
def yrS (p : Fin 16) : DmaSem sig := ⟨52 + p.val, by have := p.isLt; show 52 + p.val < 74; omega⟩
/-- The semaphore of the copy of slot `s` to the result. -/
def ocS (s : Fin 6) : DmaSem sig := ⟨68 + s.val, by have := s.isLt; show 68 + s.val < 74; omega⟩
/-- The semaphore of the fetch of a first-argument tile. -/
def dyK (s : Fin 2) : DmaSem sig := ⟨0 + s.val, by have := s.isLt; show 0 + s.val < 74; omega⟩
/-- The semaphore of the fetch of a second-argument tile. -/
def wK (s : Fin 2) : DmaSem sig := ⟨2 + s.val, by have := s.isLt; show 2 + s.val < 74; omega⟩
/-- The start barrier's semaphore. -/
abbrev barS : Sem sig := (SemArray.scalar (sig.barrier 0 rfl) : Sems sig S_).sem
/-- The credit semaphore. -/
abbrev crS : Sem sig := (cc0_scratch11 : Sems sig S_).sem

/-- Device `c`'s semaphore `s`. -/
abbrev dcell (c : Dev nD) (k : DmaSem sig) : GSem nD τ sig := ((c : Thread nD τ), .dma k)
/-- Device `c`'s regular semaphore `s`. -/
abbrev rcell (c : Dev nD) (s : Sem sig) : GSem nD τ sig := ((c : Thread nD τ), .reg s)

/-! ## What each arrival hands over -/

/-- The chunk's slot comes back. -/
def xsPay (c : Dev nD) (p : Fin 16) : sProp 𝕄 := own c (accV (slotOf p)) fullShare (part m c p)
/-- The receive slot holds the `x` neighbour's sum. -/
def xrPay (c : Dev nD) (p : Fin 16) : sProp 𝕄 := own c (recV (slotOf p)) fullShare (part m (xn c) p)
/-- Half the share of the finished slot comes back. -/
def ysPay (c : Dev nD) (p : Fin 16) : sProp 𝕄 := own c (accV (slotOf p)) fullShare.left (finT m c p)
/-- The tile of the other half of the result holds the `y` neighbour's finished tile. -/
def yrPay (c : Dev nD) (p : Fin 16) : sProp 𝕄 := own c (outV (col (yn c)) p) fullShare (finT m (yn c) p)
/-- The `x` neighbour's receive slots, to write into. -/
def barX (c : Dev nD) : sProp 𝕄 := bigSep Finset.univ fun s : Fin 6 => anyOwn (F := F) (xn c) (recV s)
/-- The tiles of the `y` neighbour's result that `c` is to write. -/
def barY (c : Dev nD) : sProp 𝕄 := bigSep Finset.univ fun p : Fin 16 => anyOwn (F := F) (yn c) (outV (col c) p)
/-- The `x` neighbour has emptied its receive slots of chunks `0 … d`. -/
def crPay (c : Dev nD) (d : ℕ) : sProp 𝕄 := bigSep (Finset.range (d + 1)) fun i => released (ES (F := F)) (xn c, i) 1

/-- What the arrival on transfer semaphore `k` of device `c` hands over. -/
def dmaPay (c : Dev nD) (k : DmaSem sig) : sProp 𝕄 :=
  if h : k.val - 4 < 16 ∧ 4 ≤ k.val then xsPay m c ⟨k.val - 4, h.1⟩
  else if h : k.val - 20 < 16 ∧ 4 ≤ k.val then xrPay m c ⟨k.val - 20, h.1⟩
  else if h : k.val - 36 < 16 ∧ 4 ≤ k.val then ysPay m c ⟨k.val - 36, h.1⟩
  else if h : k.val - 52 < 16 ∧ 4 ≤ k.val then yrPay m c ⟨k.val - 52, h.1⟩
  else iprop(emp)
/-- What unit `d` on regular semaphore `s` of device `c` hands over. -/
def regPay (c : Dev nD) (s : Sem sig) (d : ℕ) : sProp 𝕄 :=
  if s = barS then (if d = 0 then barX c else barY c) else crPay c d

/-- Transfer semaphore `k` is one of those devices share. -/
abbrev Shared (k : DmaSem sig) : Prop := 4 ≤ k.val ∧ k.val < 68
instance (k : DmaSem sig) : Decidable (Shared k) := inferInstanceAs (Decidable (_ ∧ _))

/-- The units raised on a semaphore. -/
def dutiesOf : SemLoc sig → Finset ℕ
  | .dma k => if Shared k then {0} else ∅
  | .reg s => if s = barS then {0, 1} else Finset.range 10
/-- The amount of a unit. -/
def amountOf : SemLoc sig → ℕ
  | .dma _ => NT
  | .reg _ => 1
/-- What a unit hands over. -/
def payOf (c : Dev nD) : SemLoc sig → ℕ → sProp 𝕄
  | .dma k, _ => dmaPay m c k
  | .reg s, d => regPay c s d
/-- Every unit is positive. -/
theorem amountOf_pos (s : SemLoc sig) : 0 < amountOf s := by
  cases s
  · exact Nat.one_pos
  · show 0 < NT; decide

/-- The rounds of the shared semaphores: one round each. -/
def Rd : Rounds.Schedule (GSem nD τ sig) ℕ 𝕄 where
  duties g r := if r = 0 ∧ g.1.2 = .tc then dutiesOf g.2 else ∅
  unitless _ := False
  amount g _ _ := amountOf g.2
  payload g _ d := payOf m g.1.1 g.2 d
  amount_pos g _ _ _ := amountOf_pos g.2

omit [FloatOps F] in
instance barX_storable (c : Dev nD) : BI.Storable (upEmb : UEmb _ 𝕄) (barX (F := F) c) := by unfold barX; infer_instance
omit [FloatOps F] in
instance barY_storable (c : Dev nD) : BI.Storable (upEmb : UEmb _ 𝕄) (barY (F := F) c) := by unfold barY; infer_instance
omit [FloatOps F] in
instance crPay_storable (c : Dev nD) (d : ℕ) : BI.Storable (upEmb : UEmb _ 𝕄) (crPay (F := F) c d) := by unfold crPay; infer_instance
omit [FloatOps F] in
instance crPay_persistent (c : Dev nD) (d : ℕ) : BI.Persistent (crPay (F := F) c d) := by unfold crPay; infer_instance

instance Rd_payload_storable (g : GSem nD τ sig) (r : ℕ) (d : ℕ) : BI.Storable (upEmb : UEmb _ 𝕄) ((Rd m).payload g r d) := by
  rcases g with ⟨t, s | k⟩
  · show BI.Storable upEmb (regPay t.1 s d)
    unfold regPay
    (repeat' split) <;> infer_instance
  · show BI.Storable upEmb (dmaPay m t.1 k)
    unfold dmaPay xsPay xrPay ysPay yrPay
    (repeat' split) <;> infer_instance

/-! ## The schedule, read off -/

/-- What the departure of chunk `p` along `x` hands over. -/
theorem dmaPay_xs (c : Dev nD) (p : Fin 16) : dmaPay m c (xsS p) = xsPay m c p := by
  have := p.isLt
  unfold dmaPay xsS
  rw [dif_pos (by dsimp only; omega)]
  congr 1; exact Fin.ext (by simp)
/-- What the arrival of chunk `p` along `x` hands over. -/
theorem dmaPay_xr (c : Dev nD) (p : Fin 16) : dmaPay m c (xrS p) = xrPay m c p := by
  have := p.isLt
  unfold dmaPay xrS
  rw [dif_neg (by dsimp only; omega), dif_pos (by dsimp only; omega)]
  congr 1; exact Fin.ext (by simp)
/-- What the departure of chunk `p` along `y` hands over. -/
theorem dmaPay_ys (c : Dev nD) (p : Fin 16) : dmaPay m c (ysS p) = ysPay m c p := by
  have := p.isLt
  unfold dmaPay ysS
  rw [dif_neg (by dsimp only; omega), dif_neg (by dsimp only; omega), dif_pos (by dsimp only; omega)]
  congr 1; exact Fin.ext (by simp)
/-- What the arrival of chunk `p` along `y` hands over. -/
theorem dmaPay_yr (c : Dev nD) (p : Fin 16) : dmaPay m c (yrS p) = yrPay m c p := by
  have := p.isLt
  unfold dmaPay yrS
  rw [dif_neg (by dsimp only; omega), dif_neg (by dsimp only; omega), dif_neg (by dsimp only; omega), dif_pos (by dsimp only; omega)]
  congr 1; exact Fin.ext (by simp)

/-- The units of a device's semaphore in the only round. -/
theorem duties_of (c : Dev nD) (s : SemLoc sig) : (Rd m).duties ((c : Thread nD τ), s) 0 = dutiesOf s := by
  dsimp only [Rd]; exact if_pos ⟨rfl, rfl⟩
/-- A shared transfer semaphore has one arrival. -/
theorem duties_dma (c : Dev nD) {k : DmaSem sig} (h : Shared k) : (Rd m).duties (dcell c k) 0 = {0} :=
  (duties_of m c _).trans (if_pos h)
/-- The barrier is raised twice. -/
theorem duties_bar (c : Dev nD) : (Rd m).duties (rcell c barS) 0 = {0, 1} := by
  rw [duties_of]; unfold dutiesOf; dsimp only; rw [if_pos rfl]
/-- The credit semaphore is not the barrier. -/
theorem cr_ne_bar : crS ≠ barS := by decide
/-- The credit semaphore is raised ten times. -/
theorem duties_cr (c : Dev nD) : (Rd m).duties (rcell c crS) 0 = Finset.range 10 := by
  rw [duties_of]; unfold dutiesOf; dsimp only; rw [if_neg cr_ne_bar]
/-- There is one round only. -/
theorem duties_later (g : GSem nD τ sig) : ∀ r, 1 ≤ r → (Rd m).duties g r = ∅ := fun r hr => if_neg fun h => by omega
/-- A transfer semaphore receives a whole tile. -/
theorem expect_dma (c : Dev nD) {k : DmaSem sig} (h : Shared k) : (Rd m).expect (dcell c k) 0 = NT := by
  unfold Schedule.expect Schedule.amountOf; rw [duties_dma m c h, Finset.sum_singleton]; rfl
/-- The barrier receives two units. -/
theorem expect_bar (c : Dev nD) : (Rd m).expect (rcell c barS) 0 = 2 := by
  unfold Schedule.expect Schedule.amountOf; rw [duties_bar m c]; rfl
/-- The credit semaphore receives ten units. -/
theorem expect_cr (c : Dev nD) : (Rd m).expect (rcell c crS) 0 = 10 := by
  unfold Schedule.expect Schedule.amountOf; rw [duties_cr m c]; rfl
/-- The barrier's two units. -/
theorem payload_bar (c : Dev nD) (d : ℕ) : (Rd m).payload (rcell c barS) 0 d = if d = 0 then barX c else barY c := by
  show (if barS = barS then (if d = 0 then barX c else barY c) else crPay c d : sProp 𝕄) = _
  rw [if_pos rfl]
/-- The credit semaphore's units. -/
theorem payload_cr (c : Dev nD) (d : ℕ) : (Rd m).payload (rcell c crS) 0 d = crPay c d := by
  show (if crS = barS then (if d = 0 then barX c else barY c) else crPay c d : sProp 𝕄) = _
  rw [if_neg cr_ne_bar]

/-! ## What a device owes, and the order of its waits -/

/-- The arrivals along `x` of chunks `a … 15`. -/
def xrO (c : Dev nD) (a : ℕ) : CellTallies nD τ sig ℕ := ∑ p ∈ Finset.univ.filter (fun p : Fin 16 => a ≤ p.val), tallyAt (dcell (xn c) (xrS p)) 0 NT
/-- The credits `e … 9`. -/
def crO (c : Dev nD) (e : ℕ) : CellTallies nD τ sig ℕ := ∑ j ∈ Finset.univ.filter (fun j : Fin 10 => e ≤ j.val), tallyAt (rcell (xn c) crS) j.val 1
/-- The arrivals along `y` of chunks `b … 15`. -/
def yrO (c : Dev nD) (b : ℕ) : CellTallies nD τ sig ℕ := ∑ p ∈ Finset.univ.filter (fun p : Fin 16 => b ≤ p.val), tallyAt (dcell (yn c) (yrS p)) 0 NT
/-- What device `c` owes when it has sent `a` chunks along `x`, given `e` credits, and sent `b` chunks along `y`. -/
def due (c : Dev nD) (a e b : ℕ) : CellTallies nD τ sig ℕ := xrO c a + crO c e + yrO c b

/-- A sum over the indices from `a` on, the first taken off. -/
theorem sum_peel {n : ℕ} {M : Type} [AddCommMonoid M] (f : Fin n → M) (p : Fin n) :
    ∑ q ∈ Finset.univ.filter (fun q : Fin n => p.val ≤ q.val), f q = ∑ q ∈ Finset.univ.filter (fun q : Fin n => p.val + 1 ≤ q.val), f q + f p := by
  have h : Finset.univ.filter (fun q : Fin n => p.val ≤ q.val) = insert p (Finset.univ.filter (fun q : Fin n => p.val + 1 ≤ q.val)) := by
    ext q
    simp only [Finset.mem_filter, Finset.mem_univ, true_and, Finset.mem_insert, Fin.ext_iff]
    omega
  rw [h, Finset.sum_insert (by simp), add_comm]

/-- Sending chunk `a` along `x` pays one arrival. -/
theorem due_x (c : Dev nD) (p : Fin 16) (e b : ℕ) : due c p.val e b = due c (p.val + 1) e b + tallyAt (dcell (xn c) (xrS p)) 0 NT := by
  unfold due xrO; rw [sum_peel _ p]; ac_rfl
/-- Giving credit `e` pays one unit. -/
theorem due_c (c : Dev nD) (a : ℕ) (j : Fin 10) (b : ℕ) : due c a j.val b = due c a (j.val + 1) b + tallyAt (rcell (xn c) crS) j.val 1 := by
  unfold due crO; rw [sum_peel _ j]; ac_rfl
/-- Sending chunk `b` along `y` pays one arrival. -/
theorem due_y (c : Dev nD) (a e : ℕ) (p : Fin 16) : due c a e p.val = due c a e (p.val + 1) + tallyAt (dcell (yn c) (yrS p)) 0 NT := by
  unfold due yrO; rw [sum_peel _ p]; ac_rfl
/-- At the end nothing is owed. -/
theorem due_end (c : Dev nD) : due c 16 10 16 = 0 := by
  have h (n : ℕ) : Finset.univ.filter (fun q : Fin n => n ≤ q.val) = ∅ := by
    ext q; have := q.isLt; simp
  unfold due xrO crO yrO; rw [h 16, h 10, Finset.sum_empty, Finset.sum_empty, Finset.sum_empty, add_zero, add_zero]

/-- A positive entry of a sum of single entries is one of them. -/
theorem sum_tally_pos {n : ℕ} {s : Finset (Fin n)} {f : Fin n → GSem nD τ sig} {h k : Fin n → ℕ} {g : GSem nD τ sig} {u : ℕ}
    (hp : 0 < (∑ p ∈ s, tallyAt (f p) (h p) (k p) : CellTallies nD τ sig ℕ) g u) : ∃ p ∈ s, g = f p ∧ u = h p := by
  rw [Finset.sum_apply, Finsupp.finset_sum_apply] at hp
  obtain ⟨p, hps, hpp⟩ := Finset.exists_ne_zero_of_sum_ne_zero (Nat.pos_iff_ne_zero.mp hp)
  refine ⟨p, hps, ?_⟩
  rw [tallyAt_apply] at hpp
  by_contra hn
  exact hpp (if_neg hn)

/-- What is owed, case by case. -/
theorem due_pos {c : Dev nD} {a e b : ℕ} {g : GSem nD τ sig} {u : ℕ} (h : 0 < due c a e b g u) :
    (∃ p : Fin 16, a ≤ p.val ∧ g = dcell (xn c) (xrS p) ∧ u = 0) ∨ (∃ j : Fin 10, e ≤ j.val ∧ g = rcell (xn c) crS ∧ u = j.val)
      ∨ (∃ p : Fin 16, b ≤ p.val ∧ g = dcell (yn c) (yrS p) ∧ u = 0) := by
  unfold due at h
  rw [Pi.add_apply, Pi.add_apply, Finsupp.add_apply, Finsupp.add_apply] at h
  rcases Nat.eq_zero_or_pos (xrO c a g u) with h1 | h1
  · rcases Nat.eq_zero_or_pos (crO c e g u) with h2 | h2
    · have h3 : 0 < yrO c b g u := by omega
      obtain ⟨p, hp, hg⟩ := sum_tally_pos h3
      exact .inr (.inr ⟨p, (Finset.mem_filter.mp hp).2, hg⟩)
    · obtain ⟨p, hp, hg⟩ := sum_tally_pos h2
      exact .inr (.inl ⟨p, (Finset.mem_filter.mp hp).2, hg⟩)
  · obtain ⟨p, hp, hg⟩ := sum_tally_pos h1
    exact .inl ⟨p, (Finset.mem_filter.mp hp).2, hg⟩

/-- The units of a semaphore are told apart on the credit semaphore only. -/
def L (g : GSem nD τ sig) : Finset ℕ := if g.1.2 = .tc then (match g.2 with | .dma _ => {0} | .reg s => if s = crS then Finset.range 10 else {0}) else ∅
/-- The level of a semaphore: arrivals along `x` and credits rise together with the chunk, arrivals along `y` are above
    all of them, everything else is below. -/
def lev (s : SemLoc sig) (u : ℕ) : ℕ := match s with
  | .dma k => if 20 ≤ k.val ∧ k.val < 36 then 2 * (k.val - 20) + 1 else if 52 ≤ k.val ∧ k.val < 68 then 1000 + (k.val - 52) else 0
  | .reg s => if s = crS then 2 * u + 2 else 0
/-- The level of a semaphore of a device. -/
def lv (g : GSem nD τ sig) (u : ℕ) : ℕ := lev g.2 u

/-- No other thread has semaphores. -/
theorem L_of_ne (g : GSem nD τ sig) (h : g.1.2 ≠ .tc) : L g = ∅ := if_neg h
/-- The units of a transfer semaphore. -/
theorem L_dma (c : Dev nD) (k : DmaSem sig) : L (dcell c k) = {0} := if_pos rfl
/-- The units of the barrier. -/
theorem L_bar (c : Dev nD) : L (rcell c barS) = {0} := by
  show (if _ then (if barS = crS then Finset.range 10 else {0}) else ∅) = _
  rw [if_pos rfl, if_neg cr_ne_bar.symm]
/-- The units of the credit semaphore. -/
theorem L_cr (c : Dev nD) : L (rcell c crS) = Finset.range 10 := by
  show (if _ then (if crS = crS then Finset.range 10 else {0}) else ∅) = _
  rw [if_pos rfl, if_pos rfl]
/-- The level of an arrival along `x`. -/
theorem lev_xr (p : Fin 16) (u : ℕ) : lev (.dma (xrS p)) u = 2 * p.val + 1 := by
  have := p.isLt
  unfold lev xrS; dsimp only; rw [if_pos (by omega)]; omega
/-- The level of an arrival along `y`. -/
theorem lev_yr (p : Fin 16) (u : ℕ) : lev (.dma (yrS p)) u = 1000 + p.val := by
  have := p.isLt
  unfold lev yrS; dsimp only; rw [if_neg (by omega), if_pos (by omega)]; omega
/-- The level of a credit. -/
theorem lev_cr (u : ℕ) : lev (.reg crS) u = 2 * u + 2 := by unfold lev; dsimp only; rw [if_pos rfl]

/-- Level `l` is below everything owed at the counts `a`, `e`, `b`. -/
def Below (l a e b : ℕ) : Prop := (a < 16 → l < 2 * a + 1) ∧ (e < 10 → l < 2 * e + 2) ∧ (b < 16 → l < 1000 + b)

/-- Level 0 is below everything. -/
theorem below_zero (a e b : ℕ) : Below 0 a e b := by unfold Below; omega

omit [FloatOps F] in
/-- A device may wait on a unit that is below everything it owes. -/
theorem mayWait (c : Dev nD) {sm : SemLoc sig} {u a e b : ℕ} (hL : u ∈ L ((c : Thread nD τ), sm)) (hb : Below (lev sm u) a e b) :
    (levAts L lv : sProp 𝕄) ⊢ MayWait (c : Thread nD τ) sm u (due c a e b) := by
  refine MayOwe.of_cut (L := L) (lev := lv) (lev sm u) (fun p hp => by rw [Finset.mem_singleton.mp hp]; exact hL) (fun g i hg => ?_)
    (fun p hp => by rw [Finset.mem_singleton.mp hp]; exact le_rfl) (fun g i hg => ?_)
  · rcases due_pos hg with ⟨p, -, rfl, rfl⟩ | ⟨j, -, rfl, rfl⟩ | ⟨p, -, rfl, rfl⟩
    · rw [L_dma]; exact Finset.mem_singleton_self _
    · rw [L_cr]; exact Finset.mem_range.mpr j.isLt
    · rw [L_dma]; exact Finset.mem_singleton_self _
  · obtain ⟨h1, h2, h3⟩ := hb
    rcases due_pos hg with ⟨p, hp, rfl, rfl⟩ | ⟨j, hp, rfl, rfl⟩ | ⟨p, hp, rfl, rfl⟩
    · show _ < lev (.dma (xrS p)) 0
      have := p.isLt
      rw [lev_xr]; have := h1 (by omega); omega
    · show _ < lev (.reg crS) j.val
      have := j.isLt
      rw [lev_cr]; have := h2 (by omega); omega
    · show _ < lev (.dma (yrS p)) 0
      have := p.isLt
      rw [lev_yr]; have := h3 (by omega); omega

end Cert.MeshSum
end
-- ==== Proof.Shared.lean ====
/-
  The operations on shared semaphores: sending a chunk to a neighbour, waiting for an arrival, raising and waiting for
  credits, and emptying and taking a receive slot.
-/
module

public import proofs.«01_k».proof.Proof.Sched

@[expose] public section

noncomputable section

namespace Cert.MeshSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## What every device knows -/

/-- The shared semaphores: the 64 transfer semaphores, the barrier, the credit semaphore. -/
def csem (k : Fin 66) : SemLoc sig :=
  if h : k.val < 64 then .dma ⟨4 + k.val, by show 4 + k.val < 74; omega⟩ else if k.val = 64 then .reg barS else .reg crS
/-- A device's shared semaphores. -/
def kcell (ck : Dev nD × Fin 66) : GSem nD τ sig := ((ck.1 : Thread nD τ), csem ck.2)

/-- The chunks whose receive slot is emptied for another chunk, on every device. -/
def keys : Finset (Dev nD × ℕ) := Finset.univ ×ˢ Finset.range 10
/-- The receive slot of a chunk. -/
def recSlot (x : Dev nD × ℕ) : sProp 𝕄 := anyOwn (F := F) x.1 (recV (slotOf x.2))

omit [FloatOps F] in
instance recSlot_storable (x : Dev nD × ℕ) : BI.Storable (upEmb : UEmb _ 𝕄) (recSlot (F := F) x) := by unfold recSlot; infer_instance

variable (K : Dev nD × Fin 66 → ℕ) (J : Dev nD × ℕ → ℕ)

/-- The invariants of the shared semaphores and of the receive slots, and the levels. -/
def recs : sProp 𝕄 :=
  iprop((bigSep Finset.univ fun ck : Dev nD × Fin 66 => cellInv ER (Rd m) (K ck) (kcell ck))
    ∗ (bigSep Finset.univ fun ck : Dev nD × Fin 66 => reached (ER (F := F)) (kcell ck) 0)
    ∗ (bigSep keys fun x => slotInv (ES (F := F)) (J x) x (recSlot x)) ∗ levAts L lv)

instance recs_persistent : BI.Persistent (recs m K J) := by unfold recs; infer_instance

/-- A transfer semaphore devices share is one of the list. -/
theorem kcell_dma (c : Dev nD) {k : DmaSem sig} (h : Shared k) : ∃ ck : Dev nD × Fin 66, kcell ck = dcell c k := by
  refine ⟨(c, ⟨k.val - 4, by omega⟩), ?_⟩
  unfold kcell csem
  rw [dif_pos (by dsimp only; omega)]
  refine congrArg (fun x : DmaSem sig => ((c : Thread nD τ), SemLoc.dma x)) (Fin.ext ?_)
  dsimp only; omega
/-- So is the barrier. -/
theorem kcell_bar (c : Dev nD) : ∃ ck : Dev nD × Fin 66, kcell ck = rcell c barS := ⟨(c, 64), rfl⟩
/-- So is the credit semaphore. -/
theorem kcell_cr (c : Dev nD) : ∃ ck : Dev nD × Fin 66, kcell ck = rcell c crS := ⟨(c, 65), rfl⟩

/-- The invariant of a shared semaphore. -/
theorem recs_cell {g : GSem nD τ sig} (h : ∃ ck, kcell ck = g) :
    recs m K J ⊢ iprop(∃ κ : ℕ, cellInv ER (Rd m) κ g ∗ reached (ER (F := F)) g 0) := by
  obtain ⟨ck, rfl⟩ := h
  have hI : (bigSep Finset.univ fun ck : Dev nD × Fin 66 => cellInv ER (Rd m) (K ck) (kcell ck)) ⊢ cellInv ER (Rd m) (K ck) (kcell ck) :=
    bigSep_elim (Finset.mem_univ ck)
  have hR : (bigSep Finset.univ fun ck : Dev nD × Fin 66 => reached (ER (F := F)) (kcell ck) 0) ⊢ reached (ER (F := F)) (kcell ck) 0 :=
    bigSep_elim (Finset.mem_univ ck)
  unfold recs
  iintro ⟨#HI, #HR, -, -⟩
  iexists K ck
  isplitr
  · iapply hI; iexact HI
  · iapply hR; iexact HR
/-- The invariant of a receive slot. -/
theorem recs_slot (c : Dev nD) {j : ℕ} (h : j < 10) : recs m K J ⊢ slotInv (ES (F := F)) (J (c, j)) (c, j) (recSlot (c, j)) := by
  have hJ : (bigSep keys fun x => slotInv (ES (F := F)) (J x) x (recSlot x)) ⊢ slotInv (ES (F := F)) (J (c, j)) (c, j) (recSlot (c, j)) :=
    bigSep_elim (show (c, j) ∈ keys from Finset.mem_product.mpr ⟨Finset.mem_univ _, Finset.mem_range.mpr h⟩)
  unfold recs
  iintro ⟨-, -, #HJ, -⟩
  iapply hJ
  iexact HJ
/-- The levels. -/
theorem recs_lev : recs m K J ⊢ levAts L lv := by
  unfold recs; iintro ⟨-, -, -, #HL⟩; iexact HL

/-! ## Sending -/

section Send
variable {sp sp' : Space} {s : Shape} {e : EltTy} {α : Type}

/-- A transfer of a piece the device owns into a piece of another device it owns. -/
theorem wp_send (c c' : Dev nD) {S : Memref sig .tc sp s e} {D : Memref sig .tc sp' s e} {kS kD : DmaSem sig}
    {n : Dev nD} (hn : n = c') (hS : Shared kS) (hD : Shared kD) {X : s.Idx → Elt F e} {q : PosShare TreeShare}
    {hsc : (show Memref sig (Dev.tc n : Thread nD τ).2.kind sp' s e from D).view.ref.isScScratch = false} {hsrc : S.view.WordExact} {hdst : D.view.WordExact}
    {hsem : DmaTarget.Typed sp (.dma kD) (.remote (Dev.tc n : Thread nD τ) D (.dma kS) hsc)}
    {k : PUnit → Prog (TpuEff nD τ sig (Elt F) Λ₀ .tc) α} {Q : α → sProp 𝕄} {O₀ O : CellTallies nD τ sig ℕ}
    (hN : D.view.dmaCredit = NT) (hO : O₀ = O + tallyAt (dcell c' kD) 0 NT)
    (hp1 : own c S q X ⊢ dmaPay m c kS) (hp2 : own c' D fullShare X ⊢ dmaPay m c' kD) :
    iprop(recs m K J ∗ own c S q X ∗ anyOwn c' D ∗ owing c O₀ ∗ dutyTok (ER (F := F)) (dcell c kS) 0 0 ∗ dutyTok (ER (F := F)) (dcell c' kD) 0 0)
      ⊢ iprop(((cred (tallyAt (dcell c kS) 0 NT) ∗ owing c O) -∗ WP c (k ⟨⟩) Q)
        -∗ WP c (.op (.enqueueDma S (.remote (Dev.tc n : Thread nD τ) D (.dma kS) hsc) (.dma kD) hsrc hdst hsem) k) Q) := by
  subst hn
  unfold anyOwn owing
  iintro ⟨#HR, HS, ⟨%Y, HD⟩, ⟨%W, HO⟩, Ht1, Ht2⟩ Hk
  ihave H1 := (recs_cell m K J (kcell_dma c hS)) $$ HR
  icases H1 with ⟨%κ₁, #HI1, #Hr1⟩
  ihave H2 := (recs_cell m K J (kcell_dma n hD)) $$ HR
  icases H2 with ⟨%κ₂, #HI2, #Hr2⟩
  unfold own owns
  icases HS with ⟨%f, %hf, HS⟩
  icases HD with ⟨%fd, -, HD⟩
  have h1 : (S.view.loc (c : Thread nD τ) ↦[S.view.set]{q} f : sProp 𝕄) ⊢ dmaPay m c kS := by
    have h := owns_intro (Ix := ℕ) (Name := ℕ) (U := UU) (Lvl := ℕ) (c : Thread nD τ) S q f
    rw [hf] at h; exact h.trans hp1
  have h2 : (D.view.loc (n : Thread nD τ) ↦[D.view.set]{fullShare} (D.view.write (Elt F) fd (S.view.read (Elt F) f) Finset.univ) : sProp 𝕄)
      ⊢ dmaPay m n kD := by
    have h := own_written n D fd (S.view.read (Elt F) f)
    rw [hf] at h ⊢; exact h.trans hp2
  iapply (Rounds.wp_send_pointsTo 𝒱₀ ER (Rd m) (c : Thread nD τ) none (c' := (n : Thread nD τ)) (dst := D) (sS := .dma kS) (sem := .dma kD) (κ₁ := κ₁) (κ₂ := κ₂)
    (r₁ := 0) (r₂ := 0) (d₁ := 0) (d₂ := 0) (fs := f) (fd := fd) (q := q)
    (by rw [duties_dma m c hS]; exact Finset.mem_singleton_self _) (by rw [duties_dma m n hD]; exact Finset.mem_singleton_self _)
    0 0 NT hN rfl rfl O hO (W := W) h1 h2) $$ [HS HD HO Ht1 Ht2]
  · isplitr; · iexact HI1
    isplitr; · iexact HI2
    isplitl [HS]; · iexact HS
    isplitl [HD]; · iexact HD
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The wait for a transfer on a shared semaphore: what it hands over, and the semaphore idle for good. -/
theorem wp_recv (c : Dev nD) {k : DmaSem sig} (h : Shared k) {a eb b : ℕ} (hb : Below (lev (.dma k) 0) a eb b) {κ' : Kind}
    {s' : Shape} {e' : EltTy} {srcw : Memref sig .tc sp' s' e'} {dstw : Memref sig κ' sp s e} {hsrc : srcw.view.WordExact} {hdst : dstw.view.WordExact}
    {p : PUnit → Prog (TpuEff nD τ sig (Elt F) Λ₀ .tc) α} {Q : α → sProp 𝕄} (hN : dstw.view.dmaCredit = NT) :
    iprop(recs m K J ∗ cred (tallyAt (dcell c k) 0 NT) ∗ atPos (ER (F := F)) (dcell c k) 0 ∅ 0 ∗ owing c (due c a eb b))
      ⊢ iprop(((dmaPay m c k ∗ semVal (dcell c k) 0 ∗ owing c (due c a eb b)) -∗ WP c (p ⟨⟩) Q)
        -∗ WP c (.op (.waitDma2 k srcw dstw hsrc hdst) p) Q) := by
  unfold owing
  iintro ⟨#HR, Hc, Ha, ⟨%W, HO⟩⟩ Hk
  ihave H1 := (recs_cell m K J (kcell_dma c h)) $$ HR
  icases H1 with ⟨%κ, #HI, -⟩
  have hN' := hN
  iapply (Rounds.wp_wait_rest_token 𝒱₀ ER (Rd m) (c : Thread nD τ) none (κ := κ)
      (wpE_waitDma2_eq 𝒱₀ (c : Thread nD τ) none Set.univ) (Set.mem_univ _) 0 (O := due c a eb b) (W := W) (R := 0) (m := 0) (T := ∅)
      (by rw [Nat.zero_add, expect_dma m c h]; exact hN)) $$ [Hc HO Ha]
  · isplitr; · iexact HI
    isplitl [Hc]; · rw [hN]; iexact Hc
    isplitl [HO]; · iexact HO
    isplitr
    · iapply (mayWait c (sm := .dma k) (u := 0) (by rw [L_dma]; exact Finset.mem_singleton_self _) hb)
      iapply (recs_lev m K J); iexact HR
    iexact Ha
  iintro ⟨HO, Ha, -, Hp⟩
  imod (Rounds.cell_close ER (Rd m) (Set.mem_univ κ) (fun h => h) (R := 0 + 1) (duties_later m (dcell c k))) $$ [Ha] with Hz
  · isplitr; · iexact HI
    iexact Ha
  iapply Hk
  isplitl [Hp]
  · ihave Hp := (Entails.of_eq (show bigSep ((Rd m).duties (dcell c k) 0 \ ∅) (fun d => (Rd m).payload (dcell c k) 0 d) = dmaPay m c k from by
      rw [Finset.sdiff_empty, duties_dma m c h, bigSep_singleton]; rfl)) $$ Hp
    iexact Hp
  isplitl [Hz]; · iexact Hz
  iexists _; iexact HO

/-- The wait for a transfer inside the device. -/
theorem wp_here (c : Dev nD) {k : DmaSem sig} {N : ℕ} {D : sProp 𝕄} {a eb b : ℕ} (hl : lev (.dma k) 0 = 0) {κ' : Kind}
    {s' : Shape} {e' : EltTy} {srcw : Memref sig .tc sp' s' e'} {dstw : Memref sig κ' sp s e} {hsrc : srcw.view.WordExact} {hdst : dstw.view.WordExact}
    {p : PUnit → Prog (TpuEff nD τ sig (Elt F) Λ₀ .tc) α} {Q : α → sProp 𝕄} (hN : dstw.view.dmaCredit = N) :
    iprop(recs m K J ∗ fly c k N D ∗ owing c (due c a eb b))
      ⊢ iprop(((D ∗ semVal (dcell c k) 0 ∗ owing c (due c a eb b)) -∗ WP c (p ⟨⟩) Q)
        -∗ WP c (.op (.waitDma2 k srcw dstw hsrc hdst) p) Q) := by
  iintro ⟨#HR, HF, HO⟩ Hk
  iapply (wp_arrive c hN) $$ [HF HO]
  · isplitl [HF]; · iexact HF
    isplitl [HO]; · iexact HO
    iapply (mayWait c (sm := .dma k) (u := 0) (by rw [L_dma]; exact Finset.mem_singleton_self _) (by rw [hl]; exact below_zero _ _ _))
    iapply (recs_lev m K J); iexact HR
  iexact Hk

end Send

/-! ## Signals -/

section Reg
variable {α : Type}

/-- A unit raised on a shared regular semaphore of another device. -/
theorem wp_raise (c c' : Dev nD) {n : Dev nD} (hn : n = c') {sm : Sem sig} (hsm : ∃ ck, kcell ck = rcell c' sm) {d : ℕ} (hd : d ∈ dutiesOf (.reg sm)) (ι : ℕ)
    {O₀ O : CellTallies nD τ sig ℕ} (hO : O₀ = O + tallyAt (rcell c' sm) ι 1) {u : ℕ} (hu : u = 1)
    {k : PUnit → Prog (TpuEff nD τ sig (Elt F) Λ₀ .tc) α} {Q : α → sProp 𝕄} :
    iprop(recs m K J ∗ owing c O₀ ∗ dutyTok (ER (F := F)) (rcell c' sm) 0 d ∗ regPay c' sm d)
      ⊢ iprop((owing c O -∗ WP c (k ⟨⟩) Q) -∗ WP c (.op (.semSignal (Dev.tc n : Thread nD τ) sm u) k) Q) := by
  subst hn hu
  unfold owing
  iintro ⟨#HR, ⟨%W, HO⟩, Ht, Hp⟩ Hk
  ihave H1 := (recs_cell m K J hsm) $$ HR
  icases H1 with ⟨%κ, #HI, #Hr⟩
  iapply (Rounds.wp_signal 𝒱₀ ER (Rd m) (c : Thread nD τ) none (dst := (n : Thread nD τ)) (κ := κ) (r := 0)
      (d := d) (by rw [duties_of]; exact hd) rfl ι O hO) $$ [HO Ht Hp]
  · isplitr; · iexact HI
    isplitl [HO]; · iexact HO
    isplitl [Ht]; · iexact Ht
    isplitl [Hp]
    · iapply (Entails.of_eq (show regPay n sm d = (Rd m).payload (rcell n sm) 0 d from rfl)); iexact Hp
    iexact Hr
  iintro HO
  iapply Hk
  iexists W; iexact HO

/-- The start barrier: once both neighbours have raised it, their pieces of memory are the device's to write. -/
theorem wp_barrier (c : Dev nD) {u : ℕ} (hu : u = 2) {k : PUnit → Prog (TpuEff nD τ sig (Elt F) Λ₀ .tc) α} {Q : α → sProp 𝕄} :
    iprop(recs m K J ∗ cred (tallyAt (rcell c barS) 0 2) ∗ atPos (ER (F := F)) (rcell c barS) 0 ∅ 0 ∗ owing c (due c 0 0 0))
      ⊢ iprop(((barX c ∗ barY c ∗ semVal (rcell c barS) 0 ∗ owing c (due c 0 0 0)) -∗ WP c (k ⟨⟩) Q)
        -∗ WP c (.op (.semWait barS u) k) Q) := by
  subst hu
  unfold owing
  iintro ⟨#HR, Hc, Ha, ⟨%W, HO⟩⟩ Hk
  ihave H1 := (recs_cell m K J (kcell_bar c)) $$ HR
  icases H1 with ⟨%κ, #HI, -⟩
  iapply (Rounds.wp_wait_rest_token 𝒱₀ ER (Rd m) (c : Thread nD τ) none (κ := κ)
      (wpE_semWait_eq 𝒱₀ (c : Thread nD τ) none Set.univ) (Set.mem_univ _) 0 (O := due c 0 0 0) (W := W) (R := 0) (m := 0) (T := ∅)
      (by rw [expect_bar m c])) $$ [Hc HO Ha]
  · isplitr; · iexact HI
    isplitl [Hc]; · iexact Hc
    isplitl [HO]; · iexact HO
    isplitr
    · iapply (mayWait c (sm := .reg barS) (u := 0) (by rw [L_bar]; exact Finset.mem_singleton_self _)
        (by unfold lev; dsimp only; rw [if_neg cr_ne_bar.symm]; exact below_zero _ _ _))
      iapply (recs_lev m K J); iexact HR
    iexact Ha
  iintro ⟨HO, Ha, -, Hp⟩
  imod (Rounds.cell_close ER (Rd m) (Set.mem_univ κ) (fun h => h) (R := 0 + 1) (duties_later m (rcell c barS))) $$ [Ha] with Hz
  · isplitr; · iexact HI
    iexact Ha
  ihave Hp := (Entails.of_eq (show bigSep ((Rd m).duties (rcell c barS) 0 \ ∅) (fun d => (Rd m).payload (rcell c barS) 0 d) = iprop(barX c ∗ barY c) from by
      rw [Finset.sdiff_empty, duties_bar m c, bigSep_insert (by decide), bigSep_singleton, payload_bar, payload_bar, if_pos rfl, if_neg (by decide)]; rfl)) $$ Hp
  icases Hp with ⟨HX, HY⟩
  iapply Hk
  isplitl [HX]; · iexact HX
  isplitl [HY]; · iexact HY
  isplitl [Hz]; · iexact Hz
  iexists _; iexact HO

/-- Where device `c` stands on its credit semaphore after `j` waits. -/
def creditSt (c : Dev nD) (j : ℕ) : sProp 𝕄 :=
  if j < 10 then iprop(∃ S : Finset ℕ, ⌜j ≤ S.card ∧ S ⊆ Finset.range 10⌝ ∗ atPos (ER (F := F)) (rcell c crS) 0 S j ∗ bigSep S fun d => crPay (F := F) c d)
  else semVal (rcell c crS) 0

omit [FloatOps F] in
/-- A set of at least `j + 1` numbers has one that is at least `j`. -/
theorem exists_ge {S : Finset ℕ} {j : ℕ} (h : j + 1 ≤ S.card) : ∃ d ∈ S, j ≤ d := by
  by_contra hn
  push Not at hn
  have : S ⊆ Finset.range j := fun d hd => Finset.mem_range.mpr (hn d hd)
  have := Finset.card_le_card this
  rw [Finset.card_range] at this
  omega

omit [FloatOps F] in
/-- With `j + 1` credits the `x` neighbour has emptied the receive slot of chunk `j`. -/
theorem credit_released (c : Dev nD) {S : Finset ℕ} {j : ℕ} (h : j + 1 ≤ S.card) :
    (bigSep S fun d => crPay (F := F) c d) ⊢ released (ES (F := F)) (xn c, j) 1 := by
  obtain ⟨d, hd, hj⟩ := exists_ge h
  refine (bigSep_elim hd).trans ?_
  unfold crPay
  exact bigSep_elim (Finset.mem_range.mpr (by omega))

omit [FloatOps F] in
/-- A subset's share and the rest's are the whole set's. -/
theorem bigSep_parts {S T : Finset ℕ} (h : S ⊆ T) (Φ : ℕ → sProp 𝕄) : iprop(bigSep S Φ ∗ bigSep (T \ S) Φ) ⊢ bigSep T Φ := by
  refine Entails.of_eq ?_
  have := bigSep_union (Φ := Φ) (Finset.disjoint_sdiff (s := S) (t := T))
  rw [Finset.union_sdiff_of_subset h] at this
  exact this.symm

/-- The wait for credit `j`: the `x` neighbour's receive slot of chunk `j` has been emptied. -/
theorem wp_credit (c : Dev nD) {j : ℕ} (hj : j < 10) {u : ℕ} (hu : u = 1) {a e b : ℕ} (hb : Below (2 * j + 2) a e b)
    {k : PUnit → Prog (TpuEff nD τ sig (Elt F) Λ₀ .tc) α} {Q : α → sProp 𝕄} :
    iprop(recs m K J ∗ cred (tallyAt (rcell c crS) j 1) ∗ creditSt c j ∗ owing c (due c a e b))
      ⊢ iprop(((creditSt c (j + 1) ∗ released (ES (F := F)) (xn c, j) 1 ∗ owing c (due c a e b)) -∗ WP c (k ⟨⟩) Q)
        -∗ WP c (.op (.semWait crS u) k) Q) := by
  subst hu
  unfold owing
  have hmw : (levAts L lv : sProp 𝕄) ⊢ MayWait (c : Thread nD τ) (.reg crS) j (due c a e b) :=
    mayWait c (sm := .reg crS) (u := j) (by rw [L_cr]; exact Finset.mem_range.mpr hj) (by rw [lev_cr]; exact hb)
  rw [show creditSt (F := F) c j = _ from if_pos hj]
  iintro ⟨#HR, Hc, ⟨%S, %hS, Ha, #HP⟩, ⟨%W, HO⟩⟩ Hk
  ihave H1 := (recs_cell m K J (kcell_cr c)) $$ HR
  icases H1 with ⟨%κ, #HI, -⟩
  by_cases hj' : j + 1 < 10
  · iapply (Rounds.wp_wait 𝒱₀ ER (Rd m) (c : Thread nD τ) none (κ := κ)
      (wpE_semWait_eq 𝒱₀ (c : Thread nD τ) none Set.univ) (Set.mem_univ _) (cr := Finsupp.single j 1) {(SemLoc.reg crS, j)} (O := due c a e b) (W := W) (R := 0) (m := j) (T := S)
      (by rw [Util.total_single]) (image_single_subset (.reg crS) j 1)) $$ [Hc HO Ha]
    · isplitr; · iexact HI
      isplitl [Hc]; · iexact Hc
      isplitl [HO]; · iexact HO
      isplitr; · iapply hmw; iapply (recs_lev m K J); iexact HR
      iexact Ha
    iintro %S' ⟨%hS', HO, Ha, HP'⟩
    ihave #HP' := (Entails.of_eq (bigSep_congr fun d _ => payload_cr m c d)) $$ HP'
    rw [duties_cr m c, expect_cr m c] at hS'
    have hcard : j + 1 ≤ S'.card := by
      have h1 := Finset.card_sdiff_of_subset hS'.2.1
      rw [Finset.card_range] at h1
      have h2 := Finset.card_le_card hS'.2.1
      rw [Finset.card_range] at h2
      omega
    ihave #HPP : bigSep S' (fun d => crPay (F := F) c d) $$ []
    · iapply (bigSep_parts hS'.1)
      isplitr; · iexact HP
      iexact HP'
    iapply Hk
    isplitl [Ha]
    · rw [show creditSt (F := F) c (j + 1) = _ from if_pos hj']
      iexists S'
      isplitr; · ipureintro; exact ⟨hcard, hS'.2.1⟩
      isplitl [Ha]; · iexact Ha
      iexact HPP
    isplitr; · iapply (credit_released c hcard); iexact HPP
    iexists _; iexact HO
  · obtain rfl : j = 9 := by omega
    iapply (Rounds.wp_wait_rest_token 𝒱₀ ER (Rd m) (c : Thread nD τ) none (κ := κ)
      (wpE_semWait_eq 𝒱₀ (c : Thread nD τ) none Set.univ) (Set.mem_univ _) 9 (O := due c a e b) (W := W) (R := 0) (m := 9) (T := S)
      (by rw [expect_cr m c])) $$ [Hc HO Ha]
    · isplitr; · iexact HI
      isplitl [Hc]; · iexact Hc
      isplitl [HO]; · iexact HO
      isplitr; · iapply hmw; iapply (recs_lev m K J); iexact HR
      iexact Ha
    iintro ⟨HO, Ha, -, HP'⟩
    ihave #HP' := (Entails.of_eq (bigSep_congr fun d _ => payload_cr m c d)) $$ HP'
    rw [duties_cr m c]
    imod (Rounds.cell_close ER (Rd m) (Set.mem_univ κ) (fun h => h) (R := 0 + 1) (duties_later m (rcell c crS))) $$ [Ha] with Hz
    · isplitr; · iexact HI
      iexact Ha
    ihave #HPP : bigSep (Finset.range 10) (fun d => crPay (F := F) c d) $$ []
    · iapply (bigSep_parts hS.2)
      isplitr; · iexact HP
      iexact HP'
    iapply Hk
    isplitl [Hz]
    · rw [show creditSt (F := F) c (9 + 1) = _ from if_neg (by decide)]; iexact Hz
    isplitr; · iapply (credit_released c (show 9 + 1 ≤ (Finset.range 10).card by rw [Finset.card_range])); iexact HPP
    iexists _; iexact HO

end Reg

end Cert.MeshSum
end
-- ==== Proof.Tiles.lean ====
/-
  The multiplication of one chunk: the tiles are fetched two ahead into two staging slots, multiplied, and added up in
  the chunk's slot of the accumulator.
-/
module

public import proofs.«01_k».proof.Proof.Shared

@[expose] public section

noncomputable section

namespace Cert.MeshSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The staging slots -/

/-- A free staging slot: its two buffers and its two semaphores. -/
def tslot (c : Dev nD) (s : Fin 2) : sProp 𝕄 :=
  iprop(anyOwn (F := F) c (dyV s) ∗ anyOwn (F := F) c (wV s) ∗ semVal (dcell c (dyK s)) 0 ∗ semVal (dcell c (wK s)) 0)
/-- Tiles `k` of chunk `p` are on their way into staging slot `s`. -/
def tfly (c : Dev nD) (p : Fin 16) (s : Fin 2) (k : ℕ) : sProp 𝕄 :=
  iprop(fly c (dyK s) ND (own c (dyV s) fullShare (dyT m c p k)) ∗ fly c (wK s) NT (own c (wV s) fullShare (wT m c p k)))
/-- Device `c` may read its two arguments. -/
def args (c : Dev nD) : sProp 𝕄 := iprop(reads c dyA (argA m c) ∗ reads c wA (argB m c))

variable (K : Dev nD × Fin 66 → ℕ) (J : Dev nD × ℕ → ℕ)

section Step
variable {α : Type}

/-- A program that has ended. -/
theorem wp_done (c : Dev nD) (x : α) {Q : α → sProp 𝕄} : Q x ⊢ WP c (.ret x) Q := by
  unfold WP; rw [wp_ret]; exact fupd_intro

/-- A program followed by another. -/
theorem wp_then (c : Dev nD) {β : Type} (p : Prog (TpuEff nD τ sig (Elt F) Λ₀ .tc) β) (k : β → Prog (TpuEff nD τ sig (Elt F) Λ₀ .tc) α) {Q : α → sProp 𝕄} :
    WP c p (fun x => WP c (k x) Q) ⊢ WP c (p >>= k) Q := by
  unfold WP; rw [wp_bind]

/-- The fetch of tiles `k` of chunk `p` into a free staging slot. -/
theorem wp_tile_start (c : Dev nD) (p : Fin 16) (s : Fin 2) (k : ℕ)
    {S₁ : Memref sig .tc .hbm S1024x1024 .f32} {D₁ : Memref sig .tc .vmem S1024x1024 .f32} {k₁ : DmaSem sig}
    {S₂ : Memref sig .tc .hbm S512x1024 .f32} {D₂ : Memref sig .tc .vmem S512x1024 .f32} {k₂ : DmaSem sig}
    (hS₁ : S₁ = dyS (col c) p (kix k)) (hD₁ : D₁ = dyV s) (hk₁ : k₁ = dyK s) (hS₂ : S₂ = wS p (kix k)) (hD₂ : D₂ = wV s) (hk₂ : k₂ = wK s)
    {a₁ : S₁.view.WordExact} {b₁ : D₁.view.WordExact} {c₁ : (DmaTarget.here D₁ : DmaTarget nD τ sig .tc .vmem S1024x1024 .f32).Typed .hbm (.dma k₁)}
    {a₂ : S₂.view.WordExact} {b₂ : D₂.view.WordExact} {c₂ : (DmaTarget.here D₂ : DmaTarget nD τ sig .tc .vmem S512x1024 .f32).Typed .hbm (.dma k₂)}
    {f : PUnit → Prog (TpuEff nD τ sig (Elt F) Λ₀ .tc) α} {Q : α → sProp 𝕄} :
    iprop(args m c ∗ tslot c s)
      ⊢ iprop(((args m c ∗ tfly m c p s k) -∗ WP c (f ⟨⟩) Q)
        -∗ WP c (.op (.enqueueDma S₁ (.here D₁) (.dma k₁) a₁ b₁ c₁) fun _ => .op (.enqueueDma S₂ (.here D₂) (.dma k₂) a₂ b₂ c₂) f) Q) := by
  subst hS₁ hD₁ hk₁ hS₂ hD₂ hk₂
  unfold args tslot tfly
  iintro ⟨⟨HA, HB⟩, HD, HW, Hd, Hw⟩ Hk
  iapply (wp_fetch c (S := dyS (col c) p (kix k)) (f := argA m c) (dyV_credit s) (by decide)) $$ [HA HD Hd]
  · isplitl [HA]; · iexact HA
    isplitl [HD] <;> iassumption
  iintro ⟨HA, Hd⟩
  iapply (wp_fetch c (S := wS p (kix k)) (f := argB m c) (wV_credit s) (by decide)) $$ [HB HW Hw]
  · isplitl [HB]; · iexact HB
    isplitl [HW] <;> iassumption
  iintro ⟨HB, Hw⟩
  iapply Hk
  isplitl [HA HB]
  · isplitl [HA]; · iexact HA
    iexact HB
  isplitl [Hd]; · iexact Hd
  iexact Hw

/-- The wait for tiles `k` of chunk `p`. -/
theorem wp_tile_wait (c : Dev nD) (p : Fin 16) (s : Fin 2) (k : ℕ) {a e b : ℕ}
    {S₁ : Memref sig .tc .hbm S1024x1024 .f32} {D₁ : Memref sig .tc .vmem S1024x1024 .f32} {k₁ : DmaSem sig}
    {S₂ : Memref sig .tc .hbm S512x1024 .f32} {D₂ : Memref sig .tc .vmem S512x1024 .f32} {k₂ : DmaSem sig}
    (hD₁ : D₁ = dyV s) (hk₁ : k₁ = dyK s) (hD₂ : D₂ = wV s) (hk₂ : k₂ = wK s)
    {a₁ : S₁.view.WordExact} {b₁ : D₁.view.WordExact} {a₂ : S₂.view.WordExact} {b₂ : D₂.view.WordExact}
    {f : PUnit → Prog (TpuEff nD τ sig (Elt F) Λ₀ .tc) α} {Q : α → sProp 𝕄} :
    iprop(recs m K J ∗ tfly m c p s k ∗ owing c (due c a e b))
      ⊢ iprop(((own c (dyV s) fullShare (dyT m c p k) ∗ own c (wV s) fullShare (wT m c p k)
            ∗ (semVal (dcell c (dyK s)) 0 ∗ semVal (dcell c (wK s)) 0) ∗ owing c (due c a e b)) -∗ WP c (f ⟨⟩) Q)
        -∗ WP c (.op (.waitDma2 k₁ S₁ D₁ a₁ b₁) fun _ => .op (.waitDma2 k₂ S₂ D₂ a₂ b₂) f) Q) := by
  subst hD₁ hk₁ hD₂ hk₂
  have h1 : lev (.dma (dyK s)) 0 = 0 := by fin_cases s <;> rfl
  have h2 : lev (.dma (wK s)) 0 = 0 := by fin_cases s <;> rfl
  unfold tfly
  iintro ⟨#HR, ⟨Hd, Hw⟩, HO⟩ Hk
  iapply (wp_here m K J c h1 (dyV_credit s)) $$ [Hd HO]
  · isplitr; · iexact HR
    isplitl [Hd] <;> iassumption
  iintro ⟨Hd, Hd', HO⟩
  iapply (wp_here m K J c h2 (wV_credit s)) $$ [Hw HO]
  · isplitr; · iexact HR
    isplitl [Hw] <;> iassumption
  iintro ⟨Hw, Hw', HO⟩
  iapply Hk
  isplitl [Hd]; · iexact Hd
  isplitl [Hw]; · iexact Hw
  isplitl [Hd' Hw']
  · isplitl [Hd'] <;> iassumption
  iexact HO

end Step

/-- The offset `![0, 0, 0]` is slot 0's. -/
theorem tz0 : (![0, 0, 0] : Fin 3 → ℕ) = ![(0 : Fin 2).val, 0, 0] := rfl
/-- The offset `![1, 0, 0]` is slot 1's. -/
theorem tz1 : (![1, 0, 0] : Fin 3 → ℕ) = ![(1 : Fin 2).val, 0, 0] := rfl

/-! ## The start of a chunk -/

/-- The fetch of the first tiles. -/
theorem part5_spec (c : Dev nD) (p : Fin 16) (t : Fin k0_t1_loop.trips) (ht : t.val = p.val) (h1 : k0_cond1 t = 1#1) (v6 arg15 : BitVec 32)
    {Q : PUnit → sProp 𝕄} :
    iprop((args m c ∗ tslot c 0) ∗ ((args m c ∗ tfly m c p 0 0) -∗ Q ⟨⟩)) ⊢ WP c (k0_part5 dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11 c v6 t arg15 h1) Q := by
  rw [k0_part5_eq_skeleton]; unfold k0_part5_skel
  simp only [Prog.lift, Prog.bind_op, Prog.bind_ret, Prog.pure_eq_ret, Prog.bind_assoc]
  iintro ⟨H, Hk⟩
  iapply (wp_tile_start m c p 0 0 (dyS_of ((off5_eq c t (by omega)).trans (by rw [ht]; rfl)) _ _) (dyV_of tz0 _ _ _) (sem2_of 0 (by decide) rfl _ _)
    (wS_of ((off6_eq t (by omega)).trans (by rw [ht]; rfl)) _ _) (wV_of tz0 _ _ _) (sem2_of 0 (by decide) rfl _ _)) $$ H
  iintro H
  iapply wp_done
  iapply Hk; iexact H

/-- The fetch of the second tiles. -/
theorem part6_spec (c : Dev nD) (p : Fin 16) (t : Fin k0_t1_loop.trips) (ht : t.val = p.val) (h1 : k0_cond1 t = 1#1) (v6 arg15 : BitVec 32)
    {Q : _ → sProp 𝕄} :
    iprop((args m c ∗ tslot c 1) ∗ (∀ x, (args m c ∗ tfly m c p 1 1) -∗ Q x)) ⊢ WP c (k0_part6 dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11 c v6 t arg15 h1) Q := by
  rw [k0_part6_eq_skeleton]; unfold k0_part6_skel
  simp only [Prog.lift, Prog.bind_op, Prog.bind_ret, Prog.pure_eq_ret, Prog.bind_assoc]
  iintro ⟨H, Hk⟩
  iapply (wp_tile_start m c p 1 1 (dyS_of ((off7_eq c t (by omega)).trans (by rw [ht]; rfl)) _ _) (dyV_of tz1 _ _ _) (sem2_of 1 (by decide) rfl _ _)
    (wS_of ((off8_eq t (by omega)).trans (by rw [ht]; rfl)) _ _) (wV_of tz1 _ _ _) (sem2_of 1 (by decide) rfl _ _)) $$ H
  iintro H
  iapply wp_done
  iapply Hk; iexact H

/-! ## The loop over the tiles -/

/-- Before trip `k` of the loop: tile `k` has been added, tile `k + 1` is on its way. -/
def tileInv (c : Dev nD) (p : Fin 16) (a e b : ℕ) (k : ℕ) : sProp 𝕄 :=
  iprop(own c (accV (slotOf p.val)) fullShare (partV m c p k) ∗ args m c ∗ tslot c (tslotOf k)
    ∗ (if k < 7 then tfly m c p (tslotOf (k + 1)) (k + 1) else tslot c (tslotOf (k + 1))) ∗ owing c (due c a e b))

/-- The fetch two tiles ahead. -/
theorem part3_spec (c : Dev nD) (p : Fin 16) (t : Fin k0_t1_loop.trips) (ht : t.val = p.val) (h1 : k0_cond1 t = 1#1) (v6 arg15 c1 c2 : BitVec 32)
    (k : Fin k0_t2_loop.trips) {Q : _ → sProp 𝕄} :
    iprop((args m c ∗ tslot c (tslotOf k.val)) ∗ (∀ x, (args m c ∗ (if k.val < 6 then tfly m c p (tslotOf (k.val + 2)) (k.val + 2) else tslot c (tslotOf (k.val + 2)))) -∗ Q x))
      ⊢ WP c (k0_part3 dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11 c v6 t arg15 h1 c1 c2 k) Q := by
  have hk2 : tslotOf k.val = tslotOf (k.val + 2) := Fin.ext (by unfold tslotOf; dsimp only; omega)
  rw [k0_part3_eq_skeleton]; unfold k0_part3_skel
  by_cases h : k0_cond3 k = 1#1
  · have hk : k.val < 6 := (cond3_iff k).mp h
    rw [dif_pos h]
    rw [k0_part2_eq_skeleton]; unfold k0_part2_skel
    simp only [Prog.lift, Prog.bind_op, Prog.bind_ret, Prog.pure_eq_ret, Prog.bind_assoc]
    rw [hk2]
    iintro ⟨H, Hk⟩
    iapply (wp_tile_start m c p (tslotOf (k.val + 2)) (k.val + 2) (dyS_of ((off12_eq c t k (by omega) hk).trans (by rw [ht]; unfold kix; dsimp only; rw [Nat.mod_eq_of_lt (by omega)])) _ _)
      (dyV_of (off11_eq k) _ _ _) (sem2_of _ (by omega) (off10_eq k) _ _)
      (wS_of ((off14_eq t k (by omega) hk).trans (by rw [ht]; unfold kix; dsimp only; rw [Nat.mod_eq_of_lt (by omega)])) _ _) (wV_of (off13_eq k) _ _ _) (sem2_of _ (by omega) (off10_eq k) _ _)) $$ H
    iintro H
    iapply wp_done
    iapply Hk
    rw [if_pos hk]; iexact H
  · have hk : ¬ k.val < 6 := fun hk => h ((cond3_iff k).mpr hk)
    rw [dif_neg h]
    simp only [Prog.lift, Prog.bind_op, Prog.bind_ret, Prog.pure_eq_ret, Prog.bind_assoc]
    iintro ⟨H, Hk⟩
    iapply wp_done
    iapply Hk
    rw [if_neg hk, hk2]; iexact H

/-- One trip: the next tiles arrive, are multiplied and added. -/
theorem t2_spec (c : Dev nD) (p : Fin 16) (t : Fin k0_t1_loop.trips) (ht : t.val = p.val) (h1 : k0_cond1 t = 1#1) (v6 v9 arg15 v294 v404 v405 : BitVec 32) (v406 v409 : BitVec 1)
    (a e b : ℕ) (k : Fin k0_t2_loop.trips) (u : Unit) :
    iprop(recs m K J ∗ tileInv m c p a e b k.val) ⊢ WP c (k0_t2_body dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11 c v6 v9 t arg15 v294 h1 v404 v405 v406 v409 k u)
      (fun _ => iprop(recs m K J ∗ tileInv m c p a e b (k.val + 1))) := by
  have hk7 : k.val < 7 := trips2 ▸ k.isLt
  have hif : (if k.val < 6 then tfly m c p (tslotOf (k.val + 2)) (k.val + 2) else tslot c (tslotOf (k.val + 2)))
      = (if k.val + 1 < 7 then tfly m c p (tslotOf (k.val + 1 + 1)) (k.val + 1 + 1) else tslot (F := F) c (tslotOf (k.val + 1 + 1))) := by
    by_cases h6 : k.val < 6
    · rw [if_pos h6, if_pos (show k.val + 1 < 7 by omega)]
    · rw [if_neg h6, if_neg (show ¬ k.val + 1 < 7 by omega)]
  unfold k0_t2_body tileInv
  simp only [Prog.lift, Prog.bind_op, Prog.bind_ret, Prog.pure_eq_ret, Prog.bind_assoc]
  rw [if_pos hk7]
  iintro ⟨#HR, Hacc, Hargs, Hfree, Hnext, HO⟩
  iapply wp_then
  iapply (part3_spec m c p t ht h1)
  isplitl [Hargs Hfree]
  · isplitl [Hargs] <;> iassumption
  iintro %x ⟨Hargs, Hfly⟩
  iapply (wp_tile_wait m K J c p (tslotOf (k.val + 1)) (k.val + 1) (dyV_of (off16_eq k) _ _ _) (sem2_of _ (by omega) (off15_eq k) _ _)
    (wV_of (off18_eq k) _ _ _) (sem2_of _ (by omega) (off15_eq k) _ _)) $$ [Hnext HO]
  · isplitr; · iexact HR
    isplitl [Hnext] <;> iassumption
  iintro ⟨Hd, Hw, ⟨Hsd, Hsw⟩, HO⟩
  iapply (wp_load_slot c accB (fun _ => rfl) squeezes_S1x1024x512_S1024x512 shapeCasts_S1024x512_S1x1024x512 (accV_of ((off20_eq t).trans (by rw [ht])) _ _ _)) $$ Hacc
  iintro Hacc
  iapply (wp_load_slot c dyB (fun _ => rfl) squeezes_S1x1024x1024_S1024x1024 squeezes_S1x1024x1024_S1024x1024.numel_eq.symm (dyV_of (off21_eq k) _ _ _)) $$ Hd
  iintro Hd
  iapply (wp_load_slot c wB (fun _ => rfl) squeezes_S1x512x1024_S512x1024 squeezes_S1x512x1024_S512x1024.numel_eq.symm (wV_of (off22_eq k) _ _ _)) $$ Hw
  iintro Hw
  iapply (wp_load_slot c accB (fun _ => rfl) squeezes_S1x1024x512_S1024x512 shapeCasts_S1024x512_S1x1024x512 (accV_of ((off20_eq t).trans (by rw [ht])) _ _ _)) $$ Hacc
  iintro Hacc
  ihave Hacc := (own_any c _ _) $$ Hacc
  iapply (wp_store_slot c accB (fun _ => rfl) squeezes_S1x1024x512_S1024x512 shapeCasts_S1x1024x512_S1024x512 (accV_of ((off20_eq t).trans (by rw [ht])) _ _ _)) $$ Hacc
  iintro Hacc
  iapply wp_done
  isplitr; · iexact HR
  isplitl [Hacc]; · iexact Hacc
  isplitl [Hargs]; · iexact Hargs
  isplitl [Hd Hw Hsd Hsw]
  · unfold tslot
    isplitl [Hd]; · iapply (own_any c _ _); iexact Hd
    isplitl [Hw]; · iapply (own_any c _ _); iexact Hw
    isplitl [Hsd] <;> iassumption
  isplitl [Hfly]
  · iapply (Entails.of_eq hif); iexact Hfly
  iexact HO

/-- All the tiles of a chunk: from the first two under way to the chunk's sum. -/
theorem tiles_spec (c : Dev nD) (p : Fin 16) (t : Fin k0_t1_loop.trips) (ht : t.val = p.val) (h1 : k0_cond1 t = 1#1) (v6 v9 arg15 v294 v404 v405 : BitVec 32) (v406 v409 : BitVec 1)
    (a e b : ℕ) {α : Type} {f : Unit → Prog (TpuEff nD τ sig (Elt F) Λ₀ .tc) α} {Q : α → sProp 𝕄} :
    iprop(recs m K J ∗ own c (accV (slotOf p.val)) fullShare (partV m c p 0) ∗ args m c ∗ tslot c 0 ∗ tfly m c p 1 1 ∗ owing c (due c a e b))
      ⊢ iprop(((own c (accV (slotOf p.val)) fullShare (part m c p) ∗ args m c ∗ tslot c 0 ∗ tslot c 1 ∗ owing c (due c a e b)) -∗ WP c (f ()) Q)
        -∗ WP c (Scf.Loop.for k0_t2_loop (k0_t2_ok t h1) ⟨⟩ (k0_t2_body dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11 c v6 v9 t arg15 v294 h1 v404 v405 v406 v409) >>= f) Q) := by
  iintro ⟨#HR, Hacc, Hargs, H0, H1, HO⟩ Hk
  iapply wp_then
  iapply (Scf.wp_for frame (wpE (defs₀ (F := F)) 𝒱₀ (c : Thread nD τ) none) Set.univ _ _ _ (k0_t2_ok t h1) ⟨⟩
    (k0_t2_body dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11 c v6 v9 t arg15 v294 h1 v404 v405 v406 v409)
    (fun k _ => iprop(recs m K J ∗ tileInv m c p a e b k)) (fun k u => t2_spec m K J c p t ht h1 v6 v9 arg15 v294 v404 v405 v406 v409 a e b k u))
  isplitl [Hacc Hargs H0 H1 HO]
  · isplitr; · iexact HR
    unfold tileInv
    isplitl [Hacc]; · iexact Hacc
    isplitl [Hargs]; · iexact Hargs
    isplitl [H0]; · iexact H0
    isplitl [H1]; · rw [if_pos (by decide)]; iexact H1
    iexact HO
  iintro %u H
  icases H with ⟨-, H⟩
  ihave H := (Entails.of_eq (show tileInv m c p a e b (Scf.trips _ _ _) = tileInv m c p a e b 7 from congrArg _ trips2)) $$ H
  unfold tileInv
  rw [if_neg (by decide)]
  icases H with ⟨Hacc, Hargs, H1, H0, HO⟩
  iapply Hk
  isplitl [Hacc]; · iexact Hacc
  isplitl [Hargs]; · iexact Hargs
  isplitl [H0]; · iexact H0
  isplitl [H1]; · iexact H1
  iexact HO

end Cert.MeshSum
end
-- ==== Proof.Chunks.lean ====
/-
  What a device holds for each chunk as the chunk moves through the kernel: not yet started, on its way to the `x`
  neighbour, on its way to the `y` neighbour and to the result, finished.
-/
module

public import proofs.«01_k».proof.Proof.Tiles
public import Idealize.ShloMosaic.Lib.MemrefSat

@[expose] public section

noncomputable section

namespace Cert.MeshSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- An accumulator slot ready for a chunk, with the semaphore of its copy to the result. -/
def slotRes (c : Dev nD) (s : Fin 6) : sProp 𝕄 := iprop(anyOwn (F := F) c (accV s) ∗ semVal (dcell c (ocS s)) 0)

/-- What chunk `p` needs for its second exchange and for the credit it gives. -/
def later (c : Dev nD) (p : Fin 16) : sProp 𝕄 :=
  iprop(dutyTok (ER (F := F)) (dcell c (ysS p)) 0 0 ∗ dutyTok (ER (F := F)) (dcell (yn c) (yrS p)) 0 0
    ∗ cred (tallyAt (dcell c (xrS p)) 0 NT) ∗ atPos (ER (F := F)) (dcell c (xrS p)) 0 ∅ 0 ∗ atPos (ER (F := F)) (dcell c (ysS p)) 0 ∅ 0
    ∗ anyOwn (F := F) c (outV (col c) p) ∗ anyOwn (F := F) (yn c) (outV (col c) p)
    ∗ (if p.val < 10 then iprop(dutyTok (ER (F := F)) (rcell (xn c) crS) 0 p.val ∗ readerAt (ES (F := F)) (c, p.val) 0) else iprop(emp)))
/-- Where chunk `p` is to be written on the `x` neighbour: a slot free from the start; or the right to take the slot once
    it has been emptied, with the credit to wait for. -/
def target (c : Dev nD) (p : Fin 16) : sProp 𝕄 :=
  if p.val < 6 then anyOwn (F := F) (xn c) (recV (slotOf p.val))
  else iprop(writeTok (ES (F := F)) (xn c, p.val - 6) 1 ∗ cred (tallyAt (rcell c crS) (p.val - 6) 1))
/-- The first six chunks find their accumulator slot free. -/
def firstSlot (c : Dev nD) (p : Fin 16) : sProp 𝕄 := if p.val < 6 then slotRes (F := F) c (slotOf p.val) else iprop(emp)
/-- Chunk `p` has not been started. -/
def fresh (c : Dev nD) (p : Fin 16) : sProp 𝕄 :=
  iprop(dutyTok (ER (F := F)) (dcell c (xsS p)) 0 0 ∗ dutyTok (ER (F := F)) (dcell (xn c) (xrS p)) 0 0 ∗ atPos (ER (F := F)) (dcell c (xsS p)) 0 ∅ 0
    ∗ later c p ∗ target c p ∗ firstSlot c p)
/-- Chunk `p` is on its way to the `x` neighbour. -/
def xflight (c : Dev nD) (p : Fin 16) : sProp 𝕄 :=
  iprop(cred (tallyAt (dcell c (xsS p)) 0 NT) ∗ atPos (ER (F := F)) (dcell c (xsS p)) 0 ∅ 0 ∗ later c p ∗ semVal (dcell c (ocS (slotOf p.val))) 0)
/-- The `x` exchange of chunk `p` is over: its semaphores are idle, and the last six chunks leave their receive slots. -/
def closedX (c : Dev nD) (p : Fin 16) : sProp 𝕄 :=
  iprop(semVal (dcell c (xsS p)) 0 ∗ semVal (dcell c (xrS p)) 0 ∗ (if p.val < 10 then iprop(emp) else anyOwn (F := F) c (recV (slotOf p.val))))
/-- Chunk `p` is on its way to the `y` neighbour and to the result. -/
def yflight (c : Dev nD) (p : Fin 16) : sProp 𝕄 :=
  iprop(cred (tallyAt (dcell c (ysS p)) 0 NT) ∗ atPos (ER (F := F)) (dcell c (ysS p)) 0 ∅ 0
    ∗ fly c (ocS (slotOf p.val)) NT iprop(own c (outV (col c) p) fullShare (finT m c p) ∗ own c (accV (slotOf p.val)) fullShare.right (finT m c p))
    ∗ closedX c p)
/-- Chunk `p` is finished. -/
def finished (c : Dev nD) (p : Fin 16) : sProp 𝕄 :=
  iprop(own c (outV (col c) p) fullShare (finT m c p) ∗ semVal (dcell c (ysS p)) 0 ∗ closedX c p)

/-- Chunk `p` when the chunks below `d` are finished, those below `b` have been sent along `y` and those below `a` along `x`. -/
def stage (c : Dev nD) (d b a : ℕ) (p : Fin 16) : sProp 𝕄 :=
  if p.val < d then finished m c p else if p.val < b then yflight m c p else if p.val < a then xflight c p else fresh c p
/-- All the chunks. -/
def chunks (c : Dev nD) (d b a : ℕ) : sProp 𝕄 := bigSep Finset.univ (stage m c d b a)

/-- One chunk taken out, to be put back at another stage. -/
theorem chunks_step (c : Dev nD) (p : Fin 16) {d b a d' b' a' : ℕ} (X Y : sProp 𝕄) (hX : stage m c d b a p = X) (hY : stage m c d' b' a' p = Y)
    (h : ∀ q : Fin 16, q ≠ p → stage m c d b a q = stage m c d' b' a' q) :
    chunks m c d b a ⊢ iprop(X ∗ (Y -∗ chunks m c d' b' a')) := by
  unfold chunks
  subst hX hY
  rw [← Finset.insert_erase (Finset.mem_univ p), bigSep_insert (Finset.notMem_erase _ _), bigSep_insert (Finset.notMem_erase _ _),
    bigSep_congr (fun q hq => h q (Finset.ne_of_mem_erase hq))]
  have hop : ∀ A B R : sProp 𝕄, iprop(A ∗ R) ⊢ iprop(A ∗ (B -∗ B ∗ R)) := fun A B R => by
    iintro ⟨HA, HR⟩
    isplitl [HA]; · iexact HA
    iintro HB
    isplitl [HB] <;> iassumption
  exact hop _ _ _

/-- Chunk `p` is sent along `x`. -/
theorem chunks_x (c : Dev nD) (p : Fin 16) {d b : ℕ} (hd : d ≤ p.val) (hb : b ≤ p.val) :
    chunks m c d b p.val ⊢ iprop(fresh c p ∗ (xflight c p -∗ chunks m c d b (p.val + 1))) := by
  refine chunks_step m c p _ _ ?_ ?_ fun q hq => ?_
  · unfold stage; rw [if_neg (by omega), if_neg (by omega), if_neg (by omega)]
  · unfold stage; rw [if_neg (by omega), if_neg (by omega), if_pos (by omega)]
  · have : q.val ≠ p.val := fun h => hq (Fin.ext h)
    unfold stage
    simp only [show q.val < p.val + 1 ↔ q.val < p.val from by omega]
/-- Chunk `p` is sent along `y`. -/
theorem chunks_y (c : Dev nD) (p : Fin 16) {d a : ℕ} (hd : d ≤ p.val) (ha : p.val < a) :
    chunks m c d p.val a ⊢ iprop(xflight c p ∗ (yflight m c p -∗ chunks m c d (p.val + 1) a)) := by
  refine chunks_step m c p _ _ ?_ ?_ fun q hq => ?_
  · unfold stage; rw [if_neg (by omega), if_neg (by omega), if_pos (by omega)]
  · unfold stage; rw [if_neg (by omega), if_pos (by omega)]
  · have : q.val ≠ p.val := fun h => hq (Fin.ext h)
    unfold stage
    simp only [show q.val < p.val + 1 ↔ q.val < p.val from by omega]
/-- Chunk `p` is finished. -/
theorem chunks_d (c : Dev nD) (p : Fin 16) {b a : ℕ} (hb : p.val < b) :
    chunks m c p.val b a ⊢ iprop(yflight m c p ∗ (finished m c p -∗ chunks m c (p.val + 1) b a)) := by
  refine chunks_step m c p _ _ ?_ ?_ fun q hq => ?_
  · unfold stage; rw [if_neg (by omega), if_pos (by omega)]
  · unfold stage; rw [if_pos (by omega)]
  · have : q.val ≠ p.val := fun h => hq (Fin.ext h)
    unfold stage
    simp only [show q.val < p.val + 1 ↔ q.val < p.val from by omega]

/-! ## Finishing a chunk -/

variable (K : Dev nD × Fin 66 → ℕ) (J : Dev nD × ℕ → ℕ)

/-- The waits that finish chunk `p`: its departure along `y` and its copy to the result. Its accumulator slot is free. -/
theorem wp_finish (c : Dev nD) (p : Fin 16) {a e b b' a' : ℕ} (hb : p.val < b') {α : Type}
    {S₁ : Memref sig .tc .hbm S1024x512 .f32} {D₁ : Memref sig .tc .vmem S1024x512 .f32} {k₁ : DmaSem sig}
    {S₂ : Memref sig .tc .vmem S1024x512 .f32} {D₂ : Memref sig .tc .hbm S1024x512 .f32} {k₂ : DmaSem sig}
    (hD₁ : D₁ = accV (slotOf p.val)) (hk₁ : k₁ = ysS p) (hD₂ : D₂ = outV (col c) p) (hk₂ : k₂ = ocS (slotOf p.val))
    {a₁ : S₁.view.WordExact} {b₁ : D₁.view.WordExact} {a₂ : S₂.view.WordExact} {b₂ : D₂.view.WordExact}
    {f : PUnit → Prog (TpuEff nD τ sig (Elt F) Λ₀ .tc) α} {Q : α → sProp 𝕄} :
    iprop(recs m K J ∗ chunks m c p.val b' a' ∗ owing c (due c a e b))
      ⊢ iprop(((chunks m c (p.val + 1) b' a' ∗ slotRes c (slotOf p.val) ∗ owing c (due c a e b)) -∗ WP c (f ⟨⟩) Q)
        -∗ WP c (.op (.waitDma2 k₁ S₁ D₁ a₁ b₁) fun _ => .op (.waitDma2 k₂ S₂ D₂ a₂ b₂) f) Q) := by
  subst hD₁ hk₁ hD₂ hk₂
  have hp := p.isLt
  have h1 : Below (lev (.dma (ysS p)) 0) a e b := by
    have : lev (.dma (ysS p)) 0 = 0 := by
      unfold lev ysS; dsimp only; rw [if_neg (by omega), if_neg (by omega)]
    rw [this]; exact below_zero _ _ _
  have h2 : lev (.dma (ocS (slotOf p.val))) 0 = 0 := by
    have := (slotOf p.val).isLt
    unfold lev ocS; dsimp only; rw [if_neg (by omega), if_neg (by omega)]
  iintro ⟨#HR, HC, HO⟩ Hk
  ihave HC := (chunks_d m c p hb) $$ HC
  icases HC with ⟨HY, HC⟩
  unfold yflight
  icases HY with ⟨Hc, Ha, Hf, HX⟩
  iapply (wp_recv m K J c (k := ysS p) (show Shared (ysS p) from ⟨by unfold ysS; dsimp only; omega, by unfold ysS; dsimp only; omega⟩) h1 (accV_credit _)) $$ [Hc Ha HO]
  · isplitr; · iexact HR
    isplitl [Hc]; · iexact Hc
    isplitl [Ha] <;> iassumption
  iintro ⟨HP, Hz, HO⟩
  iapply (wp_here m K J c h2 (outV_credit _ _)) $$ [Hf HO]
  · isplitr; · iexact HR
    isplitl [Hf] <;> iassumption
  iintro ⟨⟨Hout, Hacc⟩, Hoc, HO⟩
  ihave HP := (Entails.of_eq (dmaPay_ys m c p)) $$ HP
  unfold ysPay
  iapply Hk
  isplitl [HC Hout Hz HX]
  · iapply HC
    unfold finished
    isplitl [Hout]; · iexact Hout
    isplitl [Hz] <;> iassumption
  isplitl [HP Hacc Hoc]
  · unfold slotRes
    isplitl [HP Hacc]
    · iapply (own_any c _ (finT m c p))
      iapply ((owns_halves (c : Thread nD τ) (accV (slotOf p.val)) fullShare (finT m c p)).2)
      isplitl [HP] <;> iassumption
    iexact Hoc
  iexact HO

end Cert.MeshSum
end
-- ==== Proof.Trips.lean ====
/-
  One trip of the kernel's main loop: in its first half a chunk is multiplied and sent along `x`, in its second half the
  chunk started two trips before is added up and sent along `y` and to the result.
-/
module

public import proofs.«01_k».proof.Proof.Chunks

@[expose] public section

noncomputable section

namespace Cert.MeshSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × Fin 66 → ℕ) (J : Dev nD × ℕ → ℕ)

/-- Chunks six apart use the same slot. -/
theorem slotOf_sub {p : ℕ} (h : 6 ≤ p) : slotOf (p - 6) = slotOf p := Fin.ext (by unfold slotOf; dsimp only; omega)

section At
variable {sp sp' : Space} {s : Shape} {e : EltTy} {α : Type}

/-- The wait for a transfer, the semaphore and the piece given by equations. -/
theorem wp_recv_at (c : Dev nD) {k k' : DmaSem sig} (hk : k' = k) {D D' : Memref sig .tc sp s e} (hD : D' = D) (h : Shared k) {a eb b : ℕ} (hb : Below (lev (.dma k) 0) a eb b)
    {s' : Shape} {e' : EltTy} {srcw : Memref sig .tc sp' s' e'} {hsrc : srcw.view.WordExact} {hdst : D'.view.WordExact}
    {f : PUnit → Prog (TpuEff nD τ sig (Elt F) Λ₀ .tc) α} {Q : α → sProp 𝕄} (hN : D.view.dmaCredit = NT) :
    iprop(recs m K J ∗ cred (tallyAt (dcell c k) 0 NT) ∗ atPos (ER (F := F)) (dcell c k) 0 ∅ 0 ∗ owing c (due c a eb b))
      ⊢ iprop(((dmaPay m c k ∗ semVal (dcell c k) 0 ∗ owing c (due c a eb b)) -∗ WP c (f ⟨⟩) Q)
        -∗ WP c (.op (.waitDma2 k' srcw D' hsrc hdst) f) Q) := by
  subst hk hD
  exact wp_recv m K J c h hb hN

/-- The transfer of chunk `p` to the `x` neighbour. -/
theorem wp_send_x (c : Dev nD) (p : Fin 16) {S : Memref sig .tc .vmem S1024x512 .f32} {D : Memref sig .tc .vmem S1024x512 .f32} {kS kD : DmaSem sig} {n : Dev nD}
    (hn : n = xn c) (hS : S = accV (slotOf p.val)) (hD : D = recV (slotOf p.val)) (hkS : kS = xsS p) (hkD : kD = xrS p) {eb b : ℕ}
    {hsc : (show Memref sig (Dev.tc n : Thread nD τ).2.kind .vmem S1024x512 .f32 from D).view.ref.isScScratch = false} {hsrc : S.view.WordExact} {hdst : D.view.WordExact}
    {hsem : DmaTarget.Typed .vmem (.dma kD) (.remote (Dev.tc n : Thread nD τ) D (.dma kS) hsc)}
    {f : PUnit → Prog (TpuEff nD τ sig (Elt F) Λ₀ .tc) α} {Q : α → sProp 𝕄} :
    iprop(recs m K J ∗ own c (accV (slotOf p.val)) fullShare (part m c p) ∗ anyOwn (xn c) (recV (slotOf p.val)) ∗ owing c (due c p.val eb b)
        ∗ dutyTok (ER (F := F)) (dcell c (xsS p)) 0 0 ∗ dutyTok (ER (F := F)) (dcell (xn c) (xrS p)) 0 0)
      ⊢ iprop(((cred (tallyAt (dcell c (xsS p)) 0 NT) ∗ owing c (due c (p.val + 1) eb b)) -∗ WP c (f ⟨⟩) Q)
        -∗ WP c (.op (.enqueueDma S (.remote (Dev.tc n : Thread nD τ) D (.dma kS) hsc) (.dma kD) hsrc hdst hsem) f) Q) := by
  have hp := p.isLt
  subst hS hD hkS hkD
  refine wp_send m K J c (xn c) hn ⟨by unfold xsS; dsimp only; omega, by unfold xsS; dsimp only; omega⟩ ⟨by unfold xrS; dsimp only; omega, by unfold xrS; dsimp only; omega⟩
    (recV_credit _) (due_x c p eb b) ?_ ?_
  · rw [dmaPay_xs]; exact Entails.rfl
  · rw [dmaPay_xr]; unfold xrPay; rw [xn_xn]

/-- The transfer of chunk `q` to the `y` neighbour. -/
theorem wp_send_y (c : Dev nD) (q : Fin 16) {S : Memref sig .tc .vmem S1024x512 .f32} {D : Memref sig .tc .hbm S1024x512 .f32} {kS kD : DmaSem sig} {n : Dev nD}
    (hn : n = yn c) (hS : S = accV (slotOf q.val)) (hD : D = outV (col c) q) (hkS : kS = ysS q) (hkD : kD = yrS q) {a eb : ℕ}
    {hsc : (show Memref sig (Dev.tc n : Thread nD τ).2.kind .hbm S1024x512 .f32 from D).view.ref.isScScratch = false} {hsrc : S.view.WordExact} {hdst : D.view.WordExact}
    {hsem : DmaTarget.Typed .vmem (.dma kD) (.remote (Dev.tc n : Thread nD τ) D (.dma kS) hsc)}
    {f : PUnit → Prog (TpuEff nD τ sig (Elt F) Λ₀ .tc) α} {Q : α → sProp 𝕄} :
    iprop(recs m K J ∗ own c (accV (slotOf q.val)) fullShare.left (finT m c q) ∗ anyOwn (yn c) (outV (col c) q) ∗ owing c (due c a eb q.val)
        ∗ dutyTok (ER (F := F)) (dcell c (ysS q)) 0 0 ∗ dutyTok (ER (F := F)) (dcell (yn c) (yrS q)) 0 0)
      ⊢ iprop(((cred (tallyAt (dcell c (ysS q)) 0 NT) ∗ owing c (due c a eb (q.val + 1))) -∗ WP c (f ⟨⟩) Q)
        -∗ WP c (.op (.enqueueDma S (.remote (Dev.tc n : Thread nD τ) D (.dma kS) hsc) (.dma kD) hsrc hdst hsem) f) Q) := by
  have hq := q.isLt
  subst hS hD hkS hkD
  refine wp_send m K J c (yn c) hn ⟨by unfold ysS; dsimp only; omega, by unfold ysS; dsimp only; omega⟩ ⟨by unfold yrS; dsimp only; omega, by unfold yrS; dsimp only; omega⟩
    (outV_credit _ _) (due_y c a eb q) ?_ ?_
  · rw [dmaPay_ys]; exact Entails.rfl
  · rw [dmaPay_yr]; unfold yrPay; rw [yn_yn]

/-- A copy to the result, the pieces and the semaphore given by equations. -/
theorem wp_copyOut_at (c : Dev nD) {u : Fin 6} {y : Fin 2} {q : Fin 16} {S : Memref sig .tc .vmem S1024x512 .f32} {D : Memref sig .tc .hbm S1024x512 .f32} {k : DmaSem sig}
    (hS : S = accV u) (hD : D = outV y q) (hk : k = ocS u) {hsrc : S.view.WordExact} {hdst : D.view.WordExact}
    {hsem : (DmaTarget.here D : DmaTarget nD τ sig .tc .hbm S1024x512 .f32).Typed .vmem (.dma k)} {X : S1024x512.Idx → Elt F .f32} {r : PosShare TreeShare}
    {f : PUnit → Prog (TpuEff nD τ sig (Elt F) Λ₀ .tc) α} {Q : α → sProp 𝕄} :
    iprop(own c (accV u) r X ∗ anyOwn c (outV y q) ∗ semVal (dcell c (ocS u)) 0)
      ⊢ iprop((fly c (ocS u) NT iprop(own c (outV y q) fullShare X ∗ own c (accV u) r X) -∗ WP c (f ⟨⟩) Q)
        -∗ WP c (.op (.enqueueDma S (.here D) (.dma k) hsrc hdst hsem) f) Q) := by
  subst hS hD hk
  exact wp_copyOut c (outV_credit _ _) (by decide)

end At

/-! ## The first half -/

/-- The chunk six before is finished, and frees the accumulator slot. -/
theorem part4_spec (c : Dev nD) (p : Fin 16) (t : Fin k0_t1_loop.trips) (ht : t.val = p.val) (h1 : k0_cond1 t = 1#1) (v6 arg15 : BitVec 32)
    {a e b : ℕ} {Q : PUnit → sProp 𝕄} :
    iprop((recs m K J ∗ chunks m c (p.val - 6) (p.val - 2) p.val ∗ owing c (due c a e b))
        ∗ ((chunks m c (p.val + 1 - 6) (p.val - 2) p.val ∗ (if p.val < 6 then iprop(emp) else slotRes c (slotOf p.val)) ∗ owing c (due c a e b)) -∗ Q ⟨⟩))
      ⊢ WP c (k0_part4 dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11 c v6 t arg15 h1) Q := by
  have hp := p.isLt
  rw [k0_part4_eq_skeleton]; unfold k0_part4_skel
  by_cases h : k0_cond2 t = 1#1
  · have h6 : 6 ≤ p.val := ht ▸ (cond2_iff t).mp h
    rw [dif_pos h]
    rw [k0_part1_eq_skeleton]; unfold k0_part1_skel
    simp only [Prog.lift, Prog.bind_op, Prog.bind_ret, Prog.pure_eq_ret, Prog.bind_assoc]
    rw [if_neg (show ¬ p.val < 6 by omega), show p.val + 1 - 6 = p.val - 6 + 1 by omega]
    have hs : slotOf t.val = slotOf (p.val - 6) := by rw [ht, slotOf_sub h6]
    have hs' : slotOf p.val = slotOf (p.val - 6) := (slotOf_sub h6).symm
    rw [hs']
    iintro ⟨H, Hk⟩
    iapply (wp_finish m K J c ⟨p.val - 6, by omega⟩ (b' := p.val - 2) (by dsimp only; omega)
      (accV_of ((off2_eq t).trans (by rw [hs])) _ _ _) (sem16_of ⟨p.val - 6, by omega⟩ (by dsimp only; omega) ((off1_eq t (by omega)).trans (by rw [ht])) _ _)
      (outV_of ((off3_eq c t (by omega) (by omega)).trans (by rw [ht])) _ _) (sem6_of (slotOf (p.val - 6)) (by omega) ((off4_eq t).trans (by rw [hs])) _ _)) $$ H
    iintro H
    iapply wp_done
    iapply Hk; iexact H
  · have h6 : p.val < 6 := by
      by_contra hn; exact h ((cond2_iff t).mpr (by omega))
    rw [dif_neg h]
    simp only [Prog.lift, Prog.bind_op, Prog.bind_ret, Prog.pure_eq_ret, Prog.bind_assoc]
    rw [if_pos h6, show p.val + 1 - 6 = p.val - 6 by omega]
    iintro ⟨⟨-, HC, HO⟩, Hk⟩
    iapply wp_done
    iapply Hk
    isplitl [HC]; · iexact HC
    isplitr; · iempintro
    iexact HO

/-- The chunk's tiles are multiplied; then the receive slot of the `x` neighbour is the device's to write. -/
theorem part7_spec (c : Dev nD) (p : Fin 16) (t : Fin k0_t1_loop.trips) (ht : t.val = p.val) (h1 : k0_cond1 t = 1#1) (v6 v9 arg15 : BitVec 32)
    (h15 : arg15 = Scf.iv 0#32 1#32 t) (v294 v404 v405 : BitVec 32) (v406 v409 : BitVec 1) {Q : BitVec 32 → sProp 𝕄} :
    iprop((recs m K J ∗ anyOwn c (accV (slotOf p.val)) ∗ args m c ∗ tfly m c p 0 0 ∗ tfly m c p 1 1 ∗ creditSt c (p.val - 6) ∗ target c p
          ∗ owing c (due c p.val (min (p.val - 2) 10) (p.val - 2)))
        ∗ (∀ x, (own c (accV (slotOf p.val)) fullShare (part m c p) ∗ args m c ∗ tslot c 0 ∗ tslot c 1 ∗ creditSt c (p.val + 1 - 6)
          ∗ anyOwn (xn c) (recV (slotOf p.val)) ∗ owing c (due c p.val (min (p.val - 2) 10) (p.val - 2))) -∗ Q x))
      ⊢ WP c (k0_part7 dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11 c v6 v9 t arg15 v294 h1 v404 v405 v406 v409) Q := by
  have hp := p.isLt
  subst h15
  rw [k0_part7_eq_skeleton]; unfold k0_part7_skel
  simp only [Prog.lift, Prog.bind_op, Prog.bind_ret, Prog.pure_eq_ret, Prog.bind_assoc, semWaitWord]
  iintro ⟨⟨#HR, Hacc, Hargs, Hf0, Hf1, Hcr, Htg, HO⟩, Hk⟩
  iapply (wp_tile_wait m K J c p 0 0 (dyV_of tz0 _ _ _) (sem2_of 0 (by decide) rfl _ _) (wV_of tz0 _ _ _) (sem2_of 0 (by decide) rfl _ _)) $$ [Hf0 HO]
  · isplitr; · iexact HR
    isplitl [Hf0] <;> iassumption
  iintro ⟨Hd, Hw, ⟨Hsd, Hsw⟩, HO⟩
  iapply (wp_load_slot c dyB (fun _ => rfl) squeezes_S1x1024x1024_S1024x1024 squeezes_S1x1024x1024_S1024x1024.numel_eq.symm (dyV_of tz0 _ _ _)) $$ Hd
  iintro Hd
  iapply (wp_load_slot c wB (fun _ => rfl) squeezes_S1x512x1024_S512x1024 squeezes_S1x512x1024_S512x1024.numel_eq.symm (wV_of tz0 _ _ _)) $$ Hw
  iintro Hw
  unfold anyOwn
  icases Hacc with ⟨%X, Hacc⟩
  iapply (wp_load_slot c accB (fun _ => rfl) squeezes_S1x1024x512_S1024x512 shapeCasts_S1024x512_S1x1024x512 (accV_of ((off9_eq t).trans (by rw [ht])) _ _ _)) $$ Hacc
  iintro Hacc
  ihave Hacc := (own_any c _ _) $$ Hacc
  iapply (wp_store_slot c accB (fun _ => rfl) squeezes_S1x1024x512_S1024x512 shapeCasts_S1x1024x512_S1024x512 (accV_of ((off9_eq t).trans (by rw [ht])) _ _ _)) $$ Hacc
  iintro Hacc
  iapply (tiles_spec m K J c p t ht h1) $$ [Hacc Hargs Hd Hw Hsd Hsw Hf1 HO]
  · isplitr; · iexact HR
    isplitl [Hacc]; · iexact Hacc
    isplitl [Hargs]; · iexact Hargs
    isplitl [Hd Hw Hsd Hsw]
    · unfold tslot
      isplitl [Hd]; · iapply (own_any c _ _); iexact Hd
      isplitl [Hw]; · iapply (own_any c _ _); iexact Hw
      isplitl [Hsd] <;> iassumption
    isplitl [Hf1]; · iexact Hf1
    iexact HO
  iintro ⟨Hacc, Hargs, H0, H1, HO⟩
  by_cases h6 : 6 ≤ p.val
  · rw [dif_pos ((cond4_iff t).mpr (by omega))]
    ihave Htg := (Entails.of_eq (show target (F := F) c p = _ from if_neg (show ¬ p.val < 6 by omega))) $$ Htg
    icases Htg with ⟨Hwt, Hc⟩
    iapply (wp_credit m K J c (j := p.val - 6) (by omega) rfl (a := p.val) (e := min (p.val - 2) 10) (b := p.val - 2) (by unfold Below; omega)) $$ [Hc Hcr HO]
    · isplitr; · iexact HR
      isplitl [Hc]; · iexact Hc
      isplitl [Hcr] <;> iassumption
    iintro ⟨Hcr, Hrel, HO⟩
    ihave #HS := (recs_slot m K J (xn c) (show p.val - 6 < 10 by omega)) $$ HR
    imod (slot_take (ES (F := F)) (Set.mem_univ _) 1) $$ [Hrel Hwt] with Hrec
    · isplitr; · iexact HS
      isplitl [Hrel] <;> iassumption
    iapply wp_done
    iapply Hk
    isplitl [Hacc]; · iexact Hacc
    isplitl [Hargs]; · iexact Hargs
    isplitl [H0]; · iexact H0
    isplitl [H1]; · iexact H1
    isplitl [Hcr]; · iapply (Entails.of_eq (show creditSt (F := F) c (p.val - 6 + 1) = creditSt c (p.val + 1 - 6) from congrArg _ (by omega))); iexact Hcr
    isplitl [Hrec]
    · iapply (Entails.of_eq (show recSlot (F := F) (xn c, p.val - 6) = iprop(∃ X, own (xn c) (recV (slotOf p.val)) fullShare X) from by
        unfold recSlot anyOwn; dsimp only; rw [slotOf_sub h6])); iexact Hrec
    iexact HO
  · rw [dif_neg fun h => h6 (by have := (cond4_iff t).mp h; omega)]
    ihave Htg := (Entails.of_eq (show target (F := F) c p = iprop(∃ X, own (xn c) (recV (slotOf p.val)) fullShare X) from if_pos (show p.val < 6 by omega))) $$ Htg
    iapply wp_done
    iapply Hk
    isplitl [Hacc]; · iexact Hacc
    isplitl [Hargs]; · iexact Hargs
    isplitl [H0]; · iexact H0
    isplitl [H1]; · iexact H1
    isplitl [Hcr]; · iapply (Entails.of_eq (show creditSt (F := F) c (p.val - 6) = creditSt c (p.val + 1 - 6) from congrArg _ (by omega))); iexact Hcr
    isplitl [Htg]; · iexact Htg
    iexact HO

/-! ## The second half -/

/-- The chunk has left and the `x` neighbour's has come: both are read. -/
theorem part8_spec (c : Dev nD) (q : Fin 16) (t : Fin k0_t1_loop.trips) (ht : t.val = q.val + 2) (h5 : k0_cond5 t = 1#1) (v5 v9 arg15 : BitVec 32)
    {a e : ℕ} (hb : Below (2 * q.val + 1) a e q.val) {Q : _ → sProp 𝕄} :
    iprop((recs m K J ∗ cred (tallyAt (dcell c (xsS q)) 0 NT) ∗ atPos (ER (F := F)) (dcell c (xsS q)) 0 ∅ 0
          ∗ cred (tallyAt (dcell c (xrS q)) 0 NT) ∗ atPos (ER (F := F)) (dcell c (xrS q)) 0 ∅ 0 ∗ owing c (due c a e q.val))
        ∗ (∀ w, (own c (accV (slotOf q.val)) fullShare (part m c q) ∗ own c (recV (slotOf q.val)) fullShare (part m (xn c) q)
          ∗ semVal (dcell c (xsS q)) 0 ∗ semVal (dcell c (xrS q)) 0 ∗ owing c (due c a e q.val))
          -∗ Q ⟨w, k0_pay3 (shapeCast S1x1024x512 (part m c q) shapeCasts_S1024x512_S1x1024x512) (shapeCast S1x1024x512 (part m (xn c) q) shapeCasts_S1024x512_S1x1024x512)⟩))
      ⊢ WP c (k0_part8 dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11 v5 v9 t arg15 h5) Q := by
  have hq := q.isLt
  have hs : slotOf (t.val - 2) = slotOf q.val := by rw [ht]; rfl
  rw [k0_part8_eq_skeleton]; unfold k0_part8_skel
  simp only [Prog.lift, Prog.bind_op, Prog.bind_ret, Prog.pure_eq_ret, Prog.bind_assoc]
  have hx : Shared (xsS q) := ⟨by unfold xsS; dsimp only; omega, by unfold xsS; dsimp only; omega⟩
  have hr : Shared (xrS q) := ⟨by unfold xrS; dsimp only; omega, by unfold xrS; dsimp only; omega⟩
  have hk1 := sem16_of (b := 4) (hb := by decide) q (show 4 + q.val < 74 by omega) ((off25_eq t (by omega)).trans (by rw [ht]; rfl)) (k0_off25_inb t h5) squeezes_S1_S_
  have hk2 := sem16_of (b := 20) (hb := by decide) q (show 20 + q.val < 74 by omega) ((off25_eq t (by omega)).trans (by rw [ht]; rfl)) (k0_off25_inb t h5) squeezes_S1_S_
  have hA := accV_of (s := slotOf q.val) ((off26_eq t (by omega)).trans (by rw [hs])) (k0_off26_inb t h5) (fun _ => rfl) squeezes_S1x1024x512_S1024x512
  have hB := recV_of (s := slotOf q.val) ((off26_eq t (by omega)).trans (by rw [hs])) (k0_off26_inb t h5) (fun _ => rfl) squeezes_S1x1024x512_S1024x512
  have hl : Below (lev (.dma (xsS q)) 0) a e q.val := by
    have : lev (.dma (xsS q)) 0 = 0 := by unfold lev xsS; dsimp only; rw [if_neg (by omega), if_neg (by omega)]
    rw [this]; exact below_zero _ _ _
  have hl2 : Below (lev (.dma (xrS q)) 0) a e q.val := by rw [lev_xr]; exact hb
  iintro ⟨⟨#HR, Hc1, Ha1, Hc2, Ha2, HO⟩, Hk⟩
  iapply (wp_recv_at m K J c (k := xsS q) hk1 hA hx hl (accV_credit _)) $$ [Hc1 Ha1 HO]
  · isplitr; · iexact HR
    isplitl [Hc1]; · iexact Hc1
    isplitl [Ha1] <;> iassumption
  iintro ⟨Hp, Hz1, HO⟩
  ihave Hacc := (Entails.of_eq (dmaPay_xs m c q)) $$ Hp
  unfold xsPay
  iapply (wp_recv_at m K J c (k := xrS q) hk2 hB hr hl2 (recV_credit _)) $$ [Hc2 Ha2 HO]
  · isplitr; · iexact HR
    isplitl [Hc2]; · iexact Hc2
    isplitl [Ha2] <;> iassumption
  iintro ⟨Hp, Hz2, HO⟩
  ihave Hrec := (Entails.of_eq (dmaPay_xr m c q)) $$ Hp
  unfold xrPay
  iapply (wp_load_slot c accB (fun _ => rfl) squeezes_S1x1024x512_S1024x512 shapeCasts_S1024x512_S1x1024x512 (accV_of ((off27_eq t (by omega)).trans (by rw [hs])) _ _ _)) $$ Hacc
  iintro Hacc
  iapply (wp_load_slot c recB (fun _ => rfl) squeezes_S1x1024x512_S1024x512 shapeCasts_S1024x512_S1x1024x512 (recV_of ((off27_eq t (by omega)).trans (by rw [hs])) _ _ _)) $$ Hrec
  iintro Hrec
  iapply wp_done
  ihave HQ := Hk $$ %(Scalar.subi arg15 2#32) [Hacc Hrec Hz1 Hz2 HO]
  · isplitl [Hacc]; · iexact Hacc
    isplitl [Hrec]; · iexact Hrec
    isplitl [Hz1]; · iexact Hz1
    isplitl [Hz2]; · iexact Hz2
    iexact HO
  iapply (Entails.of_eq (show Q ⟨Scalar.subi arg15 2#32, k0_pay3 (shapeCast S1x1024x512 (part m c q) shapeCasts_S1024x512_S1x1024x512) (shapeCast S1x1024x512 (part m (xn c) q) shapeCasts_S1024x512_S1x1024x512)⟩
    = Q ⟨Scalar.subi arg15 2#32, k0_pay3 (shapeCast (Rect.unit (s := S6x1024x512) (k0_off27 t) S1x1024x512.size (k0_off27_inb t h5)).shape (part m c q) shapeCasts_S1024x512_S1x1024x512) (shapeCast (Rect.unit (s := S6x1024x512) (k0_off27 t) S1x1024x512.size (k0_off27_inb t h5)).shape (part m (xn c) q) shapeCasts_S1024x512_S1x1024x512)⟩ from rfl))
  iexact HQ

/-- Device `c` has emptied its receive slots of the chunks below `k`. -/
def emptied (c : Dev nD) (k : ℕ) : sProp 𝕄 := bigSep (Finset.range k) fun i => released (ES (F := F)) (c, i) 1
omit [FloatOps F] in
instance emptied_persistent (c : Dev nD) (k : ℕ) : BI.Persistent (emptied (F := F) c k) := by unfold emptied; infer_instance

omit [FloatOps F] in
/-- One more slot emptied. -/
theorem emptied_succ (c : Dev nD) (k : ℕ) : iprop(released (ES (F := F)) (c, k) 1 ∗ emptied c k) ⊢ (emptied c (k + 1) : sProp 𝕄) := by
  unfold emptied
  refine Entails.of_eq ?_
  rw [Finset.range_add_one, bigSep_insert Finset.notMem_range_self]; rfl
omit [FloatOps F] in
/-- What a credit tells the `x` neighbour. -/
theorem emptied_pay (c : Dev nD) (k : ℕ) : emptied c (k + 1) ⊢ (regPay (xn c) crS k : sProp 𝕄) := by
  refine Entails.of_eq ?_
  unfold regPay crPay emptied
  rw [if_neg cr_ne_bar, xn_xn]

/-- The sum is stored; of the first ten chunks the receive slot is given back. -/
theorem part9_spec (c : Dev nD) (q : Fin 16) (t : Fin k0_t1_loop.trips) (ht : t.val = q.val + 2) (h5 : k0_cond5 t = 1#1) (v2 v5 v6 v9 v301 : BitVec 32)
    (V : FVec F S1024x512 .f32) {a b : ℕ} {Q : _ → sProp 𝕄} :
    iprop((recs m K J ∗ anyOwn c (accV (slotOf q.val)) ∗ anyOwn c (recV (slotOf q.val)) ∗ emptied c (min q.val 10)
          ∗ (if q.val < 10 then iprop(dutyTok (ER (F := F)) (rcell (xn c) crS) 0 q.val ∗ readerAt (ES (F := F)) (c, q.val) 0) else iprop(emp))
          ∗ owing c (due c a (min q.val 10) b))
        ∗ (∀ x, (own c (accV (slotOf q.val)) fullShare (shapeCast S1024x512 (k0_pay4 V) shapeCasts_S1x1024x512_S1024x512)
          ∗ (if q.val < 10 then iprop(emp) else anyOwn c (recV (slotOf q.val))) ∗ emptied c (min (q.val + 1) 10)
          ∗ owing c (due c a (min (q.val + 1) 10) b)) -∗ Q x))
      ⊢ WP c (k0_part9 dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11 c v2 v5 v6 v9 t h5 v301 V) Q := by
  have hq := q.isLt
  have hs : slotOf (t.val - 2) = slotOf q.val := by rw [ht]; rfl
  rw [k0_part9_eq_skeleton]; unfold k0_part9_skel
  simp only [Prog.lift, Prog.bind_op, Prog.bind_ret, Prog.pure_eq_ret, Prog.bind_assoc, semSignalWord]
  by_cases h : q.val < 10
  · rw [dif_pos ((cond6_iff t).mpr (by omega)), if_pos h, if_pos h, show min q.val 10 = q.val by omega, show min (q.val + 1) 10 = q.val + 1 by omega]
    iintro ⟨⟨#HR, Hacc, Hrec, #Hem, Htok, HO⟩, Hk⟩
    ihave Hacc := (Entails.of_eq (show anyOwn (F := F) c (accV (slotOf q.val)) = iprop(∃ X, own c (accV (slotOf q.val)) fullShare X) from rfl)) $$ Hacc
    icases Hacc with ⟨%X, Hacc⟩
    iapply (wp_load_slot c accB (fun _ => rfl) squeezes_S1x1024x512_S1024x512 shapeCasts_S1024x512_S1x1024x512 (accV_of ((off27_eq t (by omega)).trans (by rw [hs])) _ _ _)) $$ Hacc
    iintro Hacc
    ihave Hacc := (own_any c _ _) $$ Hacc
    iapply (wp_store_slot c accB (fun _ => rfl) squeezes_S1x1024x512_S1024x512 shapeCasts_S1x1024x512_S1024x512 (accV_of ((off27_eq t (by omega)).trans (by rw [hs])) _ _ _)) $$ Hacc
    iintro Hacc
    icases Htok with ⟨Htok, Hrd⟩
    ihave #HS := (recs_slot m K J c h) $$ HR
    imod (slot_release (ES (F := F)) (Set.mem_univ _) (anyOwn_excl c (recV (slotOf q.val)) (fun i => ⟨0, by revert i; decide⟩)) 0) $$ [Hrec Hrd] with ⟨-, #Hrel⟩
    · isplitr; · iexact HS
      isplitl [Hrd] <;> iassumption
    ihave #Hem' := (emptied_succ c q.val) $$ []
    · isplitr; · iexact Hrel
      iexact Hem
    iapply (wp_raise m K J c (xn c) (dev4_eq c _) (kcell_cr _) (d := q.val) (show q.val ∈ dutiesOf (.reg crS) from by
        unfold dutiesOf; dsimp only; rw [if_neg cr_ne_bar]; exact Finset.mem_range.mpr h) q.val (due_c c a ⟨q.val, h⟩ b) rfl) $$ [HO Htok]
    · isplitr; · iexact HR
      isplitl [HO]; · iexact HO
      isplitl [Htok]; · iexact Htok
      iapply (emptied_pay c q.val); iexact Hem'
    iintro HO
    iapply wp_done
    iapply Hk
    isplitl [Hacc]; · iexact Hacc
    isplitr; · iempintro
    isplitr; · iexact Hem'
    iexact HO
  · rw [dif_neg fun h' => h (by have := (cond6_iff t).mp h'; omega), if_neg h, if_neg h, show min (q.val + 1) 10 = min q.val 10 by omega]
    iintro ⟨⟨#HR, Hacc, Hrec, #Hem, Htok, HO⟩, Hk⟩
    ihave Hacc := (Entails.of_eq (show anyOwn (F := F) c (accV (slotOf q.val)) = iprop(∃ X, own c (accV (slotOf q.val)) fullShare X) from rfl)) $$ Hacc
    icases Hacc with ⟨%X, Hacc⟩
    iapply (wp_load_slot c accB (fun _ => rfl) squeezes_S1x1024x512_S1024x512 shapeCasts_S1024x512_S1x1024x512 (accV_of ((off27_eq t (by omega)).trans (by rw [hs])) _ _ _)) $$ Hacc
    iintro Hacc
    ihave Hacc := (own_any c _ _) $$ Hacc
    iapply (wp_store_slot c accB (fun _ => rfl) squeezes_S1x1024x512_S1024x512 shapeCasts_S1x1024x512_S1024x512 (accV_of ((off27_eq t (by omega)).trans (by rw [hs])) _ _ _)) $$ Hacc
    iintro Hacc
    iapply wp_done
    iapply Hk
    isplitl [Hacc]; · iexact Hacc
    isplitl [Hrec]; · iexact Hrec
    isplitr; · iexact Hem
    iexact HO

/-- The chunk's sum leaves for the `y` neighbour. -/
theorem part10_spec (c : Dev nD) (q : Fin 16) (t : Fin k0_t1_loop.trips) (ht : t.val = q.val + 2) (h5 : k0_cond5 t = 1#1) (v6 v10 v301 v372 c0 : BitVec 32)
    {a e : ℕ} {Q : PUnit → sProp 𝕄} :
    iprop((recs m K J ∗ own c (accV (slotOf q.val)) fullShare.left (finT m c q) ∗ anyOwn (yn c) (outV (col c) q) ∗ owing c (due c a e q.val)
          ∗ dutyTok (ER (F := F)) (dcell c (ysS q)) 0 0 ∗ dutyTok (ER (F := F)) (dcell (yn c) (yrS q)) 0 0)
        ∗ ((cred (tallyAt (dcell c (ysS q)) 0 NT) ∗ owing c (due c a e (q.val + 1))) -∗ Q ⟨⟩))
      ⊢ WP c (k0_part10 dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11 c v6 v10 t h5 v301 v372 c0) Q := by
  have hq := q.isLt
  have hs : slotOf (t.val - 2) = slotOf q.val := by rw [ht]; rfl
  rw [k0_part10_eq_skeleton]; unfold k0_part10_skel
  simp only [Prog.lift, Prog.bind_op, Prog.bind_ret, Prog.pure_eq_ret, Prog.bind_assoc]
  iintro ⟨H, Hk⟩
  iapply (wp_send_y m K J c q (dev5_eq c _) (accV_of ((off26_eq t (by omega)).trans (by rw [hs])) _ _ _) (outV_of ((off28_eq c t (by omega)).trans (by rw [ht]; rfl)) _ _)
    (sem16_of q (by omega) ((off25_eq t (by omega)).trans (by rw [ht]; rfl)) _ _) (sem16_of q (by omega) ((off25_eq t (by omega)).trans (by rw [ht]; rfl)) _ _)) $$ H
  iintro H
  iapply wp_done
  iapply Hk; iexact H

/-- The second half of a trip. -/
theorem second_spec (c : Dev nD) (q : Fin 16) (t : Fin k0_t1_loop.trips) (ht : t.val = q.val + 2) (v2 v5 v6 v9 v10 arg15 : BitVec 32)
    {d a : ℕ} (hd : d ≤ q.val) (ha : q.val < a) (ha' : a = min (q.val + 3) 16) {Q : PUnit → sProp 𝕄} :
    iprop((recs m K J ∗ chunks m c d q.val a ∗ emptied c (min q.val 10) ∗ owing c (due c a (min q.val 10) q.val))
        ∗ ((chunks m c d (q.val + 1) a ∗ emptied c (min (q.val + 1) 10) ∗ owing c (due c a (min (q.val + 1) 10) (q.val + 1))) -∗ Q ⟨⟩))
      ⊢ WP c (if h5 : k0_cond5 t = 1#1 then
          (k0_part8 dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11 v5 v9 t arg15 h5 >>= fun x =>
            k0_part9 dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11 c v2 v5 v6 v9 t h5 x.1 x.2 >>= fun y =>
            k0_part10 dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11 c v6 v10 t h5 x.1 y.1 y.2 >>= fun _ =>
            .op (.enqueueDma ((accB.slice (Rect.unit (s := S6x1024x512) (k0_off26 t) S1x1024x512.size (k0_off26_inb t h5)) (fun _ => rfl)).squeeze S1024x512 squeezes_S1x1024x512_S1024x512)
              (.here (outA.slice (Rect.unit (s := S4096x4096) (k0_off28 c t) S1024x512.size (k0_off28_inb c t h5)) (fun _ => rfl)))
              (.dma (((cc0_scratch10 : DmaSems sig S6).slice (Rect.unit (s := S6) (k0_off29 t) S1.size (k0_off29_inb t h5))).squeeze S_ squeezes_S1_S_).sem)
              ((View.wordExact_bits rfl).reshape _ _) (View.wordExact_bits rfl) ⟨Or.inl rfl, trivial⟩) fun _ => .ret ⟨⟩)
        else .ret ⟨⟩) Q := by
  have hq := q.isLt
  have hs : slotOf (t.val - 2) = slotOf q.val := by rw [ht]; rfl
  have h5 : k0_cond5 t = 1#1 := (cond5_iff t).mpr (by omega)
  rw [dif_pos h5]
  iintro ⟨⟨#HR, HC, Hem, HO⟩, Hk⟩
  ihave HC := (chunks_y m c q hd ha) $$ HC
  icases HC with ⟨HX, HC⟩
  unfold xflight later
  icases HX with ⟨Hc1, Ha1, ⟨Ht1, Ht2, Hc2, Ha2, Ha3, Hout, Hout', Htok⟩, Hoc⟩
  iapply wp_then
  iapply (part8_spec m K J c q t ht h5 v5 v9 arg15 (a := a) (e := min q.val 10) (by unfold Below; omega))
  isplitl [Hc1 Ha1 Hc2 Ha2 HO]
  · isplitr; · iexact HR
    isplitl [Hc1]; · iexact Hc1
    isplitl [Ha1]; · iexact Ha1
    isplitl [Hc2]; · iexact Hc2
    isplitl [Ha2] <;> iassumption
  iintro %w ⟨Hacc, Hrec, Hz1, Hz2, HO⟩
  iapply wp_then
  iapply (part9_spec m K J c q t ht h5 v2 v5 v6 v9 w (k0_pay3 (shapeCast S1x1024x512 (part m c q) shapeCasts_S1024x512_S1x1024x512) (shapeCast S1x1024x512 (part m (xn c) q) shapeCasts_S1024x512_S1x1024x512)))
  isplitl [Hacc Hrec Hem Htok HO]
  · isplitr; · iexact HR
    isplitl [Hacc]; · iapply (own_any c _ _); iexact Hacc
    isplitl [Hrec]; · iapply (own_any c _ _); iexact Hrec
    isplitl [Hem]; · iexact Hem
    isplitl [Htok] <;> iassumption
  iintro %x ⟨Hacc, Hrec, Hem, HO⟩
  ihave Hacc := (Entails.of_eq (show own c (accV (slotOf q.val)) fullShare (shapeCast S1024x512 (k0_pay4 (k0_pay3 (shapeCast S1x1024x512 (part m c q) shapeCasts_S1024x512_S1x1024x512) (shapeCast S1x1024x512 (part m (xn c) q) shapeCasts_S1024x512_S1x1024x512))) shapeCasts_S1x1024x512_S1024x512)
    = own c (accV (slotOf q.val)) fullShare (finT m c q) from rfl)) $$ Hacc
  ihave Hacc := ((owns_halves (c : Thread nD τ) (accV (slotOf q.val)) fullShare (finT m c q)).1) $$ Hacc
  icases Hacc with ⟨Hl, Hr⟩
  iapply wp_then
  iapply (part10_spec m K J c q t ht h5 v6 v10)
  isplitl [Hl Hout' HO Ht1 Ht2]
  · isplitr; · iexact HR
    isplitl [Hl]; · iexact Hl
    isplitl [Hout']; · iexact Hout'
    isplitl [HO]; · iexact HO
    isplitl [Ht1] <;> iassumption
  iintro ⟨Hcy, HO⟩
  iapply (wp_copyOut_at c (accV_of ((off26_eq t (by omega)).trans (by rw [hs])) _ _ _) (outV_of ((off28_eq c t (by omega)).trans (by rw [ht]; rfl)) _ _)
    (sem6_of (slotOf q.val) (by omega) ((off29_eq t (by omega)).trans (by rw [hs])) _ _)) $$ [Hr Hout Hoc]
  · isplitl [Hr]; · iexact Hr
    isplitl [Hout] <;> iassumption
  iintro Hf
  iapply wp_done
  iapply Hk
  isplitl [HC Hcy Ha3 Hf Hz1 Hz2 Hrec]
  · iapply HC
    unfold yflight closedX
    isplitl [Hcy]; · iexact Hcy
    isplitl [Ha3]; · iexact Ha3
    isplitl [Hf]; · iexact Hf
    isplitl [Hz1]; · iexact Hz1
    isplitl [Hz2] <;> iassumption
  isplitl [Hem] <;> iassumption

/-! ## A whole trip -/

/-- Before trip `n` of the main loop. -/
def tripInv (c : Dev nD) (n : ℕ) : sProp 𝕄 :=
  iprop(chunks m c (min (n - 6) 10) (n - 2) (min n 16) ∗ creditSt c (min (n - 6) 10) ∗ emptied c (min (n - 2) 10)
    ∗ args m c ∗ tslot c 0 ∗ tslot c 1 ∗ owing c (due c (min n 16) (min (n - 2) 10) (n - 2)))
/-- After the first half of trip `n`. -/
def midInv (c : Dev nD) (n : ℕ) : sProp 𝕄 :=
  iprop(chunks m c (min (n + 1 - 6) 10) (n - 2) (min (n + 1) 16) ∗ creditSt c (min (n + 1 - 6) 10) ∗ emptied c (min (n - 2) 10)
    ∗ args m c ∗ tslot c 0 ∗ tslot c 1 ∗ owing c (due c (min (n + 1) 16) (min (n - 2) 10) (n - 2)))

/-- The second half leads from the one to the other. -/
theorem mid_spec (c : Dev nD) (t : Fin k0_t1_loop.trips) (v2 v5 v6 v9 v10 arg15 : BitVec 32) :
    iprop(recs m K J ∗ midInv m c t.val)
      ⊢ WP c (if h5 : k0_cond5 t = 1#1 then
          (k0_part8 dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11 v5 v9 t arg15 h5 >>= fun x =>
            k0_part9 dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11 c v2 v5 v6 v9 t h5 x.1 x.2 >>= fun y =>
            k0_part10 dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11 c v6 v10 t h5 x.1 y.1 y.2 >>= fun _ =>
            .op (.enqueueDma ((accB.slice (Rect.unit (s := S6x1024x512) (k0_off26 t) S1x1024x512.size (k0_off26_inb t h5)) (fun _ => rfl)).squeeze S1024x512 squeezes_S1x1024x512_S1024x512)
              (.here (outA.slice (Rect.unit (s := S4096x4096) (k0_off28 c t) S1024x512.size (k0_off28_inb c t h5)) (fun _ => rfl)))
              (.dma (((cc0_scratch10 : DmaSems sig S6).slice (Rect.unit (s := S6) (k0_off29 t) S1.size (k0_off29_inb t h5))).squeeze S_ squeezes_S1_S_).sem)
              ((View.wordExact_bits rfl).reshape _ _) (View.wordExact_bits rfl) ⟨Or.inl rfl, trivial⟩) fun _ => .ret ⟨⟩)
        else .ret ⟨⟩) (fun _ : PUnit => iprop(recs m K J ∗ tripInv m c (t.val + 1))) := by
  have ht18 : t.val < 18 := trips1 ▸ t.isLt
  by_cases h : 2 ≤ t.val
  · unfold midInv tripInv
    rw [show t.val + 1 - 2 = t.val - 2 + 1 by omega]
    iintro ⟨#HR, HC, Hcr, Hem, Hargs, H0, H1, HO⟩
    iapply (second_spec m K J c ⟨t.val - 2, by omega⟩ t (by dsimp only; omega) v2 v5 v6 v9 v10 arg15 (d := min (t.val + 1 - 6) 10) (a := min (t.val + 1) 16)
      (by dsimp only; omega) (by dsimp only; omega) (by dsimp only; omega))
    isplitl [HC Hem HO]
    · isplitr; · iexact HR
      isplitl [HC]; · iexact HC
      isplitl [Hem] <;> iassumption
    iintro ⟨HC, Hem, HO⟩
    isplitr; · iexact HR
    isplitl [HC]; · iexact HC
    isplitl [Hcr]; · iexact Hcr
    isplitl [Hem]; · iexact Hem
    isplitl [Hargs]; · iexact Hargs
    isplitl [H0]; · iexact H0
    isplitl [H1]; · iexact H1
    iexact HO
  · rw [dif_neg fun h' => h ((cond5_iff t).mp h')]
    unfold midInv tripInv
    rw [show t.val + 1 - 2 = t.val - 2 by omega]
    exact wp_done c _

end Cert.MeshSum
end
-- ==== Proof.Trip.lean ====
/-
  The whole trip, from its two halves.
-/
module

public import proofs.«01_k».proof.Proof.Trips

@[expose] public section

noncomputable section

namespace Cert.MeshSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × Fin 66 → ℕ) (J : Dev nD × ℕ → ℕ)

omit [FloatOps F] in
/-- Either way the accumulator slot is free. -/
theorem slot_either (c : Dev nD) (p : Fin 16) :
    iprop((if p.val < 6 then iprop(emp) else slotRes c (slotOf p.val)) ∗ firstSlot c p) ⊢ (slotRes c (slotOf p.val) : sProp 𝕄) := by
  unfold firstSlot
  by_cases h6 : p.val < 6
  · rw [if_pos h6, if_pos h6]; iintro ⟨-, H⟩; iexact H
  · rw [if_neg h6, if_neg h6]; iintro ⟨H, -⟩; iexact H

set_option maxHeartbeats 800000 in
/-- One trip of the main loop. -/
theorem trip_spec (c : Dev nD) (t : Fin k0_t1_loop.trips) (v2 v5 v6 v9 v10 : BitVec 32) (u : Unit) :
    iprop(recs m K J ∗ tripInv m c t.val) ⊢ WP c (k0_t1_body dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11 c v2 v5 v6 v9 v10 t u) (fun _ => iprop(recs m K J ∗ tripInv m c (t.val + 1))) := by
  have ht18 : t.val < 18 := trips1 ▸ t.isLt
  unfold k0_t1_body
  simp only [Prog.lift, Prog.bind_op, Prog.bind_ret, Prog.pure_eq_ret, Prog.bind_assoc]
  by_cases h1 : k0_cond1 t = 1#1
  · have h16 : t.val < 16 := (cond1_iff t).mp h1
    obtain ⟨p, hp⟩ : ∃ p : Fin 16, t.val = p.val := ⟨⟨t.val, h16⟩, rfl⟩
    rw [dif_pos h1]
    rw [show tripInv m c t.val = iprop(chunks m c (p.val - 6) (p.val - 2) p.val ∗ creditSt c (p.val - 6) ∗ emptied c (min (p.val - 2) 10)
        ∗ args m c ∗ tslot c 0 ∗ tslot c 1 ∗ owing c (due c p.val (min (p.val - 2) 10) (p.val - 2))) from by
      unfold tripInv
      rw [hp, show min (p.val - 6) 10 = p.val - 6 by omega, show min p.val 16 = p.val by omega]]
    iintro ⟨#HR, HC, Hcr, Hem, Hargs, H0, H1, HO⟩
    iapply wp_then
    iapply (part4_spec m K J c p t hp h1)
    isplitl [HC HO]
    · isplitr; · iexact HR
      isplitl [HC] <;> iassumption
    iintro ⟨HC, Hslot, HO⟩
    ihave HC := (chunks_x m c p (d := p.val + 1 - 6) (b := p.val - 2) (by omega) (by omega)) $$ HC
    icases HC with ⟨HF, HC⟩
    unfold fresh
    icases HF with ⟨Ht1, Ht2, Ha, Hlater, Htg, Hfirst⟩
    ihave Hslot : slotRes (F := F) c (slotOf p.val) $$ [Hslot Hfirst]
    · iapply (slot_either c p)
      isplitl [Hslot] <;> iassumption
    unfold slotRes
    icases Hslot with ⟨Hacc, Hoc⟩
    iapply wp_then
    iapply (part5_spec m c p t hp h1)
    isplitl [Hargs H0]
    · isplitl [Hargs] <;> iassumption
    iintro ⟨Hargs, Hf0⟩
    iapply wp_then
    iapply (part6_spec m c p t hp h1)
    isplitl [Hargs H1]
    · isplitl [Hargs] <;> iassumption
    iintro %x ⟨Hargs, Hf1⟩
    iapply wp_then
    iapply (part7_spec m K J c p t hp h1 _ _ _ rfl)
    isplitl [Hacc Hargs Hf0 Hf1 Hcr Htg HO]
    · isplitr; · iexact HR
      isplitl [Hacc]; · iexact Hacc
      isplitl [Hargs]; · iexact Hargs
      isplitl [Hf0]; · iexact Hf0
      isplitl [Hf1]; · iexact Hf1
      isplitl [Hcr]; · iexact Hcr
      isplitl [Htg] <;> iassumption
    iintro %y ⟨Hacc, Hargs, H0, H1, Hcr, Hrec, HO⟩
    iapply (wp_send_x m K J c p (dev3_eq c _) (accV_of ((off24_eq t).trans (by rw [hp])) _ _ _) (recV_of ((off24_eq t).trans (by rw [hp])) _ _ _)
      (sem16_of p (by omega) ((off23_eq t).trans (by rw [hp])) _ _) (sem16_of p (by omega) ((off23_eq t).trans (by rw [hp])) _ _)) $$ [Hacc Hrec HO Ht1 Ht2]
    · isplitr; · iexact HR
      isplitl [Hacc]; · iexact Hacc
      isplitl [Hrec]; · iexact Hrec
      isplitl [HO]; · iexact HO
      isplitl [Ht1] <;> iassumption
    iintro ⟨Hcx, HO⟩
    ihave HC := HC $$ [Hcx Ha Hlater Hoc]
    · unfold xflight
      isplitl [Hcx]; · iexact Hcx
      isplitl [Ha]; · iexact Ha
      isplitl [Hlater] <;> iassumption
    iapply (mid_spec m K J c t)
    isplitr; · iexact HR
    iapply (Entails.of_eq (show iprop(chunks m c (p.val + 1 - 6) (p.val - 2) (p.val + 1) ∗ creditSt c (p.val + 1 - 6) ∗ emptied c (min (p.val - 2) 10)
        ∗ args m c ∗ tslot c 0 ∗ tslot c 1 ∗ owing c (due c (p.val + 1) (min (p.val - 2) 10) (p.val - 2))) = midInv m c t.val from by
      unfold midInv
      rw [hp, show min (p.val + 1 - 6) 10 = p.val + 1 - 6 by omega, show min (p.val + 1) 16 = p.val + 1 by omega]))
    isplitl [HC]; · iexact HC
    isplitl [Hcr]; · iexact Hcr
    isplitl [Hem]; · iexact Hem
    isplitl [Hargs]; · iexact Hargs
    isplitl [H0]; · iexact H0
    isplitl [H1]; · iexact H1
    iexact HO
  · have h16 : ¬ t.val < 16 := fun h => h1 ((cond1_iff t).mpr h)
    rw [dif_neg h1]
    rw [show tripInv m c t.val = midInv m c t.val from by
      unfold tripInv midInv
      rw [show min (t.val - 6) 10 = min (t.val + 1 - 6) 10 by omega, show min t.val 16 = min (t.val + 1) 16 by omega]]
    exact mid_spec m K J c t _ _ _ _ _ _

end Cert.MeshSum
end
-- ==== Proof.Start.lean ====
/-
  The start of the kernel: the barrier with both neighbours, and what a device holds when the main loop starts and when
  it ends.
-/
module

public import proofs.«01_k».proof.Proof.Split
public import proofs.«01_k».proof.Proof.Trip

@[expose] public section

noncomputable section

namespace Cert.MeshSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- What chunk `p` needs that the device holds from the launch on; the rest comes over the barrier. -/
def prep (c : Dev nD) (p : Fin 16) : sProp 𝕄 :=
  iprop(dutyTok (ER (F := F)) (dcell c (xsS p)) 0 0 ∗ dutyTok (ER (F := F)) (dcell (xn c) (xrS p)) 0 0 ∗ atPos (ER (F := F)) (dcell c (xsS p)) 0 ∅ 0
    ∗ dutyTok (ER (F := F)) (dcell c (ysS p)) 0 0 ∗ dutyTok (ER (F := F)) (dcell (yn c) (yrS p)) 0 0
    ∗ cred (tallyAt (dcell c (xrS p)) 0 NT) ∗ atPos (ER (F := F)) (dcell c (xrS p)) 0 ∅ 0 ∗ atPos (ER (F := F)) (dcell c (ysS p)) 0 ∅ 0
    ∗ anyOwn (F := F) c (outV (col c) p)
    ∗ (if p.val < 10 then iprop(dutyTok (ER (F := F)) (rcell (xn c) crS) 0 p.val ∗ readerAt (ES (F := F)) (c, p.val) 0) else iprop(emp))
    ∗ (if p.val < 6 then iprop(emp) else iprop(writeTok (ES (F := F)) (xn c, p.val - 6) 1 ∗ cred (tallyAt (rcell c crS) (p.val - 6) 1)))
    ∗ (if p.val < 6 then slotRes (F := F) c (slotOf p.val) else iprop(emp)))

omit [FloatOps F] in
/-- With the barrier passed, a chunk can be started. -/
theorem prep_fresh (c : Dev nD) (p : Fin 16) :
    iprop(prep c p ∗ (if p.val < 6 then anyOwn (F := F) (xn c) (recV (slotOf p.val)) else iprop(emp)) ∗ anyOwn (F := F) (yn c) (outV (col c) p))
      ⊢ (fresh c p : sProp 𝕄) := by
  have ht : iprop((if p.val < 6 then iprop(emp) else iprop(writeTok (ES (F := F)) (xn c, p.val - 6) 1 ∗ cred (tallyAt (rcell c crS) (p.val - 6) 1)))
      ∗ (if p.val < 6 then anyOwn (F := F) (xn c) (recV (slotOf p.val)) else iprop(emp))) ⊢ (target c p : sProp 𝕄) := by
    unfold target
    by_cases h : p.val < 6
    · rw [if_pos h, if_pos h, if_pos h]; iintro ⟨-, H⟩; iexact H
    · rw [if_neg h, if_neg h, if_neg h]; iintro ⟨H, -⟩; iexact H
  unfold prep fresh later firstSlot
  iintro ⟨⟨H1, H2, H3, H4, H5, H6, H7, H8, H9, H10, H11, H12⟩, Hx, Hy⟩
  isplitl [H1]; · iexact H1
  isplitl [H2]; · iexact H2
  isplitl [H3]; · iexact H3
  isplitl [H4 H5 H6 H7 H8 H9 H10 Hy]
  · isplitl [H4]; · iexact H4
    isplitl [H5]; · iexact H5
    isplitl [H6]; · iexact H6
    isplitl [H7]; · iexact H7
    isplitl [H8]; · iexact H8
    isplitl [H9]; · iexact H9
    isplitl [Hy]; · iexact Hy
    iexact H10
  isplitl [H11 Hx]
  · iapply ht
    isplitl [H11]; · iexact H11
    iexact Hx
  iexact H12

/-- With the barrier passed, all the chunks can be started. -/
theorem prep_chunks (c : Dev nD) : iprop((bigSep Finset.univ fun p => prep c p) ∗ barX c ∗ barY c) ⊢ chunks m c 0 0 0 := by
  unfold barX barY chunks
  rw [bigSep_first_six, ← bigSep_sep', ← bigSep_sep']
  refine bigSep_mono fun p _ => ?_
  rw [show stage m c 0 0 0 p = fresh c p from by
    unfold stage; rw [if_neg (Nat.not_lt_zero _), if_neg (Nat.not_lt_zero _), if_neg (Nat.not_lt_zero _)]]
  exact prep_fresh c p

/-- No credit has been waited for yet. -/
theorem creditSt_zero (c : Dev nD) : atPos (ER (F := F)) (rcell c crS) 0 ∅ 0 ⊢ (creditSt c 0 : sProp 𝕄) := by
  unfold creditSt
  rw [if_pos (by decide)]
  iintro H
  iexists ∅
  isplitr; · ipureintro; exact ⟨Nat.zero_le _, Finset.empty_subset _⟩
  isplitl [H]; · iexact H
  rw [bigSep_empty]; iempintro

/-- No receive slot has been emptied yet. -/
theorem emptied_zero (c : Dev nD) : (emp : sProp 𝕄) ⊢ emptied c 0 := by
  unfold emptied; rw [Finset.range_zero, bigSep_empty]; exact .rfl

/-- What a device owes at launch. -/
def O₀ (c : Dev nD) : CellTallies nD τ sig ℕ := due c 0 0 0 + tallyAt (rcell (yn c) barS) 0 1 + tallyAt (rcell (xn c) barS) 0 1

/-- What a device holds when the kernel starts. -/
def startSt (c : Dev nD) : sProp 𝕄 :=
  iprop(dutyTok (ER (F := F)) (rcell (xn c) barS) 0 0 ∗ dutyTok (ER (F := F)) (rcell (yn c) barS) 0 1
    ∗ cred (tallyAt (rcell c barS) 0 2) ∗ atPos (ER (F := F)) (rcell c barS) 0 ∅ 0
    ∗ (bigSep Finset.univ fun s : Fin 6 => anyOwn (F := F) c (recV s)) ∗ (bigSep Finset.univ fun p : Fin 16 => anyOwn (F := F) c (outV (col (yn c)) p))
    ∗ (bigSep Finset.univ fun p => prep (F := F) c p) ∗ atPos (ER (F := F)) (rcell c crS) 0 ∅ 0 ∗ args m c ∗ tslot (F := F) c 0 ∗ tslot (F := F) c 1)

variable (K : Dev nD × Fin 66 → ℕ) (J : Dev nD × ℕ → ℕ)

set_option maxHeartbeats 800000 in
/-- The barrier and the main loop. -/
theorem part11_spec (c : Dev nD) {Q : (Σ' (d0 : Dev nD) (v2 : BitVec 32) (v6 : BitVec 32) (v8 : BitVec 32), BitVec 32) → sProp 𝕄} :
    iprop((recs m K J ∗ owing c (O₀ c) ∗ startSt m c)
        ∗ (∀ w1 : BitVec 32, ∀ w2 : BitVec 32, ∀ w3 : BitVec 32, ∀ w4 : BitVec 32, (semVal (rcell c barS) 0 ∗ tripInv m c 18) -∗ Q ⟨c, w1, w2, w3, w4⟩))
      ⊢ WP c (k0_part11 dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11) Q := by
  have hX : barX (xn c) = (bigSep Finset.univ fun s : Fin 6 => anyOwn (F := F) c (recV s) : sProp 𝕄) := by unfold barX; rw [xn_xn]
  have hY : barY (yn c) = (bigSep Finset.univ fun p : Fin 16 => anyOwn (F := F) c (outV (col (yn c)) p) : sProp 𝕄) := by unfold barY; rw [yn_yn]
  have hrX : barX (xn c) = (regPay (xn c) barS 0 : sProp 𝕄) := by unfold regPay; rw [if_pos rfl, if_pos rfl]
  have hrY : barY (yn c) = (regPay (yn c) barS 1 : sProp 𝕄) := by unfold regPay; rw [if_pos rfl, if_neg (by decide)]
  rw [k0_part11_eq_skeleton]
  unfold k0_part11_skel startSt
  rw [← hX, ← hY]
  simp only [semSignalWord, semWaitWord, Prog.lift, Prog.bind_op, Prog.bind_ret, Prog.pure_eq_ret, wp_deviceId]
  iintro ⟨⟨#HR, HO, Ht1, Ht2, Hcb, Hab, HX, HY, Hp, Hac, Hargs, H0, H1⟩, Hk⟩
  iapply (wp_raise m K J c (xn c) (dev1_eq c _) (kcell_bar _) (d := 0) (by decide) 0 (O := due c 0 0 0 + tallyAt (rcell (yn c) barS) 0 1) rfl (by decide)) $$ [HO Ht1 HX]
  · isplitr; · iexact HR
    isplitl [HO]; · iexact HO
    isplitl [Ht1]; · iexact Ht1
    iapply (Entails.of_eq hrX); iexact HX
  iintro HO
  iapply (wp_raise m K J c (yn c) (dev2_eq c _) (kcell_bar _) (d := 1) (by decide) 0 (O := due c 0 0 0) rfl (by decide)) $$ [HO Ht2 HY]
  · isplitr; · iexact HR
    isplitl [HO]; · iexact HO
    isplitl [Ht2]; · iexact Ht2
    iapply (Entails.of_eq hrY); iexact HY
  iintro HO
  iapply (wp_barrier m K J c (by decide)) $$ [Hcb Hab HO]
  · isplitr; · iexact HR
    isplitl [Hcb]; · iexact Hcb
    isplitl [Hab] <;> iassumption
  iintro ⟨HX, HY, Hzb, HO⟩
  ihave HC := (prep_chunks m c) $$ [Hp HX HY]
  · isplitl [Hp]; · iexact Hp
    isplitl [HX] <;> iassumption
  ihave Hcr := (creditSt_zero c) $$ Hac
  iapply wp_then
  iapply (Scf.wp_for frame (wpE (defs₀ (F := F)) 𝒱₀ (c : Thread nD τ) none) Set.univ _ _ _ k0_t1_ok ⟨⟩ _
    (fun k _ => iprop(recs m K J ∗ tripInv m c k)) (fun k u => trip_spec m K J c k _ _ _ _ _ u))
  isplitl [HC Hcr Hargs H0 H1 HO]
  · isplitr; · iexact HR
    unfold tripInv
    isplitl [HC]; · iexact HC
    isplitl [Hcr]; · iexact Hcr
    isplitr; · iapply (emptied_zero c); iempintro
    isplitl [Hargs]; · iexact Hargs
    isplitl [H0]; · iexact H0
    isplitl [H1]; · iexact H1
    iexact HO
  iintro %u H
  icases H with ⟨-, H⟩
  ihave H := (Entails.of_eq (show tripInv m c (Scf.trips _ _ _) = tripInv m c 18 from congrArg _ trips1)) $$ H
  iapply wp_done
  iapply Hk $$ %_ %_ %_ %_
  isplitl [Hzb]; · iexact Hzb
  iexact H

end Cert.MeshSum
end
-- ==== Proof.Body.lean ====
/-
  The end of the kernel: the last chunks are finished, then the arrivals along `y` are waited for. The whole kernel.
-/
module

public import proofs.«01_k».proof.Proof.Start

@[expose] public section

noncomputable section

namespace Cert.MeshSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- The arrivals along `y` when `i` of them have been waited for. -/
def arrivals (c : Dev nD) (i : ℕ) : sProp 𝕄 :=
  bigSep Finset.univ fun p : Fin 16 =>
    if p.val < i then iprop(yrPay m c p ∗ semVal (dcell c (yrS p)) 0)
    else iprop(cred (tallyAt (dcell c (yrS p)) 0 NT) ∗ atPos (ER (F := F)) (dcell c (yrS p)) 0 ∅ 0)

/-- One arrival taken out, to be put back when waited for. -/
theorem arrivals_step (c : Dev nD) (p : Fin 16) :
    arrivals m c p.val ⊢ iprop((cred (tallyAt (dcell c (yrS p)) 0 NT) ∗ atPos (ER (F := F)) (dcell c (yrS p)) 0 ∅ 0)
      ∗ ((yrPay m c p ∗ semVal (dcell c (yrS p)) 0) -∗ arrivals m c (p.val + 1))) := by
  unfold arrivals
  rw [← Finset.insert_erase (Finset.mem_univ p), bigSep_insert (Finset.notMem_erase _ _), bigSep_insert (Finset.notMem_erase _ _),
    if_neg (lt_irrefl _), if_pos (Nat.lt_succ_self _)]
  rw [bigSep_congr (s := Finset.univ.erase p) (Ψ := fun q : Fin 16 => if q.val < p.val + 1 then iprop(yrPay m c q ∗ semVal (dcell c (yrS q)) 0)
    else iprop(cred (tallyAt (dcell c (yrS q)) 0 NT) ∗ atPos (ER (F := F)) (dcell c (yrS q)) 0 ∅ 0)) fun q hq => by
      have : q.val ≠ p.val := fun h => Finset.ne_of_mem_erase hq (Fin.ext h)
      simp only [show q.val < p.val + 1 ↔ q.val < p.val from by omega]]
  have hop : ∀ A B R : sProp 𝕄, iprop(A ∗ R) ⊢ iprop(A ∗ (B -∗ B ∗ R)) := fun A B R => by
    iintro ⟨HA, HR⟩
    isplitl [HA]; · iexact HA
    iintro HB
    isplitl [HB] <;> iassumption
  exact hop _ _ _

variable (K : Dev nD × Fin 66 → ℕ) (J : Dev nD × ℕ → ℕ)

/-- The wait for the arrival of chunk `p` along `y`. -/
theorem wp_arrival (c : Dev nD) (p : Fin 16) {α : Type}
    {S : Memref sig .tc .vmem S1024x512 .f32} {D : Memref sig .tc .hbm S1024x512 .f32} {k : DmaSem sig}
    (hD : D = outV (col (yn c)) p) (hk : k = yrS p) {a : S.view.WordExact} {b : D.view.WordExact}
    {f : PUnit → Prog (TpuEff nD τ sig (Elt F) Λ₀ .tc) α} {Q : α → sProp 𝕄} :
    iprop(recs m K J ∗ arrivals m c p.val ∗ owing c (due c 16 10 16))
      ⊢ iprop(((arrivals m c (p.val + 1) ∗ owing c (due c 16 10 16)) -∗ WP c (f ⟨⟩) Q) -∗ WP c (.op (.waitDma2 k S D a b) f) Q) := by
  subst hD hk
  have hp := p.isLt
  iintro ⟨#HR, HA, HO⟩ Hk
  ihave HA := (arrivals_step m c p) $$ HA
  icases HA with ⟨⟨Hc, Ha⟩, HA⟩
  iapply (wp_recv m K J c (k := yrS p) (a := 16) (eb := 10) (b := 16) (show Shared (yrS p) from ⟨by unfold yrS; dsimp only; omega, by unfold yrS; dsimp only; omega⟩)
    (by unfold Below; omega) (outV_credit _ _)) $$ [Hc Ha HO]
  · isplitr; · iexact HR
    isplitl [Hc]; · iexact Hc
    isplitl [Ha] <;> iassumption
  iintro ⟨HP, Hz, HO⟩
  ihave HP := (Entails.of_eq (dmaPay_yr m c p)) $$ HP
  iapply Hk
  isplitr [HO]
  · iapply HA
    isplitl [HP] <;> iassumption
  iexact HO

/-- What a device holds when the kernel ends. -/
def endSt (c : Dev nD) : sProp 𝕄 :=
  iprop(semVal (rcell c barS) 0 ∗ semVal (rcell c crS) 0 ∗ args m c ∗ tslot (F := F) c 0 ∗ tslot (F := F) c 1
    ∗ (bigSep Finset.univ fun p => finished m c p) ∗ (bigSep Finset.univ fun p => iprop(yrPay m c p ∗ semVal (dcell c (yrS p)) 0))
    ∗ (bigSep Finset.univ fun s => slotRes (F := F) c s))

omit [FloatOps F] in
/-- The six slots, one by one. -/
theorem slots_six (c : Dev nD) : iprop(slotRes c (slotOf 12) ∗ slotRes c (slotOf 13) ∗ slotRes c (slotOf 14) ∗ slotRes c (slotOf 15) ∗ slotRes c (slotOf 10) ∗ slotRes c (slotOf 11))
    ⊢ (bigSep Finset.univ fun s => slotRes (F := F) c s : sProp 𝕄) :=
  Entails.of_eq (bigSep_univ_eq_bigSepL [0, 1, 2, 3, 4, 5] (by decide) (by decide) _).symm

/-- All the chunks finished. -/
theorem chunks_end (c : Dev nD) : chunks m c 16 16 16 ⊢ (bigSep Finset.univ fun p => finished m c p : sProp 𝕄) := by
  unfold chunks
  exact Entails.of_eq (bigSep_congr fun p _ => by unfold stage; rw [if_pos p.isLt])
/-- All the arrivals waited for. -/
theorem arrivals_end (c : Dev nD) : arrivals m c 16 ⊢ (bigSep Finset.univ fun p => iprop(yrPay m c p ∗ semVal (dcell c (yrS p)) 0) : sProp 𝕄) := by
  unfold arrivals
  exact Entails.of_eq (bigSep_congr fun p _ => by rw [if_pos p.isLt])
/-- No arrival waited for. -/
theorem arrivals_zero (c : Dev nD) :
    (bigSep Finset.univ fun p : Fin 16 => iprop(cred (tallyAt (dcell c (yrS p)) 0 NT) ∗ atPos (ER (F := F)) (dcell c (yrS p)) 0 ∅ 0)) ⊢ arrivals m c 0 := by
  unfold arrivals
  exact Entails.of_eq (bigSep_congr fun p _ => by rw [if_neg (Nat.not_lt_zero _)])

set_option maxHeartbeats 4000000 in
/-- The whole kernel. -/
theorem body_spec (c : Dev nD) {Q : PUnit → sProp 𝕄} :
    iprop((recs m K J ∗ owing c (O₀ c) ∗ startSt m c
          ∗ (bigSep Finset.univ fun p : Fin 16 => iprop(cred (tallyAt (dcell c (yrS p)) 0 NT) ∗ atPos (ER (F := F)) (dcell c (yrS p)) 0 ∅ 0)))
        ∗ ((endSt m c ∗ owing c 0) -∗ Q ⟨⟩))
      ⊢ WP c (cc0_body dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11) Q := by
  rw [cc0_body_eq_skeleton]
  unfold cc0_body_skel
  simp only [k0_part12_eq_skeleton, k0_part13_eq_skeleton, k0_part14_eq_skeleton, k0_part15_eq_skeleton, k0_part16_eq_skeleton, k0_part17_eq_skeleton,
    k0_part18_eq_skeleton, k0_part19_eq_skeleton]
  unfold k0_part12_skel k0_part13_skel k0_part14_skel k0_part15_skel k0_part16_skel k0_part17_skel k0_part18_skel k0_part19_skel
  simp only [Prog.lift, Prog.bind_op, Prog.bind_ret, Prog.pure_eq_ret, Prog.bind_assoc]
  iintro ⟨⟨#HR, HO, Hs, HA⟩, Hk⟩
  ihave HA := (arrivals_zero m c) $$ HA
  iapply wp_then
  iapply (part11_spec m K J c)
  isplitl [HO Hs]
  · isplitr; · iexact HR
    isplitl [HO] <;> iassumption
  iintro %w1 %w2 %w3 %w4 ⟨Hzb, Ht⟩
  unfold tripInv
  icases Ht with ⟨HC, Hcr, -, Hargs, Hs0, Hs1, HO⟩
  ihave HC := (Entails.of_eq (show chunks m c (min (18 - 6) 10) (18 - 2) (min 18 16) = chunks m c 10 16 16 from rfl)) $$ HC
  ihave HO := (Entails.of_eq (show owing c (due c (min 18 16) (min (18 - 2) 10) (18 - 2)) = (owing c (due c 16 10 16) : sProp 𝕄) from rfl)) $$ HO
  ihave Hcr := (Entails.of_eq (show creditSt c (min (18 - 6) 10) = (semVal (rcell c crS) 0 : sProp 𝕄) from if_neg (by decide))) $$ Hcr
  iapply (wp_finish m K J c (⟨10, by decide⟩ : Fin 16) (b' := 16) (a' := 16) (by decide) (accV_of (s := slotOf 10) rfl _ _ _) (sem16_of ⟨10, by decide⟩ (by decide) rfl _ _)
    (outV_of (off30_eq c) _ _) (sem6_of (slotOf 10) (by decide) rfl _ _)) $$ [HC HO]
  · isplitr; · iexact HR
    isplitl [HC] <;> iassumption
  iintro ⟨HC, HS4, HO⟩
  iapply (wp_finish m K J c (⟨11, by decide⟩ : Fin 16) (b' := 16) (a' := 16) (by decide) (accV_of (s := slotOf 11) rfl _ _ _) (sem16_of ⟨11, by decide⟩ (by decide) rfl _ _)
    (outV_of (off31_eq c) _ _) (sem6_of (slotOf 11) (by decide) rfl _ _)) $$ [HC HO]
  · isplitr; · iexact HR
    isplitl [HC] <;> iassumption
  iintro ⟨HC, HS5, HO⟩
  iapply (wp_finish m K J c (⟨12, by decide⟩ : Fin 16) (b' := 16) (a' := 16) (by decide) (accV_of (s := slotOf 12) rfl _ _ _) (sem16_of ⟨12, by decide⟩ (by decide) rfl _ _)
    (outV_of (off32_eq c) _ _) (sem6_of (slotOf 12) (by decide) rfl _ _)) $$ [HC HO]
  · isplitr; · iexact HR
    isplitl [HC] <;> iassumption
  iintro ⟨HC, HS0, HO⟩
  iapply (wp_finish m K J c (⟨13, by decide⟩ : Fin 16) (b' := 16) (a' := 16) (by decide) (accV_of (s := slotOf 13) rfl _ _ _) (sem16_of ⟨13, by decide⟩ (by decide) rfl _ _)
    (outV_of (off33_eq c) _ _) (sem6_of (slotOf 13) (by decide) rfl _ _)) $$ [HC HO]
  · isplitr; · iexact HR
    isplitl [HC] <;> iassumption
  iintro ⟨HC, HS1, HO⟩
  iapply (wp_finish m K J c (⟨14, by decide⟩ : Fin 16) (b' := 16) (a' := 16) (by decide) (accV_of (s := slotOf 14) rfl _ _ _) (sem16_of ⟨14, by decide⟩ (by decide) rfl _ _)
    (outV_of (off34_eq c) _ _) (sem6_of (slotOf 14) (by decide) rfl _ _)) $$ [HC HO]
  · isplitr; · iexact HR
    isplitl [HC] <;> iassumption
  iintro ⟨HC, HS2, HO⟩
  iapply (wp_finish m K J c (⟨15, by decide⟩ : Fin 16) (b' := 16) (a' := 16) (by decide) (accV_of (s := slotOf 15) rfl _ _ _) (sem16_of ⟨15, by decide⟩ (by decide) rfl _ _)
    (outV_of (off35_eq c) _ _) (sem6_of (slotOf 15) (by decide) rfl _ _)) $$ [HC HO]
  · isplitr; · iexact HR
    isplitl [HC] <;> iassumption
  iintro ⟨HC, HS3, HO⟩
  iapply (wp_arrival m K J c (⟨0, by decide⟩ : Fin 16) (outV_of (off36_eq0 c) _ _) (sem16_of ⟨0, by decide⟩ (by decide) rfl _ _)) $$ [HA HO]
  · isplitr; · iexact HR
    isplitl [HA] <;> iassumption
  iintro ⟨HA, HO⟩
  iapply (wp_arrival m K J c (⟨1, by decide⟩ : Fin 16) (outV_of (off37_eq0 c) _ _) (sem16_of ⟨1, by decide⟩ (by decide) rfl _ _)) $$ [HA HO]
  · isplitr; · iexact HR
    isplitl [HA] <;> iassumption
  iintro ⟨HA, HO⟩
  iapply (wp_arrival m K J c (⟨2, by decide⟩ : Fin 16) (outV_of (off38_eq0 c) _ _) (sem16_of ⟨2, by decide⟩ (by decide) rfl _ _)) $$ [HA HO]
  · isplitr; · iexact HR
    isplitl [HA] <;> iassumption
  iintro ⟨HA, HO⟩
  iapply (wp_arrival m K J c (⟨3, by decide⟩ : Fin 16) (outV_of (off39_eq0 c) _ _) (sem16_of ⟨3, by decide⟩ (by decide) rfl _ _)) $$ [HA HO]
  · isplitr; · iexact HR
    isplitl [HA] <;> iassumption
  iintro ⟨HA, HO⟩
  iapply (wp_arrival m K J c (⟨4, by decide⟩ : Fin 16) (outV_of (off40_eq0 c) _ _) (sem16_of ⟨4, by decide⟩ (by decide) rfl _ _)) $$ [HA HO]
  · isplitr; · iexact HR
    isplitl [HA] <;> iassumption
  iintro ⟨HA, HO⟩
  iapply (wp_arrival m K J c (⟨5, by decide⟩ : Fin 16) (outV_of (off41_eq0 c) _ _) (sem16_of ⟨5, by decide⟩ (by decide) rfl _ _)) $$ [HA HO]
  · isplitr; · iexact HR
    isplitl [HA] <;> iassumption
  iintro ⟨HA, HO⟩
  iapply (wp_arrival m K J c (⟨6, by decide⟩ : Fin 16) (outV_of (off42_eq0 c) _ _) (sem16_of ⟨6, by decide⟩ (by decide) rfl _ _)) $$ [HA HO]
  · isplitr; · iexact HR
    isplitl [HA] <;> iassumption
  iintro ⟨HA, HO⟩
  iapply (wp_arrival m K J c (⟨7, by decide⟩ : Fin 16) (outV_of (off43_eq0 c) _ _) (sem16_of ⟨7, by decide⟩ (by decide) rfl _ _)) $$ [HA HO]
  · isplitr; · iexact HR
    isplitl [HA] <;> iassumption
  iintro ⟨HA, HO⟩
  iapply (wp_arrival m K J c (⟨8, by decide⟩ : Fin 16) (outV_of (off36_eq1 c) _ _) (sem16_of ⟨8, by decide⟩ (by decide) rfl _ _)) $$ [HA HO]
  · isplitr; · iexact HR
    isplitl [HA] <;> iassumption
  iintro ⟨HA, HO⟩
  iapply (wp_arrival m K J c (⟨9, by decide⟩ : Fin 16) (outV_of (off37_eq1 c) _ _) (sem16_of ⟨9, by decide⟩ (by decide) rfl _ _)) $$ [HA HO]
  · isplitr; · iexact HR
    isplitl [HA] <;> iassumption
  iintro ⟨HA, HO⟩
  iapply (wp_arrival m K J c (⟨10, by decide⟩ : Fin 16) (outV_of (off38_eq1 c) _ _) (sem16_of ⟨10, by decide⟩ (by decide) rfl _ _)) $$ [HA HO]
  · isplitr; · iexact HR
    isplitl [HA] <;> iassumption
  iintro ⟨HA, HO⟩
  iapply (wp_arrival m K J c (⟨11, by decide⟩ : Fin 16) (outV_of (off39_eq1 c) _ _) (sem16_of ⟨11, by decide⟩ (by decide) rfl _ _)) $$ [HA HO]
  · isplitr; · iexact HR
    isplitl [HA] <;> iassumption
  iintro ⟨HA, HO⟩
  iapply (wp_arrival m K J c (⟨12, by decide⟩ : Fin 16) (outV_of (off40_eq1 c) _ _) (sem16_of ⟨12, by decide⟩ (by decide) rfl _ _)) $$ [HA HO]
  · isplitr; · iexact HR
    isplitl [HA] <;> iassumption
  iintro ⟨HA, HO⟩
  iapply (wp_arrival m K J c (⟨13, by decide⟩ : Fin 16) (outV_of (off41_eq1 c) _ _) (sem16_of ⟨13, by decide⟩ (by decide) rfl _ _)) $$ [HA HO]
  · isplitr; · iexact HR
    isplitl [HA] <;> iassumption
  iintro ⟨HA, HO⟩
  iapply (wp_arrival m K J c (⟨14, by decide⟩ : Fin 16) (outV_of (off42_eq1 c) _ _) (sem16_of ⟨14, by decide⟩ (by decide) rfl _ _)) $$ [HA HO]
  · isplitr; · iexact HR
    isplitl [HA] <;> iassumption
  iintro ⟨HA, HO⟩
  iapply (wp_arrival m K J c (⟨15, by decide⟩ : Fin 16) (outV_of (off43_eq1 c) _ _) (sem16_of ⟨15, by decide⟩ (by decide) rfl _ _)) $$ [HA HO]
  · isplitr; · iexact HR
    isplitl [HA] <;> iassumption
  iintro ⟨HA, HO⟩
  ihave HC := (chunks_end m c) $$ HC
  ihave HA := (arrivals_end m c) $$ HA
  ihave HO := (Entails.of_eq (show owing c (due c 16 10 16) = (owing c 0 : sProp 𝕄) from by rw [due_end])) $$ HO
  iapply wp_done
  iapply Hk
  isplitr [HO]
  · unfold endSt
    isplitl [Hzb]; · iexact Hzb
    isplitl [Hcr]; · iexact Hcr
    isplitl [Hargs]; · iexact Hargs
    isplitl [Hs0]; · iexact Hs0
    isplitl [Hs1]; · iexact Hs1
    isplitl [HC]; · iexact HC
    isplitl [HA]; · iexact HA
    iapply (slots_six c)
    isplitl [HS0]; · iexact HS0
    isplitl [HS1]; · iexact HS1
    isplitl [HS2]; · iexact HS2
    isplitl [HS3]; · iexact HS3
    isplitl [HS4]; · iexact HS4
    iexact HS5
  iexact HO

end Cert.MeshSum
end
-- ==== Proof.Pieces.lean ====
/-
  Cutting the scratch buffers into slots and the result into tiles, and putting them together again.
-/
module

public import proofs.«01_k».proof.Proof.Body

@[expose] public section

noncomputable section

namespace Cert.MeshSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Release
open Idealize.ShloMosaic.Pipeline (Dat Cfg Window BodyObligation cellOf)

variable {F : FTy → Type} [FloatOps F]

local notation "𝕄" => MT nD τ sig ℕ (Elt F) ℕ UU ℕ

variable {sp : Space} {s : Shape} {e : EltTy}

omit [FloatOps F] in
/-- A piece owned at unknown contents is its elements held in full. -/
theorem anyOwn_eq (c : Dev nD) (M : Memref sig .tc sp s e) :
    (anyOwn c M : sProp 𝕄) ⊢ iprop(∃ f, M.view.loc (c : Thread nD τ) ↦[M.view.set]{fullShare} f) := by
  unfold anyOwn own owns
  iintro ⟨%X, %f, -, H⟩
  iexists f; iexact H

omit [FloatOps F] in
/-- Elements held in full are a piece at unknown contents. -/
theorem anyOwn_of (c : Dev nD) (M : Memref sig .tc sp s e) :
    iprop(∃ f, M.view.loc (c : Thread nD τ) ↦[M.view.set]{fullShare} f) ⊢ (anyOwn c M : sProp 𝕄) := by
  unfold anyOwn own owns
  iintro ⟨%f, H⟩
  iexists (M.view.read (Elt F) f); iexists f
  isplitr
  · ipureintro; rfl
  iexact H

section Cut
variable {ℓ : Loc nD τ sig} {T : Type} [Fintype T] [DecidableEq T] (K : T → Finset (Idx ℓ)) (φ : Idx ℓ → T) (hK : ∀ t x, x ∈ K t ↔ φ x = t)
include hK

/-- Parts told apart by a function of the index are disjoint. -/
theorem cut_disjoint : ∀ t ∈ (Finset.univ : Finset T), ∀ t' ∈ (Finset.univ : Finset T), t ≠ t' → Disjoint (K t) (K t') := by
  intro t _ t' _ h
  refine Finset.disjoint_left.mpr fun x hx hx' => h ?_
  rw [← (hK t x).mp hx, (hK t' x).mp hx']

/-- Parts told apart by a function of the index cover the buffer. -/
theorem cut_cover : (Finset.univ : Finset T).biUnion K = Finset.univ := by
  ext x
  simp only [Finset.mem_biUnion, Finset.mem_univ, true_and, iff_true]
  exact ⟨φ x, (hK _ x).mpr rfl⟩

omit [FloatOps F] in
/-- A buffer cut into parts. -/
theorem cut_apart : iprop(∃ f : Buf (Elt F) ℓ, ℓ ↦{fullShare} f) ⊢ (bigSep Finset.univ fun t => iprop(∃ f, ℓ ↦[K t]{fullShare} f) : sProp 𝕄) := by
  iintro ⟨%f, H⟩
  ihave H' := (show (ℓ ↦{fullShare} f : sProp 𝕄) ⊢ bigSep Finset.univ fun t => ℓ ↦[K t]{fullShare} f from
    Entails.of_eq (by rw [← pointsTo_biUnion Finset.univ K (cut_disjoint K φ hK), cut_cover K φ hK])) $$ H
  have hm : (bigSep Finset.univ fun t => (ℓ ↦[K t]{fullShare} f : sProp 𝕄)) ⊢ bigSep Finset.univ fun t => iprop(∃ f, ℓ ↦[K t]{fullShare} f) :=
    bigSep_mono fun t _ => show (ℓ ↦[K t]{fullShare} f : sProp 𝕄) ⊢ iprop(∃ f, ℓ ↦[K t]{fullShare} f) from by iintro H; iexists f; iexact H
  iapply hm; iexact H'

omit [FloatOps F] in
/-- The parts put together. -/
theorem cut_join [Nonempty (Buf (Elt F) ℓ)] :
    (bigSep Finset.univ fun t => iprop(∃ f : Buf (Elt F) ℓ, ℓ ↦[K t]{fullShare} f) : sProp 𝕄) ⊢ iprop(∃ f : Buf (Elt F) ℓ, ℓ ↦{fullShare} f) := by
  iintro H
  ihave H' := (BI.bigSep_exists_pi Finset.univ (fun (t : T) (f : Buf (Elt F) ℓ) => (ℓ ↦[K t]{fullShare} f : sProp 𝕄))) $$ H
  icases H' with ⟨%fs, H'⟩
  ihave H'' := (pointsTo_biUnion_join Finset.univ K fs (Classical.arbitrary _) (cut_disjoint K φ hK)) $$ H'
  icases H'' with ⟨%g, -, H''⟩
  iexists g
  iapply (show (ℓ ↦[Finset.univ.biUnion K]{fullShare} g : sProp 𝕄) ⊢ ℓ ↦{fullShare} g from Entails.of_eq (by rw [cut_cover K φ hK]))
  iexact H''

end Cut

/-! ## The slots -/

/-- An element of the accumulator is in the slot its first coordinate names. -/
theorem mem_accV (t : Fin 6) (x : S6x1024x512.Idx) : x ∈ (accV t).view.set ↔ (⟨(x 0).val, (x 0).isLt⟩ : Fin 6) = t := by
  have h : (accV t).view.set = (Rect.unit (s := S6x1024x512) ![t.val, 0, 0] S1x1024x512.size (slot6_inb t.val t.isLt)).set :=
    (View.set_reshape _ _).trans (View.set_slice_whole _ _)
  refine (Finset.ext_iff.mp h x).trans (Rect.mem_set_unit.trans ?_)
  rw [Fin.ext_iff]
  have h1 := (x 1).isLt; have h2 := (x 2).isLt
  refine ⟨fun hx => ?_, fun hx a => ?_⟩
  · have := hx 0; simp at this ⊢; omega
  · fin_cases a
    · simp at hx ⊢; omega
    · simp at h1 ⊢; omega
    · simp at h2 ⊢; omega
/-- An element of the receive buffer is in the slot its first coordinate names. -/
theorem mem_recV (t : Fin 6) (x : S6x1024x512.Idx) : x ∈ (recV t).view.set ↔ (⟨(x 0).val, (x 0).isLt⟩ : Fin 6) = t := by
  have h : (recV t).view.set = (Rect.unit (s := S6x1024x512) ![t.val, 0, 0] S1x1024x512.size (slot6_inb t.val t.isLt)).set :=
    (View.set_reshape _ _).trans (View.set_slice_whole _ _)
  refine (Finset.ext_iff.mp h x).trans (Rect.mem_set_unit.trans ?_)
  rw [Fin.ext_iff]
  have h1 := (x 1).isLt; have h2 := (x 2).isLt
  refine ⟨fun hx => ?_, fun hx a => ?_⟩
  · have := hx 0; simp at this ⊢; omega
  · fin_cases a
    · simp at hx ⊢; omega
    · simp at h1 ⊢; omega
    · simp at h2 ⊢; omega
/-- An element of the first staging buffer is in the slot its first coordinate names. -/
theorem mem_dyV (t : Fin 2) (x : S2x1024x1024.Idx) : x ∈ (dyV t).view.set ↔ (⟨(x 0).val, (x 0).isLt⟩ : Fin 2) = t := by
  have h : (dyV t).view.set = (Rect.unit (s := S2x1024x1024) ![t.val, 0, 0] S1x1024x1024.size (slotDy_inb t.val t.isLt)).set :=
    (View.set_reshape _ _).trans (View.set_slice_whole _ _)
  refine (Finset.ext_iff.mp h x).trans (Rect.mem_set_unit.trans ?_)
  rw [Fin.ext_iff]
  have h1 := (x 1).isLt; have h2 := (x 2).isLt
  refine ⟨fun hx => ?_, fun hx a => ?_⟩
  · have := hx 0; simp at this ⊢; omega
  · fin_cases a
    · simp at hx ⊢; omega
    · simp at h1 ⊢; omega
    · simp at h2 ⊢; omega
/-- An element of the second staging buffer is in the slot its first coordinate names. -/
theorem mem_wV (t : Fin 2) (x : S2x512x1024.Idx) : x ∈ (wV t).view.set ↔ (⟨(x 0).val, (x 0).isLt⟩ : Fin 2) = t := by
  have h : (wV t).view.set = (Rect.unit (s := S2x512x1024) ![t.val, 0, 0] S1x512x1024.size (slotW_inb t.val t.isLt)).set :=
    (View.set_reshape _ _).trans (View.set_slice_whole _ _)
  refine (Finset.ext_iff.mp h x).trans (Rect.mem_set_unit.trans ?_)
  rw [Fin.ext_iff]
  have h1 := (x 1).isLt; have h2 := (x 2).isLt
  refine ⟨fun hx => ?_, fun hx a => ?_⟩
  · have := hx 0; simp at this ⊢; omega
  · fin_cases a
    · simp at hx ⊢; omega
    · simp at h1 ⊢; omega
    · simp at h2 ⊢; omega

/-- A whole buffer of a device, at unknown contents. -/
def whole (c : Dev nD) (b : Ref sig .tc) : sProp 𝕄 := iprop(∃ f : Buf (Elt F) ((c : Thread nD τ).loc b), (c : Thread nD τ).loc b ↦{fullShare} f)

omit [FloatOps F] in
/-- The accumulator is its six slots. -/
theorem acc_apart (c : Dev nD) : whole c cc0_scratch0 ⊢ (bigSep Finset.univ fun t => anyOwn c (accV t) : sProp 𝕄) :=
  (cut_apart (ℓ := (c : Thread nD τ).loc cc0_scratch0) (fun t => (accV t).view.set) _ mem_accV).trans (bigSep_mono fun t _ => anyOwn_of c (accV t))
omit [FloatOps F] in
/-- The receive buffer is its six slots. -/
theorem rec_apart (c : Dev nD) : whole c cc0_scratch3 ⊢ (bigSep Finset.univ fun t => anyOwn c (recV t) : sProp 𝕄) :=
  (cut_apart (ℓ := (c : Thread nD τ).loc cc0_scratch3) (fun t => (recV t).view.set) _ mem_recV).trans (bigSep_mono fun t _ => anyOwn_of c (recV t))
omit [FloatOps F] in
/-- The first staging buffer is its two slots. -/
theorem dy_apart (c : Dev nD) : whole c cc0_scratch1 ⊢ (bigSep Finset.univ fun t => anyOwn c (dyV t) : sProp 𝕄) :=
  (cut_apart (ℓ := (c : Thread nD τ).loc cc0_scratch1) (fun t => (dyV t).view.set) _ mem_dyV).trans (bigSep_mono fun t _ => anyOwn_of c (dyV t))
omit [FloatOps F] in
/-- The second staging buffer is its two slots. -/
theorem w_apart (c : Dev nD) : whole c cc0_scratch2 ⊢ (bigSep Finset.univ fun t => anyOwn c (wV t) : sProp 𝕄) :=
  (cut_apart (ℓ := (c : Thread nD τ).loc cc0_scratch2) (fun t => (wV t).view.set) _ mem_wV).trans (bigSep_mono fun t _ => anyOwn_of c (wV t))

/-- The six slots are the accumulator. -/
theorem acc_join (c : Dev nD) : (bigSep Finset.univ fun t => anyOwn c (accV t) : sProp 𝕄) ⊢ whole c cc0_scratch0 :=
  (bigSep_mono fun t _ => anyOwn_eq c (accV t)).trans (cut_join (ℓ := (c : Thread nD τ).loc cc0_scratch0) (fun t => (accV t).view.set) _ mem_accV)
/-- The six slots are the receive buffer. -/
theorem rec_join (c : Dev nD) : (bigSep Finset.univ fun t => anyOwn c (recV t) : sProp 𝕄) ⊢ whole c cc0_scratch3 :=
  (bigSep_mono fun t _ => anyOwn_eq c (recV t)).trans (cut_join (ℓ := (c : Thread nD τ).loc cc0_scratch3) (fun t => (recV t).view.set) _ mem_recV)
/-- The two slots are the first staging buffer. -/
theorem dy_join (c : Dev nD) : (bigSep Finset.univ fun t => anyOwn c (dyV t) : sProp 𝕄) ⊢ whole c cc0_scratch1 :=
  (bigSep_mono fun t _ => anyOwn_eq c (dyV t)).trans (cut_join (ℓ := (c : Thread nD τ).loc cc0_scratch1) (fun t => (dyV t).view.set) _ mem_dyV)
/-- The two slots are the second staging buffer. -/
theorem w_join (c : Dev nD) : (bigSep Finset.univ fun t => anyOwn c (wV t) : sProp 𝕄) ⊢ whole c cc0_scratch2 :=
  (bigSep_mono fun t _ => anyOwn_eq c (wV t)).trans (cut_join (ℓ := (c : Thread nD τ).loc cc0_scratch2) (fun t => (wV t).view.set) _ mem_wV)

/-! ## The tiles of the result -/

/-- The rectangle of tile `p` of column `y`'s half of the result. -/
abbrev outR (t : Fin 2 × Fin 16) : Rect S4096x4096 := Rect.unit (s := S4096x4096) (outOff t.1 t.2) S1024x512.size (outOff_inb t.1 t.2)

/-- The half an element of the result is in. -/
def halfAt (x : S4096x4096.Idx) : Fin 2 := ⟨(x 0).val / 2048, by have : (x 0).val < 4096 := (x 0).isLt; omega⟩
/-- The tile of its half an element of the result is in. -/
def tileAt (x : S4096x4096.Idx) : Fin 16 := ⟨(x 0).val % 2048 / 1024 * 8 + (x 1).val / 512, by have : (x 1).val < 4096 := (x 1).isLt; omega⟩
/-- The place of an element of the result in its tile. -/
def placeAt (x : S4096x4096.Idx) : S1024x512.Idx := fun a => match a with
  | 0 => ⟨(x 0).val % 1024, Nat.mod_lt _ (by decide)⟩
  | 1 => ⟨(x 1).val % 512, Nat.mod_lt _ (by decide)⟩

/-- An element of the result is in the tile its coordinates name. -/
theorem mem_outR (t : Fin 2 × Fin 16) (x : S4096x4096.Idx) : x ∈ (outR t).set ↔ (halfAt x, tileAt x) = t := by
  obtain ⟨y, p⟩ := t
  rw [Rect.mem_set_unit, Prod.ext_iff, Fin.ext_iff, Fin.ext_iff]
  have h0 : (x 0).val < 4096 := (x 0).isLt
  have h1 : (x 1).val < 4096 := (x 1).isLt
  have hy := y.isLt; have hp := p.isLt
  simp only [halfAt, tileAt]
  refine ⟨fun hx => ?_, fun hx a => ?_⟩
  · have a0 := hx 0; have a1 := hx 1
    simp [outOff] at a0 a1
    constructor <;> omega
  · fin_cases a <;> simp [outOff] <;> omega

/-- The result from its tiles. -/
def assemble (X : Fin 2 → Fin 16 → S1024x512.Idx → Elt F .f32) : S4096x4096.Idx → Elt F .f32 := fun x => X (halfAt x) (tileAt x) (placeAt x)

omit [FloatOps F] in
/-- A tile of the result from its tiles. -/
theorem assemble_tile (X : Fin 2 → Fin 16 → S1024x512.Idx → Elt F .f32) (t : Fin 2 × Fin 16) :
    (fun j => assemble X ((outR t).emb j)) = X t.1 t.2 := by
  funext j
  have hm := (mem_outR t _).mp (by rw [← Rect.map_emb_univ]; exact Finset.mem_map_of_mem _ (Finset.mem_univ j))
  have hj0 : (j 0).val < 1024 := (j 0).isLt
  have hj1 : (j 1).val < 512 := (j 1).isLt
  unfold assemble
  rw [show halfAt ((outR t).emb j) = t.1 from congrArg Prod.fst hm, show tileAt ((outR t).emb j) = t.2 from congrArg Prod.snd hm]
  congr 1
  funext a
  have e0 : (((outR t).emb j) 0).val = 2048 * t.1.val + 1024 * (t.2.val / 8) + (j 0).val := by
    show outOff t.1 t.2 0 + 1 * (j 0).val = _
    simp [outOff]
  have e1 : (((outR t).emb j) 1).val = 512 * (t.2.val % 8) + (j 1).val := by
    show outOff t.1 t.2 1 + 1 * (j 1).val = _
    simp [outOff]
  refine Fin.ext ?_
  fin_cases a
  · show (((outR t).emb j) 0).val % 1024 = (j 0).val
    omega
  · show (((outR t).emb j) 1).val % 512 = (j 1).val
    omega

/-- Tiles are disjoint. -/
theorem outR_disjoint (t t' : Fin 2 × Fin 16) (h : t ≠ t') : Disjoint (outR t).set (outR t').set :=
  Finset.disjoint_left.mpr fun x hx hx' => h (by rw [← (mem_outR t x).mp hx, (mem_outR t' x).mp hx'])
/-- The tiles cover the result. -/
theorem outR_cover : (Finset.univ : Finset (Fin 2 × Fin 16)).biUnion (fun t => (outR t).set) = Finset.univ := by
  ext x
  simp only [Finset.mem_biUnion, Finset.mem_univ, true_and, iff_true]
  exact ⟨_, (mem_outR _ x).mpr rfl⟩

omit [FloatOps F] in
/-- The two halves of a family over both columns: a device's and its neighbour's. -/
theorem bigSep_cols (c : Dev nD) (Φ : Fin 2 → sProp 𝕄) : bigSep Finset.univ Φ = iprop(Φ (col c) ∗ Φ (col (yn c))) :=
  bigSep_univ_eq_bigSepL [col c, col (yn c)] (by revert c; decide) (by revert c; decide) Φ

omit [FloatOps F] in
/-- The result cut into its tiles. -/
theorem out_apart (c : Dev nD) (f : Buf (Elt F) ((c : Thread nD τ).loc main_v1)) : ((c : Thread nD τ).loc main_v1 ↦{fullShare} f : sProp 𝕄)
    ⊢ iprop((bigSep Finset.univ fun p => anyOwn c (outV (col c) p)) ∗ bigSep Finset.univ fun p => anyOwn c (outV (col (yn c)) p)) := by
  have h := (Entails.of_eq (owns_whole (Ix := ℕ) (Name := ℕ) (U := UU) (Lvl := ℕ) (Val := Elt F) (c : Thread nD τ) main_v1 fullShare f).symm).trans
    (owns_rects (c : Thread nD τ) outA fullShare outR (fun _ _ => rfl) outR_disjoint outR_cover f)
  refine h.trans ?_
  rw [bigSep_univ_prod]
  refine BIBase.Entails.trans ?_ (Entails.of_eq (bigSep_cols c fun y => bigSep Finset.univ fun p => anyOwn c (outV y p)))
  exact bigSep_mono fun y _ => bigSep_mono fun p _ => own_any c (outV y p) _

/-- The result put together from its tiles. -/
theorem out_join (c : Dev nD) (X : Fin 2 → Fin 16 → S1024x512.Idx → Elt F .f32) :
    iprop((bigSep Finset.univ fun p => own c (outV (col c) p) fullShare (X (col c) p)) ∗ bigSep Finset.univ fun p => own c (outV (col (yn c)) p) fullShare (X (col (yn c)) p))
      ⊢ ((c : Thread nD τ).loc main_v1 ↦{fullShare} assemble X : sProp 𝕄) := by
  refine (Entails.of_eq (bigSep_cols c fun y => bigSep Finset.univ fun p => own c (outV y p) fullShare (X y p)).symm).trans ?_
  rw [← bigSep_univ_prod (fun t : Fin 2 × Fin 16 => (own c (outV t.1 t.2) fullShare (X t.1 t.2) : sProp 𝕄))]
  have h := (owns_of_rects (Ix := ℕ) (Name := ℕ) (U := UU) (Lvl := ℕ) (c : Thread nD τ) outA fullShare outR (fun _ _ => rfl) outR_disjoint outR_cover (assemble X)).trans
    (Entails.of_eq (owns_whole (Ix := ℕ) (Name := ℕ) (U := UU) (Lvl := ℕ) (Val := Elt F) (c : Thread nD τ) main_v1 fullShare (assemble X)))
  refine BIBase.Entails.trans (Entails.of_eq (bigSep_congr fun t _ => ?_)) h
  rw [assemble_tile X t]; rfl

end Cert.MeshSum
end
-- ==== Proof.Cells.lean ====
/-
  The semaphores of a device listed by what they serve, and the permissions of the protocol dealt out at launch: every
  device starts with its own positions, with the right to raise each unit it is to raise on its own and its
  neighbours' semaphores, and with the counts of the receive slots.
-/
module

public import proofs.«01_k».proof.Proof.Pieces

@[expose] public section

noncomputable section

namespace Cert.MeshSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section Lists
variable {M : Type} [URA M]

/-- The shared semaphores, listed: the four kinds of transfer semaphore, the barrier, the credit semaphore. -/
theorem bigSep_cells (Φ : SemLoc sig → sProp M) :
    (bigSep Finset.univ fun k : Fin 66 => Φ (csem k))
      = iprop((bigSep Finset.univ fun p => Φ (.dma (xsS p))) ∗ (bigSep Finset.univ fun p => Φ (.dma (xrS p))) ∗ (bigSep Finset.univ fun p => Φ (.dma (ysS p)))
        ∗ (bigSep Finset.univ fun p => Φ (.dma (yrS p))) ∗ Φ (.reg barS) ∗ Φ (.reg crS)) := by
  rw [bigSep_fin_add (a := 16) (b := 50) (fun k => Φ (csem k)), bigSep_fin_add (a := 16) (b := 34), bigSep_fin_add (a := 16) (b := 18), bigSep_fin_add (a := 16) (b := 2), bigSep_fin_two]
  have e1 : (fun i : Fin 16 => Φ (csem (Fin.castAdd 50 i))) = fun p => Φ (.dma (xsS p)) := by
    funext p; have := p.isLt; congr 1; unfold csem xsS; rw [dif_pos (by simp; omega)]; rfl
  have e2 : (fun i : Fin 16 => Φ (csem (Fin.natAdd 16 (Fin.castAdd 34 i)))) = fun p => Φ (.dma (xrS p)) := by
    funext p; have := p.isLt; congr 1; unfold csem xrS; rw [dif_pos (by simp; omega)]; congr 1; refine Fin.ext ?_; simp; omega
  have e3 : (fun i : Fin 16 => Φ (csem (Fin.natAdd 16 (Fin.natAdd 16 (Fin.castAdd 18 i))))) = fun p => Φ (.dma (ysS p)) := by
    funext p; have := p.isLt; congr 1; unfold csem ysS; rw [dif_pos (by simp; omega)]; congr 1; refine Fin.ext ?_; simp; omega
  have e4 : (fun i : Fin 16 => Φ (csem (Fin.natAdd 16 (Fin.natAdd 16 (Fin.natAdd 16 (Fin.castAdd 2 i)))))) = fun p => Φ (.dma (yrS p)) := by
    funext p; have := p.isLt; congr 1; unfold csem yrS; rw [dif_pos (by simp; omega)]; congr 1; refine Fin.ext ?_; simp; omega
  rw [e1, e2, e3, e4]
  rfl

/-- The kernel's own semaphores: the transfer semaphores and the credit semaphore. -/
def osem (k : Fin 75) : SemLoc sig := if h : k.val < 74 then .dma ⟨k.val, h⟩ else .reg crS

/-- The kernel's own semaphores, listed. -/
theorem bigSep_own (Φ : SemLoc sig → sProp M) :
    (bigSep Finset.univ fun k : Fin 75 => Φ (osem k))
      = iprop((bigSep Finset.univ fun s => Φ (.dma (dyK s))) ∗ (bigSep Finset.univ fun s => Φ (.dma (wK s)))
        ∗ (bigSep Finset.univ fun p => Φ (.dma (xsS p))) ∗ (bigSep Finset.univ fun p => Φ (.dma (xrS p))) ∗ (bigSep Finset.univ fun p => Φ (.dma (ysS p)))
        ∗ (bigSep Finset.univ fun p => Φ (.dma (yrS p))) ∗ (bigSep Finset.univ fun s => Φ (.dma (ocS s))) ∗ Φ (.reg crS)) := by
  rw [bigSep_fin_add (a := 2) (b := 73) (fun k => Φ (osem k)), bigSep_fin_add (a := 2) (b := 71), bigSep_fin_add (a := 16) (b := 55), bigSep_fin_add (a := 16) (b := 39),
    bigSep_fin_add (a := 16) (b := 23), bigSep_fin_add (a := 16) (b := 7), bigSep_fin_add (a := 6) (b := 1)]
  have e1 : (fun i : Fin 2 => Φ (osem (Fin.castAdd 73 i))) = fun p => Φ (.dma (dyK p)) := by
    funext p; have := p.isLt; congr 1; unfold osem dyK; rw [dif_pos (by simp; omega)]; congr 1; refine Fin.ext ?_; simp
  have e2 : (fun i : Fin 2 => Φ (osem (Fin.natAdd 2 (Fin.castAdd 71 i)))) = fun p => Φ (.dma (wK p)) := by
    funext p; have := p.isLt; congr 1; unfold osem wK; rw [dif_pos (by simp; omega)]; congr 1
  have e3 : (fun i : Fin 16 => Φ (osem (Fin.natAdd 2 (Fin.natAdd 2 (Fin.castAdd 55 i))))) = fun p => Φ (.dma (xsS p)) := by
    funext p; have := p.isLt; congr 1; unfold osem xsS; rw [dif_pos (by simp; omega)]; congr 1; refine Fin.ext ?_; simp; omega
  have e4 : (fun i : Fin 16 => Φ (osem (Fin.natAdd 2 (Fin.natAdd 2 (Fin.natAdd 16 (Fin.castAdd 39 i)))))) = fun p => Φ (.dma (xrS p)) := by
    funext p; have := p.isLt; congr 1; unfold osem xrS; rw [dif_pos (by simp; omega)]; congr 1; refine Fin.ext ?_; simp; omega
  have e5 : (fun i : Fin 16 => Φ (osem (Fin.natAdd 2 (Fin.natAdd 2 (Fin.natAdd 16 (Fin.natAdd 16 (Fin.castAdd 23 i))))))) = fun p => Φ (.dma (ysS p)) := by
    funext p; have := p.isLt; congr 1; unfold osem ysS; rw [dif_pos (by simp; omega)]; congr 1; refine Fin.ext ?_; simp; omega
  have e6 : (fun i : Fin 16 => Φ (osem (Fin.natAdd 2 (Fin.natAdd 2 (Fin.natAdd 16 (Fin.natAdd 16 (Fin.natAdd 16 (Fin.castAdd 7 i)))))))) = fun p => Φ (.dma (yrS p)) := by
    funext p; have := p.isLt; congr 1; unfold osem yrS; rw [dif_pos (by simp; omega)]; congr 1; refine Fin.ext ?_; simp; omega
  have e7 : (fun i : Fin 6 => Φ (osem (Fin.natAdd 2 (Fin.natAdd 2 (Fin.natAdd 16 (Fin.natAdd 16 (Fin.natAdd 16 (Fin.natAdd 16 (Fin.castAdd 1 i))))))))) = fun p => Φ (.dma (ocS p)) := by
    funext p; have := p.isLt; congr 1; unfold osem ocS; rw [dif_pos (by simp; omega)]; congr 1; refine Fin.ext ?_; simp; omega
  have e8 : (bigSep Finset.univ fun i : Fin 1 => Φ (osem (Fin.natAdd 2 (Fin.natAdd 2 (Fin.natAdd 16 (Fin.natAdd 16 (Fin.natAdd 16 (Fin.natAdd 16 (Fin.natAdd 6 i))))))))) = Φ (.reg crS) := by
    rw [Finset.univ_unique, bigSep_singleton]; rfl
  rw [e1, e2, e3, e4, e5, e6, e7, e8]

/-- A conjunction over ten indices, over the numbers below ten. -/
theorem bigSep_ten (Φ : ℕ → sProp M) : (bigSep Finset.univ fun j : Fin 10 => Φ j.val) = bigSep (Finset.range 10) Φ := by
  rw [show Finset.range 10 = (Finset.univ : Finset (Fin 10)).map Fin.valEmbedding from by decide, bigSep_map]; rfl

end Lists

/-! ## The permissions to raise -/

/-- Two devices' semaphores are the same only if the devices are. -/
theorem kcell_injective : Function.Injective kcell := by
  have hc : Function.Injective csem := by
    intro k k' h
    have h1 := k.isLt; have h2 := k'.isLt
    unfold csem at h
    by_cases hk : k.val < 64 <;> by_cases hk' : k'.val < 64
    · rw [dif_pos hk, dif_pos hk'] at h
      have := congrArg Fin.val (SemLoc.dma.inj h); dsimp only at this; exact Fin.ext (by omega)
    · rw [dif_pos hk, dif_neg hk'] at h
      by_cases e' : k'.val = 64
      · rw [if_pos e'] at h; cases h
      · rw [if_neg e'] at h; cases h
    · rw [dif_neg hk, dif_pos hk'] at h
      by_cases e : k.val = 64
      · rw [if_pos e] at h; cases h
      · rw [if_neg e] at h; cases h
    · rw [dif_neg hk, dif_neg hk'] at h
      by_cases e : k.val = 64 <;> by_cases e' : k'.val = 64
      · exact Fin.ext (by omega)
      · rw [if_pos e, if_neg e'] at h; exact absurd (SemLoc.reg.inj h).symm cr_ne_bar
      · rw [if_neg e, if_pos e'] at h; exact absurd (SemLoc.reg.inj h) cr_ne_bar
      · exact Fin.ext (by omega)
  rintro ⟨c, k⟩ ⟨c', k'⟩ h
  exact Prod.ext (congrArg (fun g : GSem nD τ sig => g.1.1) h) (hc (congrArg Prod.snd h))
/-- The shared semaphores of all the devices. -/
def ringCells : Finset (GSem nD τ sig) := Finset.univ.map ⟨kcell, kcell_injective⟩

/-- The units raised on a device's semaphores: one on every transfer semaphore, two on the barrier, ten on the credit
    semaphore. -/
def tokOf (cj : Dev nD × (Fin 64 ⊕ (Fin 2 ⊕ Fin 10))) : GSem nD τ sig × ℕ × ℕ := match cj.2 with
  | .inl k => (dcell cj.1 ⟨4 + k.val, by have := k.isLt; show 4 + k.val < 74; omega⟩, 0, 0)
  | .inr (.inl d) => (rcell cj.1 barS, 0, d.val)
  | .inr (.inr j) => (rcell cj.1 crS, 0, j.val)
/-- Different units are different. -/
theorem tokOf_injective : Function.Injective tokOf := by
  rintro ⟨c, j⟩ ⟨c', j'⟩ h
  have h1 : c = c' := by
    have := congrArg (fun x : GSem nD τ sig × ℕ × ℕ => x.1.1.1) h
    rcases j with k | d | i <;> rcases j' with k' | d' | i' <;> exact this
  have h2 := congrArg (fun x : GSem nD τ sig × ℕ × ℕ => x.1.2) h
  have h3 := congrArg (fun x : GSem nD τ sig × ℕ × ℕ => x.2.2) h
  refine Prod.ext h1 ?_
  rcases j with k | d | i <;> rcases j' with k' | d' | i' <;> dsimp only [tokOf] at h2 h3
  · have := congrArg Fin.val (SemLoc.dma.inj h2); dsimp only at this
    exact congrArg Sum.inl (Fin.ext (by omega))
  · cases h2
  · cases h2
  · cases h2
  · exact congrArg (fun x => Sum.inr (Sum.inl x)) (Fin.ext h3)
  · exact absurd (SemLoc.reg.inj h2).symm cr_ne_bar
  · cases h2
  · exact absurd (SemLoc.reg.inj h2) cr_ne_bar
  · exact congrArg (fun x => Sum.inr (Sum.inr x)) (Fin.ext h3)
/-- The units raised on all the devices' semaphores. -/
def ringToks : Finset (GSem nD τ sig × ℕ × ℕ) := Finset.univ.map ⟨tokOf, tokOf_injective⟩

/-- The permissions to raise a device's own semaphores. -/
def toks (c : Dev nD) : sProp 𝕄 :=
  iprop((bigSep Finset.univ fun p => dutyTok (ER (F := F)) (dcell c (xsS p)) 0 0) ∗ (bigSep Finset.univ fun p => dutyTok (ER (F := F)) (dcell c (xrS p)) 0 0)
    ∗ (bigSep Finset.univ fun p => dutyTok (ER (F := F)) (dcell c (ysS p)) 0 0) ∗ (bigSep Finset.univ fun p => dutyTok (ER (F := F)) (dcell c (yrS p)) 0 0)
    ∗ dutyTok (ER (F := F)) (rcell c barS) 0 0 ∗ dutyTok (ER (F := F)) (rcell c barS) 0 1 ∗ (bigSep (Finset.range 10) fun j => dutyTok (ER (F := F)) (rcell c crS) 0 j))
/-- The permissions a device uses. -/
def payToks (c : Dev nD) : sProp 𝕄 :=
  iprop((bigSep Finset.univ fun p => dutyTok (ER (F := F)) (dcell c (xsS p)) 0 0) ∗ (bigSep Finset.univ fun p => dutyTok (ER (F := F)) (dcell (xn c) (xrS p)) 0 0)
    ∗ (bigSep Finset.univ fun p => dutyTok (ER (F := F)) (dcell c (ysS p)) 0 0) ∗ (bigSep Finset.univ fun p => dutyTok (ER (F := F)) (dcell (yn c) (yrS p)) 0 0)
    ∗ dutyTok (ER (F := F)) (rcell (xn c) barS) 0 0 ∗ dutyTok (ER (F := F)) (rcell (yn c) barS) 0 1 ∗ (bigSep (Finset.range 10) fun j => dutyTok (ER (F := F)) (rcell (xn c) crS) 0 j))

omit [FloatOps F] in
/-- All the permissions, device by device. -/
theorem toks_minted : (bigSep ringToks fun x => (dutyTok ER x.1 x.2.1 x.2.2 : sProp 𝕄)) = bigSep Finset.univ fun c : Dev nD => toks c := by
  unfold ringToks
  rw [bigSep_map, bigSep_univ_prod]
  refine bigSep_congr fun c _ => ?_
  rw [bigSep_univ_sum, bigSep_univ_sum]
  have e1 : (bigSep Finset.univ fun k : Fin 64 => (dutyTok ER (tokOf (c, Sum.inl k)).1 (tokOf (c, Sum.inl k)).2.1 (tokOf (c, Sum.inl k)).2.2 : sProp 𝕄))
      = iprop((bigSep Finset.univ fun p => dutyTok (ER (F := F)) (dcell c (xsS p)) 0 0) ∗ (bigSep Finset.univ fun p => dutyTok (ER (F := F)) (dcell c (xrS p)) 0 0)
        ∗ (bigSep Finset.univ fun p => dutyTok (ER (F := F)) (dcell c (ysS p)) 0 0) ∗ (bigSep Finset.univ fun p => dutyTok (ER (F := F)) (dcell c (yrS p)) 0 0)) := by
    rw [bigSep_fin_add (a := 16) (b := 48), bigSep_fin_add (a := 16) (b := 32), bigSep_fin_add (a := 16) (b := 16)]
    have f2 : (fun p : Fin 16 => (dutyTok (ER (F := F)) (dcell c ⟨4 + (16 + p.val), by have := p.isLt; show 4 + (16 + p.val) < 74; omega⟩) 0 0 : sProp 𝕄)) = fun p => dutyTok (ER (F := F)) (dcell c (xrS p)) 0 0 := by
      funext p; congr 3; omega
    have f3 : (fun p : Fin 16 => (dutyTok (ER (F := F)) (dcell c ⟨4 + (16 + (16 + p.val)), by have := p.isLt; show 4 + (16 + (16 + p.val)) < 74; omega⟩) 0 0 : sProp 𝕄)) = fun p => dutyTok (ER (F := F)) (dcell c (ysS p)) 0 0 := by
      funext p; congr 3; omega
    have f4 : (fun p : Fin 16 => (dutyTok (ER (F := F)) (dcell c ⟨4 + (16 + (16 + (16 + p.val))), by have := p.isLt; show 4 + (16 + (16 + (16 + p.val))) < 74; omega⟩) 0 0 : sProp 𝕄)) = fun p => dutyTok (ER (F := F)) (dcell c (yrS p)) 0 0 := by
      funext p; congr 3; omega
    rw [← f2, ← f3, ← f4]
    rfl
  have e2 : (bigSep Finset.univ fun d : Fin 2 => (dutyTok ER (tokOf (c, Sum.inr (Sum.inl d))).1 (tokOf (c, Sum.inr (Sum.inl d))).2.1 (tokOf (c, Sum.inr (Sum.inl d))).2.2 : sProp 𝕄))
      = iprop(dutyTok (ER (F := F)) (rcell c barS) 0 0 ∗ dutyTok (ER (F := F)) (rcell c barS) 0 1) := bigSep_fin_two _
  have e3 : (bigSep Finset.univ fun j : Fin 10 => (dutyTok ER (tokOf (c, Sum.inr (Sum.inr j))).1 (tokOf (c, Sum.inr (Sum.inr j))).2.1 (tokOf (c, Sum.inr (Sum.inr j))).2.2 : sProp 𝕄))
      = bigSep (Finset.range 10) fun j => dutyTok (ER (F := F)) (rcell c crS) 0 j := bigSep_ten fun j => dutyTok (ER (F := F)) (rcell c crS) 0 j
  have hop (A B C D E G H : sProp 𝕄) : iprop((A ∗ B ∗ C ∗ D) ∗ (E ∗ G) ∗ H) = iprop(A ∗ B ∗ C ∗ D ∗ E ∗ G ∗ H) := by
    have h1 : iprop((A ∗ B ∗ C ∗ D) ∗ (E ∗ G) ∗ H) ⊢ iprop(A ∗ B ∗ C ∗ D ∗ E ∗ G ∗ H) := by
      iintro ⟨⟨H1, H2, H3, H4⟩, ⟨H5, H6⟩, H7⟩
      isplitl [H1]; · iexact H1
      isplitl [H2]; · iexact H2
      isplitl [H3]; · iexact H3
      isplitl [H4]; · iexact H4
      isplitl [H5]; · iexact H5
      isplitl [H6]; · iexact H6
      iexact H7
    have h2 : iprop(A ∗ B ∗ C ∗ D ∗ E ∗ G ∗ H) ⊢ iprop((A ∗ B ∗ C ∗ D) ∗ (E ∗ G) ∗ H) := by
      iintro ⟨H1, H2, H3, H4, H5, H6, H7⟩
      isplitl [H1 H2 H3 H4]
      · isplitl [H1]; · iexact H1
        isplitl [H2]; · iexact H2
        isplitl [H3]; · iexact H3
        iexact H4
      isplitl [H5 H6]
      · isplitl [H5]; · iexact H5
        iexact H6
      iexact H7
    exact BI.Entails.antisymm h1 h2
  exact (congrArg₂ BI.sep e1 (congrArg₂ BI.sep e2 e3)).trans (hop _ _ _ _ _ _ _)

omit [FloatOps F] in
/-- The permissions handed to the devices that use them. -/
theorem toks_around : (bigSep Finset.univ fun c : Dev nD => (toks c : sProp 𝕄)) = bigSep Finset.univ fun c : Dev nD => payToks c := by
  unfold toks payToks
  simp only [bigSep_sep']
  rw [bigSep_at_xn (fun c => (bigSep Finset.univ fun p => dutyTok (ER (F := F)) (dcell c (xrS p)) 0 0)),
    bigSep_at_yn (fun c => (bigSep Finset.univ fun p => dutyTok (ER (F := F)) (dcell c (yrS p)) 0 0)),
    bigSep_at_xn (fun c => dutyTok (ER (F := F)) (rcell c barS) 0 0), bigSep_at_yn (fun c => dutyTok (ER (F := F)) (rcell c barS) 0 1),
    bigSep_at_xn (fun c => (bigSep (Finset.range 10) fun j => dutyTok (ER (F := F)) (rcell c crS) 0 j))]

/-- The counts of the receive slots: the device's own as a reader, its neighbour's as a writer. -/
def rel (c : Dev nD) : sProp 𝕄 :=
  iprop((bigSep (Finset.range 10) fun j => readerAt (ES (F := F)) (c, j) 0) ∗ bigSep (Finset.range 10) fun j => writeTok (ES (F := F)) (xn c, j) 1)

omit [FloatOps F] in
/-- The counts handed to the devices that use them. -/
theorem rel_around : iprop((bigSep keys fun k => readerAt (ES (F := F)) k 0) ∗ bigSep (keys ×ˢ Finset.range 1) fun x => writeTok (ES (F := F)) x.1 (x.2 + 1))
    ⊢ (bigSep Finset.univ fun c : Dev nD => rel c : sProp 𝕄) := by
  have h1 (Φ : Dev nD × ℕ → sProp 𝕄) : bigSep keys Φ = bigSep Finset.univ fun c : Dev nD => bigSep (Finset.range 10) fun j => Φ (c, j) := by
    rw [show keys = (Finset.univ : Finset (Dev nD × Fin 10)).map ⟨fun x => (x.1, x.2.val), fun a b h => Prod.ext (Prod.mk.inj h).1 (Fin.ext (Prod.mk.inj h).2)⟩ from by decide, bigSep_map, bigSep_univ_prod]
    exact bigSep_congr fun c _ => bigSep_ten fun j => Φ (c, j)
  have h2 : (bigSep (keys ×ˢ Finset.range 1) fun x => (writeTok (ES (F := F)) x.1 (x.2 + 1) : sProp 𝕄)) = bigSep keys fun k => writeTok (ES (F := F)) k 1 := by
    rw [show keys ×ˢ Finset.range 1 = keys.map ⟨fun k => (k, 0), fun a b h => (Prod.mk.inj h).1⟩ from by decide, bigSep_map]
    rfl
  rw [h2, h1, h1, bigSep_at_xn (fun c => bigSep (Finset.range 10) fun j => writeTok (ES (F := F)) (c, j) 1)]
  unfold rel
  rw [← bigSep_sep']

end Cert.MeshSum
end
-- ==== Proof.Deal.lean ====
/-
  The launch of the protocol: from the ghost state the run starts with and the idle semaphores, every device receives the
  invariants of all the shared semaphores and receive slots and its share of the permissions.
-/
module

public import proofs.«01_k».proof.Proof.Cells

@[expose] public section

noncomputable section

namespace Cert.MeshSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- The ghost state the run starts with. -/
def u₀ : UU :=
  (initOf (Pipeline.cells cfgs cellOf_inj) (Pipeline.launchToks cfgs cellOf_inj), (initOf ringCells ringToks, (initSlots keys 1, 1)))

/-- What the run's ghost state deals device `c`. -/
def G (c : Dev nD) : sProp 𝕄 :=
  iprop((∃ J : Dev nD × ℕ → ℕ, bigSep keys fun x => slotInv (ES (F := F)) (J x) x (recSlot x))
    ∗ (bigSep Finset.univ fun k : Fin 66 => roundState ER (Rd m) (kcell (c, k)) 0)
    ∗ (bigSep Finset.univ fun k : Fin 66 => reached (ER (F := F)) (kcell (c, k)) 0)
    ∗ (bigSep Finset.univ fun k : Fin 66 => atPos (ER (F := F)) (kcell (c, k)) 0 ∅ 0) ∗ payToks c ∗ rel c)

/-- The semaphores no other device touches, idle. -/
def idle (c : Dev nD) : sProp 𝕄 :=
  iprop((bigSep Finset.univ fun s => semVal (dcell c (dyK s)) 0) ∗ (bigSep Finset.univ fun s => semVal (dcell c (wK s)) 0)
    ∗ (bigSep Finset.univ fun s => semVal (dcell c (ocS s)) 0))

/-- What device `c` starts with. -/
def G' (c : Dev nD) : sProp 𝕄 :=
  iprop(∃ (K : Dev nD × Fin 66 → ℕ) (J : Dev nD × ℕ → ℕ),
    ((bigSep Finset.univ fun ck : Dev nD × Fin 66 => cellInv ER (Rd m) (K ck) (kcell ck))
      ∗ (bigSep Finset.univ fun ck : Dev nD × Fin 66 => reached (ER (F := F)) (kcell ck) 0)
      ∗ (bigSep keys fun x => slotInv (ES (F := F)) (J x) x (recSlot x)))
    ∗ (bigSep Finset.univ fun k : Fin 66 => atPos (ER (F := F)) (kcell (c, k)) 0 ∅ 0) ∗ payToks c ∗ rel c ∗ idle c)

omit [FloatOps F] in
/-- The run's ghost state, component by component. -/
theorem parts (a : UR sig nD τ) (b : UC) (d : US) :
    (ownU ((a, (b, (d, 1))) : UU) : sProp 𝕄) ⊢ iprop(BI.own (EP a) ∗ BI.own (ER b) ∗ BI.own (ES d)) := by
  have h1 : (BI.own ((embR : Emb (UC × (US × Counters)) 𝕄) (b, (d, 1))) : sProp 𝕄)
      ⊢ iprop(BI.own (ER b) ∗ BI.own ((embR : Emb (UC × (US × Counters)) 𝕄) (1, (d, 1)))) :=
    BI.own_op_elim ((embR : Emb (UC × (US × Counters)) 𝕄).op_of_mem (Prod.mk_mem_op (URA.mem_op_one b) (URA.mem_one_op (d, 1))))
  refine (ownU_pair _ _).trans (BI.sep_mono_r (h1.trans (BI.sep_mono_r ?_)))
  exact Entails.of_eq (show (BI.own ((embR : Emb (UC × (US × Counters)) 𝕄) (1, (d, 1))) : sProp 𝕄) = BI.own (ES d) from rfl)

/-- A conjunction over the shared semaphores of all the devices. -/
theorem over_cells (Φ : GSem nD τ sig → sProp 𝕄) :
    bigSep ringCells Φ = bigSep Finset.univ fun c : Dev nD => bigSep Finset.univ fun k : Fin 66 => Φ (kcell (c, k)) := by
  unfold ringCells; rw [bigSep_map, bigSep_univ_prod]; rfl

/-- The ghost state dealt to the devices. -/
theorem dealt : (ownU u₀ : sProp 𝕄)
    ⊢ |={Set.univ}=> iprop(BI.own (EP (initOf (Pipeline.cells cfgs cellOf_inj) (Pipeline.launchToks cfgs cellOf_inj))) ∗ bigSep Finset.univ (G m)) := by
  have hJ : iprop(∃ J : Dev nD × ℕ → ℕ, bigSep keys fun x => slotInv (ES (F := F)) (J x) x (recSlot x))
      ⊢ bigSep Finset.univ fun _ : Dev nD => (iprop(∃ J : Dev nD × ℕ → ℕ, bigSep keys fun x => slotInv (ES (F := F)) (J x) x (recSlot x)) : sProp 𝕄) :=
    BI.bigSep_of_persistent Finset.univ _
  have hR := rel_around (F := F)
  have hT := Entails.of_eq ((toks_minted (F := F)).trans toks_around)
  unfold u₀
  iintro Hu
  ihave H := (parts _ _ _) $$ Hu
  icases H with ⟨HP, HC, HS⟩
  imod (Rounds.fund ER (Rd m) ringCells ringToks) $$ HC with ⟨Hst, Hr, Hat, Htok⟩
  imod (slots_init (ES (F := F)) (Es := Set.univ) keys 1 recSlot) $$ HS with ⟨%J, -, HJ, Hrd, Hwr⟩
  imodintro
  isplitl [HP]; · iexact HP
  ihave Hst' := (Entails.of_eq (over_cells fun g => roundState ER (Rd m) g 0)) $$ Hst
  ihave Hat' := (Entails.of_eq (over_cells fun g => atPos (ER (F := F)) g 0 ∅ 0)) $$ Hat
  ihave Hr' := (Entails.of_eq (over_cells fun g => reached (ER (F := F)) g 0)) $$ Hr
  ihave Htok' := hT $$ Htok
  ihave HJ' := hJ $$ [HJ]
  · iexists J; iexact HJ
  ihave Hrel := hR $$ [Hrd Hwr]
  · isplitl [Hrd]; · iexact Hrd
    iexact Hwr
  unfold G; simp only [bigSep_sep']
  isplitl [HJ']; · iexact HJ'
  isplitl [Hst']; · iexact Hst'
  isplitl [Hr']; · iexact Hr'
  isplitl [Hat']; · iexact Hat'
  isplitl [Htok']; · iexact Htok'
  iexact Hrel

omit [FloatOps F] in
/-- The barrier's semaphore is the launch's own. -/
theorem unscopedSems0_eq (c : Dev nD) : (unscopedSems0 c : sProp 𝕄) = semVal (rcell c barS) 0 := by
  unfold unscopedSems0; rw [bigSep_eq_bigSepL_of_eq [SemLoc.reg barS] (by decide) (by decide)]; rfl

omit [FloatOps F] in
/-- The idle semaphores of a device, listed. -/
theorem ownSems0_eq (c : Dev nD) : (Pipeline.ownSems0 (Ix := ℕ) (Name := ℕ) (U := UU) (Lvl := ℕ) (Val := Elt F) (τ := τ) osem c : sProp 𝕄)
    = iprop((bigSep Finset.univ fun s => semVal (dcell c (dyK s)) 0) ∗ (bigSep Finset.univ fun s => semVal (dcell c (wK s)) 0)
        ∗ (bigSep Finset.univ fun p => semVal (dcell c (xsS p)) 0) ∗ (bigSep Finset.univ fun p => semVal (dcell c (xrS p)) 0)
        ∗ (bigSep Finset.univ fun p => semVal (dcell c (ysS p)) 0) ∗ (bigSep Finset.univ fun p => semVal (dcell c (yrS p)) 0)
        ∗ (bigSep Finset.univ fun s => semVal (dcell c (ocS s)) 0) ∗ semVal (rcell c crS) 0) := by
  unfold Pipeline.ownSems0
  exact bigSep_own fun s => (semVal ((c : Thread nD τ), s) 0 : sProp 𝕄)

omit [FloatOps F] in
/-- The idle semaphores of a device: the shared ones, and the others. -/
theorem sems0 (c : Dev nD) :
    iprop(Pipeline.ownSems0 (Ix := ℕ) (Name := ℕ) (U := UU) (Lvl := ℕ) (Val := Elt F) (τ := τ) osem c ∗ unscopedSems0 c)
      ⊢ (iprop((bigSep Finset.univ fun k : Fin 66 => semVal (kcell (c, k)) 0) ∗ idle c) : sProp 𝕄) := by
  have h : (bigSep Finset.univ fun k : Fin 66 => (semVal (kcell (c, k)) 0 : sProp 𝕄)) = _ := bigSep_cells fun s => (semVal ((c : Thread nD τ), s) 0 : sProp 𝕄)
  rw [ownSems0_eq, unscopedSems0_eq, h]
  unfold idle
  iintro ⟨⟨H1, H2, H3, H4, H5, H6, H7, H8⟩, HB⟩
  isplitl [H3 H4 H5 H6 H8 HB]
  · isplitl [H3]; · iexact H3
    isplitl [H4]; · iexact H4
    isplitl [H5]; · iexact H5
    isplitl [H6]; · iexact H6
    isplitl [HB]; · iexact HB
    iexact H8
  isplitl [H1]; · iexact H1
  isplitl [H2]; · iexact H2
  iexact H7

/-- The invariants of a device's shared semaphores, set up. -/
theorem invs_alloc (c : Dev nD) :
    iprop((bigSep Finset.univ fun k : Fin 66 => semVal (kcell (c, k)) 0) ∗ bigSep Finset.univ fun k : Fin 66 => roundState ER (Rd m) (kcell (c, k)) 0)
      ⊢ (|={Set.univ}=> bigSep Finset.univ fun k => iprop(∃ κ : ℕ, cellInv ER (Rd m) κ (kcell (c, k))) : sProp 𝕄) := by
  rw [← bigSep_sep']
  exact (bigSep_mono fun k _ => (Rounds.body_intro ER (Rd m) (kcell (c, k))).trans inv_alloc).trans (bigSep_fupd _ _)

/-- What one device sets up. -/
def laid (c : Dev nD) : sProp 𝕄 :=
  iprop((bigSep Finset.univ fun k : Fin 66 => iprop(∃ κ : ℕ, cellInv ER (Rd m) κ (kcell (c, k))))
    ∗ (bigSep Finset.univ fun k : Fin 66 => reached (ER (F := F)) (kcell (c, k)) 0)
    ∗ (iprop(∃ J : Dev nD × ℕ → ℕ, bigSep keys fun x => slotInv (ES (F := F)) (J x) x (recSlot x))
      ∗ (bigSep Finset.univ fun k : Fin 66 => atPos (ER (F := F)) (kcell (c, k)) 0 ∅ 0) ∗ payToks c ∗ rel c ∗ idle c))

/-- One device's set-up. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> laid m c := by
  unfold G laid
  iintro ⟨Hos, Hus, HJ, Hst, Hr, Hat, Htok, Hrel⟩
  ihave Hv := (sems0 (F := F) c) $$ [Hos Hus]
  · isplitl [Hos] <;> iassumption
  icases Hv with ⟨Hv, Hid⟩
  imod (invs_alloc m c) $$ [Hv Hst] with Hinv
  · isplitl [Hv] <;> iassumption
  imodintro
  isplitl [Hinv]; · iexact Hinv
  isplitl [Hr]; · iexact Hr
  isplitl [HJ]; · iexact HJ
  isplitl [Hat]; · iexact Hat
  isplitl [Htok]; · iexact Htok
  isplitl [Hrel]; · iexact Hrel
  iexact Hid

omit [FloatOps F] in
/-- A fact that may be copied goes to every member of a family. -/
theorem bigSep_given {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- The invariants every device knows. -/
def known (K : Dev nD × Fin 66 → ℕ) : sProp 𝕄 :=
  iprop((bigSep Finset.univ fun ck : Dev nD × Fin 66 => cellInv ER (Rd m) (K ck) (kcell ck))
    ∗ bigSep Finset.univ fun ck : Dev nD × Fin 66 => reached (ER (F := F)) (kcell ck) 0)

instance known_persistent (K : Dev nD × Fin 66 → ℕ) : BI.Persistent (known m K) := by unfold known; infer_instance

/-- With the invariants known, what a device starts with. -/
theorem known_start (K : Dev nD × Fin 66 → ℕ) (c : Dev nD) :
    iprop(known m K ∗ (iprop(∃ J : Dev nD × ℕ → ℕ, bigSep keys fun x => slotInv (ES (F := F)) (J x) x (recSlot x))
      ∗ (bigSep Finset.univ fun k : Fin 66 => atPos (ER (F := F)) (kcell (c, k)) 0 ∅ 0) ∗ payToks c ∗ rel c ∗ idle c)) ⊢ G' m c := by
  unfold known G'
  iintro ⟨⟨HI, HR⟩, ⟨%J, HJ⟩, H⟩
  iexists K; iexists J
  isplitl [HI HR HJ]
  · isplitl [HI]; · iexact HI
    isplitl [HR]; · iexact HR
    iexact HJ
  iexact H

/-- The invariants handed to every device. -/
theorem regroup : bigSep Finset.univ (laid m) ⊢ bigSep Finset.univ (G' m) := by
  have hK : (bigSep Finset.univ fun c : Dev nD => bigSep Finset.univ fun k : Fin 66 => (iprop(∃ κ : ℕ, cellInv ER (Rd m) κ (kcell (c, k))) : sProp 𝕄))
      ⊢ iprop(∃ K : Dev nD × Fin 66 → ℕ, bigSep Finset.univ fun ck : Dev nD × Fin 66 => cellInv ER (Rd m) (K ck) (kcell ck)) := by
    rw [← bigSep_univ_prod (fun ck : Dev nD × Fin 66 => (iprop(∃ κ : ℕ, cellInv ER (Rd m) κ (kcell ck)) : sProp 𝕄))]
    exact BI.bigSep_exists_pi Finset.univ (fun (ck : Dev nD × Fin 66) (κ : ℕ) => (cellInv ER (Rd m) κ (kcell ck) : sProp 𝕄))
  have hR := Entails.of_eq (bigSep_univ_prod (fun ck : Dev nD × Fin 66 => (reached (ER (F := F)) (kcell ck) 0 : sProp 𝕄))).symm
  unfold laid
  rw [bigSep_sep', bigSep_sep']
  iintro ⟨HI, HR, H⟩
  ihave HK := hK $$ HI
  icases HK with ⟨%K, HI⟩
  ihave HR' := hR $$ HR
  iapply (bigSep_given (R := known m K) (known_start m K))
  isplitl [HI HR']
  · unfold known
    isplitl [HI]; · iexact HI
    iexact HR'
  iexact H

/-- The set-up of all the devices. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.MeshSum
end
-- ==== Proof.Ready.lean ====
/-
  What a device holds at launch, arranged as the kernel needs it, and what the kernel leaves, arranged as the launch
  takes it back.
-/
module

public import proofs.«01_k».proof.Proof.Deal

@[expose] public section

noncomputable section

namespace Cert.MeshSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- All indices are at least zero. -/
theorem filter_zero (n : ℕ) : Finset.univ.filter (fun p : Fin n => 0 ≤ p.val) = Finset.univ := by
  ext p; simp

/-- The units a device waits for. -/
def creds (c : Dev nD) : sProp 𝕄 :=
  iprop((bigSep Finset.univ fun p => cred (tallyAt (dcell c (xrS p)) 0 NT)) ∗ (bigSep (Finset.range 10) fun j => cred (tallyAt (rcell c crS) j 1))
    ∗ (bigSep Finset.univ fun p => cred (tallyAt (dcell c (yrS p)) 0 NT)) ∗ cred (tallyAt (rcell c barS) 0 2))

omit [FloatOps F] in
/-- The credit at launch: every unit some device owes a semaphore, at the semaphore's device. -/
theorem creds_intro (c : Dev nD) : (Pipeline.launchCred O₀ c : sProp 𝕄) ⊢ creds c := by
  have hx : (Pipeline.launchCred (fun d => xrO d 0) c : sProp 𝕄) ⊢ bigSep Finset.univ fun p => cred (tallyAt (dcell c (xrS p)) 0 NT) := by
    unfold xrO
    rw [filter_zero, Pipeline.launchCred_sum]
    exact bigSep_mono fun p _ => Pipeline.launchCred_tallyAt (.dma (xrS p)) xn xn xn_xn xn_xn 0 NT c
  have hy : (Pipeline.launchCred (fun d => yrO d 0) c : sProp 𝕄) ⊢ bigSep Finset.univ fun p => cred (tallyAt (dcell c (yrS p)) 0 NT) := by
    unfold yrO
    rw [filter_zero, Pipeline.launchCred_sum]
    exact bigSep_mono fun p _ => Pipeline.launchCred_tallyAt (.dma (yrS p)) yn yn yn_yn yn_yn 0 NT c
  have hc : (Pipeline.launchCred (fun d => crO d 0) c : sProp 𝕄) ⊢ bigSep (Finset.range 10) fun j => cred (tallyAt (rcell c crS) j 1) := by
    unfold crO
    rw [filter_zero, Pipeline.launchCred_sum, ← bigSep_ten]
    exact bigSep_mono fun j _ => Pipeline.launchCred_tallyAt (.reg crS) xn xn xn_xn xn_xn j.val 1 c
  have hb1 : (Pipeline.launchCred (fun d => tallyAt (rcell (yn d) barS) 0 1) c : sProp 𝕄) ⊢ cred (tallyAt (rcell c barS) 0 1) :=
    Pipeline.launchCred_tallyAt (.reg barS) yn yn yn_yn yn_yn 0 1 c
  have hb2 : (Pipeline.launchCred (fun d => tallyAt (rcell (xn d) barS) 0 1) c : sProp 𝕄) ⊢ cred (tallyAt (rcell c barS) 0 1) :=
    Pipeline.launchCred_tallyAt (.reg barS) xn xn xn_xn xn_xn 0 1 c
  have h2 : iprop(cred (tallyAt (rcell c barS) 0 1) ∗ cred (tallyAt (rcell c barS) 0 1)) ⊢ (cred (tallyAt (rcell c barS) 0 2) : sProp 𝕄) := by
    rw [show (tallyAt (rcell c barS) 0 2 : CellTallies nD τ sig ℕ) = tallyAt (rcell c barS) 0 1 + tallyAt (rcell c barS) 0 1 from (tallyAt_add _ _ 1 1).symm]
    exact (cred_add _ _).2
  have hO : (Pipeline.launchCred O₀ c : sProp 𝕄) = iprop((((Pipeline.launchCred (fun d => xrO d 0) c ∗ Pipeline.launchCred (fun d => crO d 0) c) ∗ Pipeline.launchCred (fun d => yrO d 0) c)
      ∗ Pipeline.launchCred (fun d => tallyAt (rcell (yn d) barS) 0 1) c) ∗ Pipeline.launchCred (fun d => tallyAt (rcell (xn d) barS) 0 1) c) := by
    rw [← Pipeline.launchCred_add, ← Pipeline.launchCred_add, ← Pipeline.launchCred_add, ← Pipeline.launchCred_add]; rfl
  rw [hO]
  unfold creds
  iintro ⟨⟨⟨⟨H1, H2⟩, H3⟩, H4⟩, H5⟩
  isplitl [H1]; · iapply hx; iexact H1
  isplitl [H2]; · iapply hc; iexact H2
  isplitl [H3]; · iapply hy; iexact H3
  iapply h2
  isplitl [H4]; · iapply hb1; iexact H4
  iapply hb2; iexact H5

omit [FloatOps F] in
/-- The chunks' needs, kind by kind. -/
theorem prep_all (c : Dev nD) :
    iprop((bigSep Finset.univ fun p => dutyTok (ER (F := F)) (dcell c (xsS p)) 0 0) ∗ (bigSep Finset.univ fun p => dutyTok (ER (F := F)) (dcell (xn c) (xrS p)) 0 0)
      ∗ (bigSep Finset.univ fun p => atPos (ER (F := F)) (dcell c (xsS p)) 0 ∅ 0)
      ∗ (bigSep Finset.univ fun p => dutyTok (ER (F := F)) (dcell c (ysS p)) 0 0) ∗ (bigSep Finset.univ fun p => dutyTok (ER (F := F)) (dcell (yn c) (yrS p)) 0 0)
      ∗ (bigSep Finset.univ fun p => cred (tallyAt (dcell c (xrS p)) 0 NT)) ∗ (bigSep Finset.univ fun p => atPos (ER (F := F)) (dcell c (xrS p)) 0 ∅ 0)
      ∗ (bigSep Finset.univ fun p => atPos (ER (F := F)) (dcell c (ysS p)) 0 ∅ 0) ∗ (bigSep Finset.univ fun p => anyOwn (F := F) c (outV (col c) p))
      ∗ ((bigSep (Finset.range 10) fun j => dutyTok (ER (F := F)) (rcell (xn c) crS) 0 j) ∗ bigSep (Finset.range 10) fun j => readerAt (ES (F := F)) (c, j) 0)
      ∗ ((bigSep (Finset.range 10) fun j => writeTok (ES (F := F)) (xn c, j) 1) ∗ bigSep (Finset.range 10) fun j => cred (tallyAt (rcell c crS) j 1))
      ∗ ((bigSep Finset.univ fun s => anyOwn (F := F) c (accV s)) ∗ bigSep Finset.univ fun s => semVal (dcell c (ocS s)) 0))
      ⊢ (bigSep Finset.univ fun p => prep (F := F) c p : sProp 𝕄) := by
  have e1 : iprop((bigSep (Finset.range 10) fun j => dutyTok (ER (F := F)) (rcell (xn c) crS) 0 j) ∗ bigSep (Finset.range 10) fun j => readerAt (ES (F := F)) (c, j) 0)
      = (bigSep Finset.univ fun p : Fin 16 => if p.val < 10 then iprop(dutyTok (ER (F := F)) (rcell (xn c) crS) 0 p.val ∗ readerAt (ES (F := F)) (c, p.val) 0) else iprop(emp) : sProp 𝕄) := by
    rw [← bigSep_sep']; exact bigSep_first_ten _
  have e2 : iprop((bigSep (Finset.range 10) fun j => writeTok (ES (F := F)) (xn c, j) 1) ∗ bigSep (Finset.range 10) fun j => cred (tallyAt (rcell c crS) j 1))
      = (bigSep Finset.univ fun p : Fin 16 => if p.val < 6 then iprop(emp) else iprop(writeTok (ES (F := F)) (xn c, p.val - 6) 1 ∗ cred (tallyAt (rcell c crS) (p.val - 6) 1)) : sProp 𝕄) := by
    rw [← bigSep_sep']; exact bigSep_last_ten fun j => iprop(writeTok (ES (F := F)) (xn c, j) 1 ∗ cred (tallyAt (rcell c crS) j 1))
  have e3 : iprop((bigSep Finset.univ fun s => anyOwn (F := F) c (accV s)) ∗ bigSep Finset.univ fun s => semVal (dcell c (ocS s)) 0)
      = (bigSep Finset.univ fun p : Fin 16 => if p.val < 6 then slotRes (F := F) c (slotOf p.val) else iprop(emp) : sProp 𝕄) := by
    rw [← bigSep_sep']; exact bigSep_first_six fun s => slotRes (F := F) c s
  rw [e1, e2, e3]
  iterate 11 rw [← bigSep_sep']
  exact Entails.of_eq rfl

/-- What a device holds when its kernel is called, apart from the scratch buffers. -/
def start (c : Dev nD) : sProp 𝕄 :=
  iprop(∃ (K : Dev nD × Fin 66 → ℕ) (J : Dev nD × ℕ → ℕ), recs m K J
    ∗ (bigSep Finset.univ fun k : Fin 66 => atPos (ER (F := F)) (kcell (c, k)) 0 ∅ 0) ∗ payToks c ∗ rel c ∗ idle c ∗ creds c ∗ args m c
    ∗ (bigSep Finset.univ fun p => anyOwn (F := F) c (outV (col c) p)) ∗ bigSep Finset.univ fun p => anyOwn (F := F) c (outV (col (yn c)) p))

/-- The four scratch buffers. -/
def scratch (c : Dev nD) : sProp 𝕄 := iprop(whole (F := F) c cc0_scratch0 ∗ whole (F := F) c cc0_scratch1 ∗ whole (F := F) c cc0_scratch2 ∗ whole (F := F) c cc0_scratch3)

/-- The kernel's start, from what the device holds. -/
theorem start_ready (c : Dev nD) :
    iprop(start m c ∗ scratch c) ⊢ iprop(∃ K J, recs m K J ∗ startSt m c
      ∗ bigSep Finset.univ fun p : Fin 16 => iprop(cred (tallyAt (dcell c (yrS p)) 0 NT) ∗ atPos (ER (F := F)) (dcell c (yrS p)) 0 ∅ 0)) := by
  have hpos : (bigSep Finset.univ fun k : Fin 66 => (atPos (ER (F := F)) (kcell (c, k)) 0 ∅ 0 : sProp 𝕄)) = _ := bigSep_cells fun s => (atPos (ER (F := F)) ((c : Thread nD τ), s) 0 ∅ 0 : sProp 𝕄)
  have hts : iprop((bigSep Finset.univ fun s => anyOwn (F := F) c (dyV s)) ∗ (bigSep Finset.univ fun s => anyOwn (F := F) c (wV s))
      ∗ (bigSep Finset.univ fun s => semVal (dcell c (dyK s)) 0) ∗ (bigSep Finset.univ fun s => semVal (dcell c (wK s)) 0)) ⊢ (iprop(tslot (F := F) c 0 ∗ tslot (F := F) c 1) : sProp 𝕄) := by
    iterate 3 rw [← bigSep_sep']
    exact Entails.of_eq (bigSep_fin_two _)
  have hyr : iprop((bigSep Finset.univ fun p => cred (tallyAt (dcell c (yrS p)) 0 NT)) ∗ bigSep Finset.univ fun p => atPos (ER (F := F)) (dcell c (yrS p)) 0 ∅ 0)
      ⊢ (bigSep Finset.univ fun p : Fin 16 => iprop(cred (tallyAt (dcell c (yrS p)) 0 NT) ∗ atPos (ER (F := F)) (dcell c (yrS p)) 0 ∅ 0) : sProp 𝕄) := by
    rw [← bigSep_sep']
  unfold start scratch payToks rel idle creds startSt
  rw [hpos]
  iintro ⟨⟨%K, %J, #HR, ⟨A1, A2, A3, A4, A5, A6⟩, ⟨T1, T2, T3, T4, T5, T6, T7⟩, ⟨R1, R2⟩, ⟨I1, I2, I3⟩, ⟨C1, C2, C3, C4⟩, Harg, O1, O2⟩, ⟨S0, S1, S2, S3⟩⟩
  iexists K; iexists J
  isplitr; · iexact HR
  ihave S0' := (acc_apart (F := F) c) $$ S0
  ihave S1' := (dy_apart (F := F) c) $$ S1
  ihave S2' := (w_apart (F := F) c) $$ S2
  ihave S3' := (rec_apart (F := F) c) $$ S3
  ihave Ht := hts $$ [S1' S2' I1 I2]
  · isplitl [S1']; · iexact S1'
    isplitl [S2']; · iexact S2'
    isplitl [I1]; · iexact I1
    iexact I2
  icases Ht with ⟨Ht0, Ht1⟩
  isplitr [C3 A4]
  · isplitl [T5]; · iexact T5
    isplitl [T6]; · iexact T6
    isplitl [C4]; · iexact C4
    isplitl [A5]; · iexact A5
    isplitl [S3']; · iexact S3'
    isplitl [O2]; · iexact O2
    isplitr [A6 Harg Ht0 Ht1]
    · iapply (prep_all (F := F) c)
      isplitl [T1]; · iexact T1
      isplitl [T2]; · iexact T2
      isplitl [A1]; · iexact A1
      isplitl [T3]; · iexact T3
      isplitl [T4]; · iexact T4
      isplitl [C1]; · iexact C1
      isplitl [A2]; · iexact A2
      isplitl [A3]; · iexact A3
      isplitl [O1]; · iexact O1
      isplitl [T7 R1]
      · isplitl [T7]; · iexact T7
        iexact R1
      isplitl [R2 C2]
      · isplitl [R2]; · iexact R2
        iexact C2
      isplitl [S0']; · iexact S0'
      iexact I3
    isplitl [A6]; · iexact A6
    isplitl [Harg]; · iexact Harg
    isplitl [Ht0]; · iexact Ht0
    iexact Ht1
  · iapply hyr
    isplitl [C3]; · iexact C3
    iexact A4

/-- The result on device `c`: its own half's tiles, and its neighbour's. -/
def outAt (c : Dev nD) : S4096x4096.Idx → Elt F .f32 := assemble fun y p => if y = col c then finT m c p else finT m (yn c) p

/-- What the run ends with on device `c`, apart from what the launch takes back. -/
def final (c : Dev nD) : sProp 𝕄 :=
  iprop(unscopedSems0 c ∗ args m c ∗ (c : Thread nD τ).loc main_v1 ↦{fullShare} outAt m c)

/-- What the kernel leaves on device `c`. -/
def done (c : Dev nD) : sProp 𝕄 :=
  iprop(final m c ∗ Pipeline.ownSems0 (Ix := ℕ) (Name := ℕ) (U := UU) (Lvl := ℕ) (Val := Elt F) (τ := τ) osem c ∗ scratch c)

/-- The neighbour along `y` has another column. -/
theorem col_yn_ne (c : Dev nD) : ¬ col (yn c) = col c := by revert c; decide

/-- What the kernel leaves, arranged. -/
theorem end_done (c : Dev nD) : endSt m c ⊢ done m c := by
  have hts : (iprop(tslot (F := F) c 0 ∗ tslot (F := F) c 1) : sProp 𝕄) ⊢ iprop((bigSep Finset.univ fun s => anyOwn (F := F) c (dyV s)) ∗ (bigSep Finset.univ fun s => anyOwn (F := F) c (wV s))
      ∗ (bigSep Finset.univ fun s => semVal (dcell c (dyK s)) 0) ∗ (bigSep Finset.univ fun s => semVal (dcell c (wK s)) 0)) := by
    iterate 3 rw [← bigSep_sep']
    exact Entails.of_eq (bigSep_fin_two (fun s => tslot (F := F) c s)).symm
  have hfin : (bigSep Finset.univ fun p => finished m c p) ⊢ iprop((bigSep Finset.univ fun p => own c (outV (col c) p) fullShare (finT m c p)) ∗ (bigSep Finset.univ fun p => semVal (dcell c (ysS p)) 0)
      ∗ (bigSep Finset.univ fun p => semVal (dcell c (xsS p)) 0) ∗ (bigSep Finset.univ fun p => semVal (dcell c (xrS p)) 0)
      ∗ bigSep Finset.univ fun s => anyOwn (F := F) c (recV s)) := by
    rw [bigSep_last_six (fun s => anyOwn (F := F) c (recV s))]
    iterate 4 rw [← bigSep_sep']
    exact Entails.of_eq rfl
  have hyr : (bigSep Finset.univ fun p => iprop(yrPay m c p ∗ semVal (dcell c (yrS p)) 0)) ⊢ iprop((bigSep Finset.univ fun p => own c (outV (col (yn c)) p) fullShare (finT m (yn c) p))
      ∗ (bigSep Finset.univ fun p => semVal (dcell c (yrS p)) 0)) := by
    rw [← bigSep_sep']; exact Entails.of_eq rfl
  have hsl : (bigSep Finset.univ fun s => slotRes (F := F) c s) ⊢ (iprop((bigSep Finset.univ fun s => anyOwn (F := F) c (accV s)) ∗ bigSep Finset.univ fun s => semVal (dcell c (ocS s)) 0) : sProp 𝕄) := by
    rw [← bigSep_sep']; exact Entails.of_eq rfl
  have hout : iprop((bigSep Finset.univ fun p => own c (outV (col c) p) fullShare (finT m c p)) ∗ (bigSep Finset.univ fun p => own c (outV (col (yn c)) p) fullShare (finT m (yn c) p)))
      ⊢ ((c : Thread nD τ).loc main_v1 ↦{fullShare} outAt m c : sProp 𝕄) := by
    have h := out_join c (fun y p => if y = col c then finT m c p else finT m (yn c) p)
    simp only [if_pos rfl] at h
    simp only [if_neg (col_yn_ne c), if_true] at h
    exact h
  unfold endSt done final scratch
  rw [ownSems0_eq, unscopedSems0_eq]
  iintro ⟨HB, HC, Harg, Ht0, Ht1, Hf, Hy, Hs⟩
  ihave Hf' := hfin $$ Hf
  icases Hf' with ⟨F1, F2, F3, F4, F5⟩
  ihave Hy' := hyr $$ Hy
  icases Hy' with ⟨Y1, Y2⟩
  ihave Hs' := hsl $$ Hs
  icases Hs' with ⟨S1, S2⟩
  ihave Ht := hts $$ [Ht0 Ht1]
  · isplitl [Ht0]; · iexact Ht0
    iexact Ht1
  icases Ht with ⟨D1, D2, D3, D4⟩
  isplitl [HB Harg F1 Y1]
  · isplitl [HB]; · iexact HB
    isplitl [Harg]; · iexact Harg
    iapply hout
    isplitl [F1]; · iexact F1
    iexact Y1
  isplitl [HC D3 D4 F2 F3 F4 Y2 S2]
  · isplitl [D3]; · iexact D3
    isplitl [D4]; · iexact D4
    isplitl [F3]; · iexact F3
    isplitl [F4]; · iexact F4
    isplitl [F2]; · iexact F2
    isplitl [Y2]; · iexact Y2
    isplitl [S2]; · iexact S2
    iexact HC
  isplitl [S1]; · iapply (acc_join (F := F) c); iexact S1
  isplitl [D1]; · iapply (dy_join (F := F) c); iexact D1
  isplitl [D2]; · iapply (w_join (F := F) c); iexact D2
  iapply (rec_join (F := F) c); iexact F5

end Cert.MeshSum
end
-- ==== Proof.Run.lean ====
/-
  The run of the whole program on the four devices: it ends, on every device, with the arguments as they were, the result
  assembled from the finished tiles, and every semaphore idle.
-/
module

public import proofs.«01_k».proof.Proof.Ready
public import Idealize.ShloMosaic.Lib.Pipeline.CollectiveSegs
public import Idealize.ShloMosaic.Lib.Quiescent

@[expose] public section

noncomputable section

namespace Cert.MeshSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The kernel's one call: what it starts with and what it leaves. -/
def dats (_ : Fin 1) (c : Dev nD) : Dat τ (Elt F) ℕ ℕ UU ℕ cfg0 c where
  A w := w.elim0
  after w _ := w.elim0
  Φ t := match t with
    | ⟨0, _⟩ => iprop(start m c ∗ scratch c)
    | ⟨_ + 1, _⟩ => done m c
  q _ := fullShare
  owed t := match t with
    | ⟨0, _⟩ => O₀ c
    | ⟨_ + 1, _⟩ => 0

/-- The kernel's body, from what the launch hands it to what the launch takes back. -/
theorem body_run (c : Dev nD) :
    iprop((start m c ∗ scratch c) ∗ owing c (O₀ c)) ⊢ (WP c (cc0_body dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11) fun _ => iprop(done m c ∗ owing c 0) : sProp 𝕄) := by
  iintro ⟨Hs, HO⟩
  ihave H := (start_ready m c) $$ Hs
  icases H with ⟨%K, %J, #HR, Hst, Hy⟩
  iapply (body_spec m K J c)
  isplitl
  · isplitr; · iexact HR
    isplitl [HO]; · iexact HO
    isplitl [Hst]; · iexact Hst
    iexact Hy
  iintro ⟨He, HO⟩
  isplitl [He]; · iapply (end_done m c); iexact He
  iexact HO

/-- The library's obligation for the kernel's body. -/
theorem body_obligation (c : Dev nD) : BodyObligation (dats (F := F) m 0 c) (defs₀ (F := F)) 𝒱₀ (0 : ℕ) Set.univ := fun t => by
  rw [fin_N0 t]
  have hE (Φ : Fin cfg0.W → sProp 𝕄) : bigSep Finset.univ Φ = iprop(emp) := by
    rw [show (Finset.univ : Finset (Fin cfg0.W)) = ∅ from rfl, bigSep_empty]; rfl
  rw [hE, hE]
  show iprop((start m c ∗ scratch c) ∗ (dats m 0 c).owesAt (0 : ℕ) t0_0.castSucc ∗ emp)
    ⊢ (WP c (cc0_body dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11) fun _ => iprop(done m c ∗ (dats m 0 c).owesAt (0 : ℕ) t0_0.succ ∗ emp) : sProp 𝕄)
  have hw : (WP c (cc0_body dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11) fun _ => iprop(done m c ∗ owing c 0) : sProp 𝕄)
      ⊢ WP c (cc0_body dyA (Memref.isWhole_whole _) wA (Memref.isWhole_whole _) outA (Memref.isWhole_whole _) accB (Memref.isWhole_whole _) dyB (Memref.isWhole_whole _) wB (Memref.isWhole_whole _) recB (Memref.isWhole_whole _) cc0_scratch4 cc0_scratch5 cc0_scratch6 cc0_scratch7 cc0_scratch8 cc0_scratch9 cc0_scratch10 cc0_scratch11) fun _ => iprop(done m c ∗ (dats m 0 c).owesAt (0 : ℕ) t0_0.succ ∗ emp) := by
    refine wp_mono _ _ _ fun _ => ?_
    unfold Dat.owesAt Pipeline.owesWithin owing
    rw [show (dats m 0 c).owed t0_0.succ = 0 from rfl]
    iintro ⟨H, ⟨%W, HO⟩⟩
    isplitl [H]; · iexact H
    isplitl [HO]
    · iexists W
      isplitr; · ipureintro; exact fun _ _ => Or.inl trivial
      iexact HO
    iempintro
  refine BIBase.Entails.trans ?_ hw
  refine BIBase.Entails.trans ?_ (body_run m c)
  unfold Dat.owesAt Pipeline.owesWithin owing
  rw [show (dats m 0 c).owed t0_0.castSucc = O₀ c from rfl]
  iintro ⟨H, ⟨%W, -, HO⟩, -⟩
  isplitl [H]; · iexact H
  iexists W; iexact HO

/-- The kernel's own semaphores are no window's. -/
theorem ownSemFacts : Pipeline.OwnSemFacts cfg0.spec osem := by decide

/-- The run hands a device what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' recs args reads
  iintro ⟨⟨HA, HB, HV⟩, Hlev, Hcr, -, ⟨%K, %J, ⟨HI, HR, HS⟩, Hat, Htok, Hrel, Hid⟩⟩
  ihave Hc := (creds_intro (F := F) c) $$ Hcr
  ihave Ho := (out_apart c _) $$ HV
  icases Ho with ⟨HO1, HO2⟩
  imodintro
  isplitl
  · iexists K; iexists J
    isplitl [HI HR HS Hlev]
    · isplitl [HI]; · iexact HI
      isplitl [HR]; · iexact HR
      isplitl [HS]; · iexact HS
      iexact Hlev
    isplitl [Hat]; · iexact Hat
    isplitl [Htok]; · iexact Htok
    isplitl [Hrel]; · iexact Hrel
    isplitl [Hid]; · iexact Hid
    isplitl [Hc]; · iexact Hc
    isplitl [HA HB]
    · isplitl [HA]
      · iexists fullShare; iexact HA
      · iexists fullShare; iexact HB
    isplitl [HO1]; · iexact HO1
    iexact HO2
  · iempintro

/-- Into the kernel. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch whole
  iintro ⟨Hs, -, Hr⟩
  isplitl [Hs]; · iexact Hs
  iexact Hr

/-- Out of the kernel. -/
theorem phi1_exit (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = done m c from rfl, scopedRest0_eq]
  unfold done scratch whole
  exact .rfl

/-- There is no window to wait for. -/
theorem waits (c : Dev nD) : (levAts L lv : sProp 𝕄) ⊢ Pipeline.cellsWaits cfgs (dats m) (0 : ℕ) 0 c :=
  Pipeline.cellsWaits_intro cfgs (dats m) (0 : ℕ) 0 c fun w s t => w.elim0

/-- What is read off the final memory of a device. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = argA m c ∧ s.mem ((c : Thread nD τ).loc main_arg1) = argB m c
    ∧ s.mem ((c : Thread nD τ).loc main_v1) = outAt m c

/-- What a device ends with, read off its final memory. -/
theorem final_read (c : Dev nD) (s' : Phys nD τ sig (Elt F)) :
    iprop(final m c ∗ emp ∗ SI s') ⊢ (|={Set.univ}=> iprop(⌜QY m c s'.mem⌝ ∗ SI s') : sProp 𝕄) := by
  have hsem : iprop(unscopedSems0 c ∗ SI s') ⊢ (|={Set.univ}=> iprop(⌜∀ sm : SemLoc sig, sm.isScoped .tc = false → s'.mem.sem ((c.tc : Thread nD τ), sm) = 0⌝ ∗ SI s') : sProp 𝕄) := by
    iintro ⟨Hu, HSI⟩
    iapply (Pipeline.unscopedSems0_read (X := unscopedSems0 c) (c := c) fupd_intro s')
    isplitl [Hu] <;> iassumption
  unfold final args reads
  iintro ⟨⟨Hu, ⟨⟨%q, HA⟩, ⟨%q', HB⟩⟩, HV⟩, -, HSI⟩
  icombine HSI HA gives %hA
  icombine HSI HB gives %hB
  icombine HSI HV gives %hV
  imod hsem $$ [Hu HSI] with ⟨%hs, HSI⟩
  · isplitl [Hu] <;> iassumption
  imodintro
  isplitr
  · ipureintro
    exact ⟨hs, Buf.eq_of_forall_mem_univ hA, Buf.eq_of_forall_mem_univ hB, Buf.eq_of_forall_mem_univ hV⟩
  iexact HSI

/-- What every final memory satisfies. -/
def Final (r : PUnit × MemSt nD τ sig (Elt F)) : Prop :=
  (∀ c : Dev nD, r.2.mem ((c : Thread nD τ).loc main_arg0) = argA m c ∧ r.2.mem ((c : Thread nD τ).loc main_arg1) = argB m c
    ∧ r.2.mem ((c : Thread nD τ).loc main_v1) = outAt m c) ∧ r.2.sem = fun _ => 0

set_option maxRecDepth 8000 in
/-- Every run of the program, from any memory, ends in such a memory. -/
theorem run_main : θ_run defs (onTc (τ := τ) (main (F := F))) ⟨m, fun _ => 0, ρ⟩ (Final m) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := dealt m)
    (hglob := glob m)
    (hA := fun _ w => w.elim0) (hpf := fun _ k => k.elim0)
    (X := start m) (Y := final m) (Z := fun _ => iprop(emp))
    (hX := start_intro m ρ) (hin := phi0_intro m) (hout := phi1_exit m)
    (QY := QY m)
    (hY := final_read m)
    (hQ := fun _ h hs => ⟨fun c => (h c).2.2.2, sem_eq_zero hs fun c => (h c).2.2.1⟩)

end Cert.MeshSum
end
-- ==== Proof.Elements.lean ====
/-
  The elements of the tiles, over the extended reals: a tile of the running sum is, at each place, the sum of the
  products of the tiles' rows, and a finished tile is the sum of two devices' tiles.
-/
module

public import proofs.«01_k».proof.Proof.Contents
public import Idealize.ShloMosaic.Lib.MatmulPlain
public import Idealize.ShloMosaic.Lib.ValueIdx
public import Idealize.ShloMosaic.Lib.Pipeline.Value

@[expose] public section

noncomputable section

namespace Cert.MeshSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Release
open Idealize.ShloMosaic.Pipeline (Dat Cfg Window BodyObligation cellOf)

variable {F : FTy → Type} [FloatOps F]

local notation "𝕄" => MT nD τ sig ℕ (Elt F) ℕ UU ℕ

open Idealize.ShloMosaic.ValueIdx

/-- The kernel's product of tiles contracts the two second axes. -/
theorem dot_transposed : dot_S1024x1024_S512x1024_S1024x512_1_1_0_0_n_n = DotDims.transposedRhs 1024 1024 512 := rfl

/-- A product of two tiles at a place: the sum of the rows' products. -/
theorem tile1_apply (X : S1024x1024.Idx → Elt Ideal .f32) (Y : S512x1024.Idx → Elt Ideal .f32) (r : Fin 1024) (q : Fin 512) :
    tile1 (F := Ideal) X Y (ix2 r q) = ∑ l : Fin 1024, X (ix2 r l) * Y (ix2 q l) := by
  unfold tile1 k0_pay1
  simp only [shapeCast_shapeCast, matmul, dot_transposed]
  rw [Ideal.matmul_transposedRhs_apply, constant_apply, Ideal.ofBits_zero_f32, zero_add]

/-- A product of two tiles added to a running sum, at a place. -/
theorem tile2_apply (Z : S1024x512.Idx → Elt Ideal .f32) (X : S1024x1024.Idx → Elt Ideal .f32) (Y : S512x1024.Idx → Elt Ideal .f32)
    (r : Fin 1024) (q : Fin 512) :
    tile2 (F := Ideal) Z X Y (ix2 r q) = Z (ix2 r q) + ∑ l : Fin 1024, X (ix2 r l) * Y (ix2 q l) := by
  unfold tile2 k0_pay2
  simp only [shapeCast_shapeCast, matmul, dot_transposed]
  rw [addf_apply, Ideal.matmul_transposedRhs_apply, constant_apply, Ideal.ofBits_zero_f32, zero_add]

/-- Two devices' sums added, at a place. -/
theorem tileSum_apply (X Y : S1024x512.Idx → Elt Ideal .f32) (i : S1024x512.Idx) :
    tileSum (F := Ideal) X Y i = X i + Y i := by
  unfold tileSum k0_pay4 k0_pay3
  simp only [shapeCast_shapeCast]
  rfl

variable (m : (ℓ : Loc nD τ sig) → Buf (Elt Ideal) ℓ)

/-- The running sum at a place: the sum over the tiles so far of the rows' products. -/
theorem partV_apply (c : Dev nD) (p : Fin 16) (r : Fin 1024) (q : Fin 512) (j : ℕ) :
    partV m c p j (ix2 r q)
      = ∑ k ∈ Finset.range (j + 1), ∑ l : Fin 1024, dyT m c p k (ix2 r l) * wT m c p k (ix2 q l) := by
  induction j with
  | zero => rw [Finset.sum_range_one]; exact tile1_apply _ _ r q
  | succ j ih => rw [Finset.sum_range_succ, ← ih]; exact tile2_apply _ _ _ r q

/-- An element of a device's first argument. -/
def entA (c : Dev nD) (a : Fin 4096) (b : Fin 8192) : EReal := argA m c (ix2 a b)
/-- An element of a device's second argument. -/
def entB (c : Dev nD) (a : Fin 4096) (b : Fin 8192) : EReal := argB m c (ix2 a b)
/-- The product of a row of a device's first argument and a row of its second. -/
def rowDot (c : Dev nD) (a j : Fin 4096) : EReal := ∑ b : Fin 8192, entA m c a b * entB m c j b

/-- An element of a tile of the first argument. -/
theorem dyT_apply (c : Dev nD) (p : Fin 16) (k : Fin 8) (r l : Fin 1024) (a : Fin 4096) (b : Fin 8192)
    (ha : a.val = 2048 * (c.val % 2) + 1024 * (p.val / 8) + r.val) (hb : b.val = 1024 * k.val + l.val) :
    dyT m c p k.val (ix2 r l) = entA m c a b := by
  have hk : kix k.val = k := Fin.ext (Nat.mod_eq_of_lt k.isLt)
  unfold dyT
  rw [hk]
  refine (View.read_apply (Val := Elt Ideal) (v := (dyS (col c) p k).view) (argA m c) (ix2 r l)).trans ?_
  refine congrArg (argA m c) ?_
  funext x; apply Fin.ext
  match x with
  | ⟨0, _⟩ => show 2048 * (c.val % 2) + 1024 * (p.val / 8) + 1 * r.val = a.val; omega
  | ⟨1, _⟩ => show 1024 * k.val + 1 * l.val = b.val; omega

/-- An element of a tile of the second argument. -/
theorem wT_apply (c : Dev nD) (p : Fin 16) (k : Fin 8) (q : Fin 512) (l : Fin 1024) (a : Fin 4096) (b : Fin 8192)
    (ha : a.val = 512 * (p.val % 8) + q.val) (hb : b.val = 1024 * k.val + l.val) :
    wT m c p k.val (ix2 q l) = entB m c a b := by
  have hk : kix k.val = k := Fin.ext (Nat.mod_eq_of_lt k.isLt)
  unfold wT
  rw [hk]
  refine (View.read_apply (Val := Elt Ideal) (v := (wS p k).view) (argB m c) (ix2 q l)).trans ?_
  refine congrArg (argB m c) ?_
  funext x; apply Fin.ext
  match x with
  | ⟨0, _⟩ => show 512 * (p.val % 8) + 1 * q.val = a.val; omega
  | ⟨1, _⟩ => show 1024 * k.val + 1 * l.val = b.val; omega

set_option backward.proofsInPublic true in
/-- Place `l` of tile `k`, of eight tiles of 1024. -/
def at8 (k : Fin 8) (l : Fin 1024) : Fin 8192 := ⟨1024 * k.val + l.val, by have := k.isLt; have := l.isLt; omega⟩

/-- A sum over 8192 places, tile by tile. -/
theorem sum_at8 (f : Fin 8192 → EReal) : ∑ k : Fin 8, ∑ l : Fin 1024, f (at8 k l) = ∑ b : Fin 8192, f b := by
  rw [← Fintype.sum_prod_type' (f := fun k l => f (at8 k l))]
  refine Fintype.sum_equiv (finProdFinEquiv (m := 8) (n := 1024)) _ _ fun x => congrArg f (Fin.ext ?_)
  show 1024 * x.1.val + x.2.val = x.2.val + 1024 * x.1.val
  omega

/-- A device's sum at a place: the product of a row of its first argument and a row of its second. -/
theorem part_apply (c : Dev nD) (p : Fin 16) (r : Fin 1024) (q : Fin 512) (a j : Fin 4096)
    (ha : a.val = 2048 * (c.val % 2) + 1024 * (p.val / 8) + r.val) (hj : j.val = 512 * (p.val % 8) + q.val) :
    part m c p (ix2 r q) = rowDot m c a j := by
  unfold rowDot
  rw [← sum_at8 fun b => entA m c a b * entB m c j b, Finset.sum_fin_eq_sum_range]
  refine (partV_apply m c p r q 7).trans (Finset.sum_congr rfl fun k hk => ?_)
  have h8 : k < 8 := Finset.mem_range.mp hk
  rw [dif_pos h8]
  refine Finset.sum_congr rfl fun l _ => ?_
  rw [dyT_apply m c p ⟨k, h8⟩ r l a (at8 ⟨k, h8⟩ l) ha rfl, wT_apply m c p ⟨k, h8⟩ q l j (at8 ⟨k, h8⟩ l) hj rfl]

/-- A finished tile at a place: two devices' products of rows, added. -/
theorem finT_apply (c : Dev nD) (p : Fin 16) (r : Fin 1024) (q : Fin 512) (a j : Fin 4096)
    (ha : a.val = 2048 * (c.val % 2) + 1024 * (p.val / 8) + r.val) (hj : j.val = 512 * (p.val % 8) + q.val) :
    finT m c p (ix2 r q) = rowDot m c a j + rowDot m (xn c) a j := by
  unfold finT
  rw [tileSum_apply, part_apply m c p r q a j ha hj, part_apply m (xn c) p r q a j (by rw [xn_col]; exact ha) hj]

end Cert.MeshSum
end
-- ==== Proof.Value.lean ====
/-
  The value: over the extended reals every device ends with the product of the whole first argument and the whole second
  argument transposed, where each device was given its columns of both.
-/
module

public import proofs.«01_k».proof.Proof.Elements
public import proofs.«01_k».proof.Proof.Ready
public import proofs.«01_k».proof.Proof.Gen.ReferenceIdeal
public import Idealize.ShloMosaic.Lib.StackMember
public import Idealize.ShloMosaic.Lib.Layout

@[expose] public section

noncomputable section

namespace Cert.MeshSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Release
open Idealize.ShloMosaic.Pipeline (Dat Cfg Window BodyObligation cellOf)

variable {F : FTy → Type} [FloatOps F]

local notation "𝕄" => MT nD τ sig ℕ (Elt F) ℕ UU ℕ

open Idealize.ShloMosaic.ValueIdx

/-- The whole arrays' shape. -/
abbrev Whole : Shape := ⟨2, ![4096, 16384]⟩

set_option backward.proofsInPublic true in
/-- Place `b` of half `x`, of two halves of 8192. -/
def at2 (x : Fin 2) (b : Fin 8192) : Fin 16384 := ⟨8192 * x.val + b.val, by have := x.isLt; have := b.isLt; omega⟩

/-- A sum over 16384 places, half by half. -/
theorem sum_at2 (f : Fin 16384 → EReal) : ∑ x : Fin 2, ∑ b : Fin 8192, f (at2 x b) = ∑ b : Fin 16384, f b := by
  rw [← Fintype.sum_prod_type' (f := fun x b => f (at2 x b))]
  refine Fintype.sum_equiv (finProdFinEquiv (m := 2) (n := 8192)) _ _ fun x => congrArg f (Fin.ext ?_)
  show 8192 * x.1.val + x.2.val = x.2.val + 8192 * x.1.val
  omega

/-- The half of the columns a device holds. -/
def row (c : Dev nD) : Fin 2 := ⟨c.val / 2, by have : c.val < 4 := c.isLt; omega⟩

/-- The neighbour along `x` holds the other half. -/
theorem row_xn (c : Dev nD) : row (xn c) = 1 - row c := by revert c; decide
/-- The neighbour along `y` holds the same half. -/
theorem row_yn (c : Dev nD) : row (yn c) = row c := by revert c; decide

/-- The product of half a row of one whole array and half a row of another. -/
def halfDot (D W : Whole.Idx → EReal) (x : Fin 2) (a j : Fin 4096) : EReal :=
  ∑ b : Fin 8192, D (ix2 a (at2 x b)) * W (ix2 j (at2 x b))

/-- The two halves' products, in either order, are the product of the whole rows. -/
theorem halfDot_add (D W : Whole.Idx → EReal) (x : Fin 2) (a j : Fin 4096) :
    halfDot D W x a j + halfDot D W (1 - x) a j = ∑ k : Fin 16384, D (ix2 a k) * W (ix2 j k) := by
  have h := sum_at2 fun k => D (ix2 a k) * W (ix2 j k)
  rw [Fin.sum_univ_two] at h
  fin_cases x
  · exact h
  · exact (add_comm _ _).trans h

/-- The block of a whole array that a device holds: its half of the columns. -/
theorem block_apply (c : Dev nD) (D : Whole.Idx → EReal) (a : Fin 4096) (b : Fin 8192) :
    (Layout.blockN ⟨2, ![4096, 8192]⟩ Whole (Layout.meshBlock [2, 2] ![[], [0]] c) D) (ix2 a b) = D (ix2 a (at2 (row c) b)) := by
  have hc : c.val < 4 := c.isLt
  refine congrArg D (funext fun x => Fin.ext ?_)
  match x with
  | ⟨0, _⟩ => show 0 * 4096 + a.val = a.val; omega
  | ⟨1, _⟩ => show (c.val / 2 % 2 * 1 + 0) * 8192 + b.val = 8192 * (c.val / 2) + b.val; omega

variable (m : (ℓ : Loc nD τ sig) → Buf (Elt Ideal) ℓ)

/-- Each device holds its columns of the two whole arrays. -/
def Holds (D W : Whole.Idx → EReal) : Prop := ∀ c : Dev nD,
  m ((c : Thread nD τ).loc main_arg0) = Layout.blockN ⟨2, ![4096, 8192]⟩ Whole (Layout.meshBlock [2, 2] ![[], [0]] c) D
    ∧ m ((c : Thread nD τ).loc main_arg1) = Layout.blockN ⟨2, ![4096, 8192]⟩ Whole (Layout.meshBlock [2, 2] ![[], [0]] c) W

variable {m}

/-- A device's product of rows is the product of its halves of the whole rows. -/
theorem rowDot_eq {D W : Whole.Idx → EReal} (h : Holds m D W) (c : Dev nD) (a j : Fin 4096) :
    rowDot m c a j = halfDot D W (row c) a j := by
  refine Finset.sum_congr rfl fun b _ => ?_
  have hA : entA m c a b = D (ix2 a (at2 (row c) b)) := (congrFun (h c).1 (ix2 a b)).trans (block_apply c D a b)
  have hB : entB m c j b = W (ix2 j (at2 (row c) b)) := (congrFun (h c).2 (ix2 j b)).trans (block_apply c W j b)
  rw [hA, hB]

/-- The tile of a device that holds an element of the result has there the product of the whole rows. -/
theorem finT_eq {D W : Whole.Idx → EReal} (h : Holds m D W) (d : Dev nD) (a j : Fin 4096) (hd : halfAt (ix2 a j) = col d) :
    finT m d (tileAt (ix2 a j)) (placeAt (ix2 a j)) = ∑ k : Fin 16384, D (ix2 a k) * W (ix2 j k) := by
  have ha := a.isLt
  have hj := j.isLt
  have hv : a.val / 2048 = d.val % 2 := congrArg Fin.val hd
  rw [← halfDot_add D W (row d) a j, ← row_xn, ← rowDot_eq h, ← rowDot_eq h]
  have hp : placeAt (ix2 a j) = ix2 (⟨a.val % 1024, Nat.mod_lt _ (by decide)⟩ : Fin 1024) (⟨j.val % 512, Nat.mod_lt _ (by decide)⟩ : Fin 512) := by
    funext x
    match x with
    | ⟨0, _⟩ => rfl
    | ⟨1, _⟩ => rfl
  rw [hp]
  refine finT_apply m d (tileAt (ix2 a j)) _ _ a j ?_ ?_
  · show a.val = 2048 * (d.val % 2) + 1024 * ((a.val % 2048 / 1024 * 8 + j.val / 512) / 8) + a.val % 1024
    omega
  · show j.val = 512 * ((a.val % 2048 / 1024 * 8 + j.val / 512) % 8) + j.val % 512
    omega

/-- Every element a device ends with is the product of the whole rows. -/
theorem outAt_apply {D W : Whole.Idx → EReal} (h : Holds m D W) (c : Dev nD) (a j : Fin 4096) :
    outAt m c (ix2 a j) = ∑ k : Fin 16384, D (ix2 a k) * W (ix2 j k) := by
  show (if halfAt (ix2 a j) = col c then finT m c (tileAt (ix2 a j)) else finT m (yn c) (tileAt (ix2 a j))) (placeAt (ix2 a j)) = _
  have h2 : ∀ u v w : Fin 2, ¬ u = v → ¬ w = v → u = w := by decide
  split
  · next hy => exact finT_eq h c a j hy
  · next hy => exact finT_eq h (yn c) a j (h2 _ _ _ hy (col_yn_ne c))

/-- What the reference computes. -/
abbrev refOut (D W : FVec Ideal Cert.ReferenceIdeal.S4096x16384 .f32) : FVec Ideal Cert.ReferenceIdeal.S4096x4096 .f32 :=
  Host.dotGeneral Cert.ReferenceIdeal.dot_S4096x16384_S16384x4096_S4096x4096_1_0_0_1_n_n none D
    (transpose Cert.ReferenceIdeal.S16384x4096 [1, 0] W Cert.ReferenceIdeal.Gen.transposes_S4096x16384_S16384x4096_1_0)

/-- The reference's product contracts the second axis with the first. -/
theorem dot_plain : Cert.ReferenceIdeal.dot_S4096x16384_S16384x4096_S4096x4096_1_0_0_1_n_n = DotDims.plain 4096 16384 4096 := rfl

/-- Every element of the reference's result is the product of the whole rows. -/
theorem refOut_apply (D W : Whole.Idx → Elt Ideal .f32) (a j : Fin 4096) :
    refOut D W (ix2 a j) = ∑ k : Fin 16384, (D (ix2 a k) * W (ix2 j k) : EReal) := by
  unfold refOut
  rw [dot_plain, StackMember.dotGeneral_plain_apply]
  refine Finset.sum_congr rfl fun k _ => congrArg (D (ix2 a k) * · : EReal → EReal) ?_
  refine transpose_apply [1, 0] W _ (ix2 k j) (ix2 j k) fun b => ?_
  match b with
  | ⟨0, _⟩ => rfl
  | ⟨1, _⟩ => rfl

/-- Every device ends with what the reference computes. -/
theorem outAt_eq {D W : Whole.Idx → Elt Ideal .f32} (h : Holds m D W) (c : Dev nD) : outAt m c = refOut D W := by
  funext i
  rw [eq_ix2 i]
  exact (outAt_apply h c _ _).trans (refOut_apply D W _ _).symm

end Cert.MeshSum
end
-- ==== Proof.lean ====
/- The five claims of `Cert.Claim`, put together from the modules under Proof/: the frames, the preservation, and the
   value over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The frame of the kernel: its own program is, operation by operation, the one run in Proof/Run.lean, there at any
    instance of the floats. -/
theorem frame_kernel : Cert.quiescent_Kernel := fun m ρ _ =>
  (θ_run Cert.KernelIdeal.defs _ _).mono (fun _ h => ⟨fun c => ⟨(h.1 c).1, (h.1 c).2.1⟩, h.2⟩)
    (Cert.MeshSum.run_main (F := Bits) m ρ)

/-- The frame of the idealized kernel. -/
theorem frame_kernelIdeal : Cert.quiescent_KernelIdeal := fun m ρ _ =>
  (θ_run Cert.KernelIdeal.defs _ _).mono (fun _ h => ⟨fun c => ⟨(h.1 c).1, (h.1 c).2.1⟩, h.2⟩)
    (Cert.MeshSum.run_main (F := Ideal) m ρ)

/-- The frame of the reference: a straight line of host operations, with no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Nothing was rewritten in the idealized kernel. -/
theorem preserves_kernel : Cert.preserves_Kernel_KernelIdeal := trivial

/-- The value: every device ends with the reference's result. -/
theorem algebraic : Cert.algebraic_KernelIdeal_ReferenceIdeal := fun m ρ m' ρ' _ hm =>
  ⟨Cert.MeshSum.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.2.trans (Cert.MeshSum.outAt_eq (m := m) hm c), (h.1 c).1, (h.1 c).2.1⟩)
      (Cert.MeshSum.run_main (F := Ideal) m ρ),
    (θ_run Cert.ReferenceIdeal.defs _ _).mono (fun _ h => h 0) (Cert.ReferenceIdeal.Value.run (F := Ideal) m' ρ')⟩

/-- All the claims. -/
theorem claim : Cert.Claim :=
  ⟨Cert.Kernel.Gen.facts, Cert.KernelIdeal.Gen.facts, Cert.ReferenceIdeal.Gen.facts,
    frame_kernel, frame_kernelIdeal, frame_referenceIdeal, preserves_kernel, algebraic⟩

end Cert.Proof

end
